-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  IdealRules.named_const.Statement Cert.KernelIdeal.κ "qscale" .f32 0x3E38AA3B#32 (((8 * (Real.log 2))⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v65) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_scores : Cert.Pre_finite_scores.Facts) (hPre_routed : Cert.Pre_routed.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_routed := hPre_routed)
-- ==== Pre_finite_scores.lean ====
abbrev S4x8192x8x64 : Shape := ⟨4, ![4, 8192, 8, 64]⟩
abbrev S4x256x2x64 : Shape := ⟨4, ![4, 256, 2, 64]⟩
abbrev S4x8192x2x64 : Shape := ⟨4, ![4, 8192, 2, 64]⟩
abbrev S_ : Shape := ⟨0, ![]⟩

class Facts : Prop where
  reducesTo_S4x8192x8x64_S_d0_1_2_3 : S4x8192x8x64.ReducesTo [0, 1, 2, 3] S_
  h_S_ : 0 < S_.numel
  reducesTo_S4x256x2x64_S_d0_1_2_3 : S4x256x2x64.ReducesTo [0, 1, 2, 3] S_
  reducesTo_S4x8192x2x64_S_d0_1_2_3 : S4x8192x2x64.ReducesTo [0, 1, 2, 3] S_

variable [Facts]

def fn {F : FTy → Type} [FloatOps F] (main_arg0 : FVec F S4x8192x8x64 .f32) (main_arg1 : FVec F S4x256x2x64 .f32) (main_arg2 : FVec F S4x8192x2x64 .f32) (main_arg3 : FVec F S4x256x2x64 .f32) (main_arg4 : FVec F S4x8192x2x64 .f32) : IVec S_ 1 :=
  let main_v0 : FVec F S4x8192x8x64 .f32 := Host.absf main_arg0
  let main_cst : FVec F S_ .f32 := constant S_ .f32 0xFF800000#32
  let main_v1 : FVec F S_ .f32 := (fun x v => Host.reduce FloatOps.maximumf x v reducesTo_S4x8192x8x64_S_d0_1_2_3 h_S_) main_v0 main_cst
  let main_cst_0 : FVec F S_ .f32 := constant S_ .f32 0x7F800000#32
  let main_v2 : IVec S_ 1 := cmpf .olt main_v1 main_cst_0
  let main_v3 : FVec F S4x256x2x64 .f32 := Host.absf main_arg1
  let main_cst_1 : FVec F S_ .f32 := constant S_ .f32 0xFF800000#32
  let main_v4 : FVec F S_ .f32 := (fun x v => Host.reduce FloatOps.maximumf x v reducesTo_S4x256x2x64_S_d0_1_2_3 h_S_) main_v3 main_cst_1
  let main_cst_2 : FVec F S_ .f32 := constant S_ .f32 0x7F800000#32
  let main_v5 : IVec S_ 1 := cmpf .olt main_v4 main_cst_2
  let main_v6 : IVec S_ 1 := andi main_v2 main_v5
  let main_v7 : FVec F S4x8192x2x64 .f32 := Host.absf main_arg2
  let main_cst_3 : FVec F S_ .f32 := constant S_ .f32 0xFF800000#32
  let main_v8 : FVec F S_ .f32 := (fun x v => Host.reduce FloatOps.maximumf x v reducesTo_S4x8192x2x64_S_d0_1_2_3 h_S_) main_v7 main_cst_3
  let main_cst_4 : FVec F S_ .f32 := constant S_ .f32 0x7F800000#32
  let main_v9 : IVec S_ 1 := cmpf .olt main_v8 main_cst_4
  let main_v10 : IVec S_ 1 := andi main_v6 main_v9
  main_v10
-- ==== Pre_routed.lean ====
abbrev S147456x1024 : Shape := ⟨2, ![147456, 1024]⟩
abbrev S288 : Shape := ⟨1, ![288]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S287 : Shape := ⟨1, ![287]⟩

class Facts : Prop where
  bcast_S_S288 : S_.BroadcastsInDim S288 (![] : Fin 0 → Fin S288.rank)
  reducesTo_S288_S_d0 : S288.ReducesTo [0] S_
  h_S_ : 0 < S_.numel
  slices_S288_S287_0 : S288.Slices ![0] S287
  bcast_S_S287 : S_.BroadcastsInDim S287 (![] : Fin 0 → Fin S287.rank)
  slices_S288_S287_1 : S288.Slices ![1] S287
  reducesTo_S287_S_d0 : S287.ReducesTo [0] S_

variable [Facts]

def fn {F : FTy → Type} [FloatOps F] (main_arg0 : FVec F S147456x1024 .f32) (main_arg1 : IVec S288 32) (main_arg2 : IVec S288 32) (main_arg3 : FVec F S32x1024x2048 .f32) (main_arg4 : FVec F S32x2048 .f32) (main_arg5 : FVec F S32x1024x1024 .f32) (main_arg6 : FVec F S32x1024 .f32) : IVec S_ 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 32 := constantI S_ 32 32#32
  let main_v2 : IVec S288 32 := broadcastInDim S288 ![] bcast_S_S288 main_c_0
  let main_v3 : IVec S288 1 := cmpi .slt main_arg1 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_v6 : IVec S287 32 := (extractStridedSlice S287 ![0] · slices_S288_S287_0) main_arg2
  let main_c_2 : IVec S_ 32 := constantI S_ 32 0#32
  let main_v7 : IVec S287 32 := broadcastInDim S287 ![] bcast_S_S287 main_c_2
  let main_v8 : IVec S287 1 := cmpi .sgt main_v6 main_v7
  let main_v9 : IVec S287 32 := (extractStridedSlice S287 ![1] · slices_S288_S287_1) main_arg2
  let main_c_3 : IVec S_ 32 := constantI S_ 32 0#32
  let main_v10 : IVec S287 32 := broadcastInDim S287 ![] bcast_S_S287 main_c_3
  let main_v11 : IVec S287 1 := cmpi .sle main_v9 main_v10
  let main_v12 : IVec S287 1 := ori main_v8 main_v11
  let main_c_4 : IVec S_ 1 := constantI S_ 1 1#1
  let main_v13 : IVec S_ 1 := (fun x v => Host.reduce IntOp.andi x v reducesTo_S287_S_d0 h_S_) main_v12 main_c_4
  let main_v14 : IVec S_ 1 := andi main_v5 main_v13
  main_v14
-- ==== Kernel.lean ====
abbrev S4x8192x8x64 : Shape := ⟨4, ![4, 8192, 8, 64]⟩
abbrev S4x256x2x64 : Shape := ⟨4, ![4, 256, 2, 64]⟩
abbrev S4x8192x2x64 : Shape := ⟨4, ![4, 8192, 2, 64]⟩
abbrev S4x8192x512 : Shape := ⟨3, ![4, 8192, 512]⟩
abbrev S4x512x8192 : Shape := ⟨3, ![4, 512, 8192]⟩
abbrev S4x256x128 : Shape := ⟨3, ![4, 256, 128]⟩
abbrev S4x8192x128 : Shape := ⟨3, ![4, 8192, 128]⟩
abbrev S4x128x256 : Shape := ⟨3, ![4, 128, 256]⟩
abbrev S4x128x8192 : Shape := ⟨3, ![4, 128, 8192]⟩
abbrev S4x8448x128 : Shape := ⟨3, ![4, 8448, 128]⟩
abbrev S4x22x384x128 : Shape := ⟨4, ![4, 22, 384, 128]⟩
abbrev S4x128x8448 : Shape := ⟨3, ![4, 128, 8448]⟩
abbrev S4x2x64x8448 : Shape := ⟨4, ![4, 2, 64, 8448]⟩
abbrev S_ : Shape := ⟨0, ![]⟩
abbrev S4x2x1x8448 : Shape := ⟨4, ![4, 2, 1, 8448]⟩
abbrev S4x2x15x8448 : Shape := ⟨4, ![4, 2, 15, 8448]⟩
abbrev S4x2x80x8448 : Shape := ⟨4, ![4, 2, 80, 8448]⟩
abbrev S4x2x80x22x384 : Shape := ⟨5, ![4, 2, 80, 22, 384]⟩
abbrev S4x2x22x80x384 : Shape := ⟨5, ![4, 2, 22, 80, 384]⟩
abbrev S1x256x1024 : Shape := ⟨3, ![1, 256, 1024]⟩
abbrev S1x22x384x128 : Shape := ⟨4, ![1, 22, 384, 128]⟩
abbrev S1x1x22x80x384 : Shape := ⟨5, ![1, 1, 22, 80, 384]⟩
abbrev S1x1024x256 : Shape := ⟨3, ![1, 1024, 256]⟩
abbrev S384x1024 : Shape := ⟨2, ![384, 1024]⟩
abbrev S128x256 : Shape := ⟨2, ![128, 256]⟩
abbrev S1x64x256 : Shape := ⟨3, ![1, 64, 256]⟩
abbrev S64x256 : Shape := ⟨2, ![64, 256]⟩
abbrev S128x1024 : Shape := ⟨2, ![128, 1024]⟩
abbrev S1x1024 : Shape := ⟨2, ![1, 1024]⟩
abbrev S80x1024 : Shape := ⟨2, ![80, 1024]⟩
abbrev S1x1x384x128 : Shape := ⟨4, ![1, 1, 384, 128]⟩
abbrev S384x128 : Shape := ⟨2, ![384, 128]⟩
abbrev S1024 : Shape := ⟨1, ![1024]⟩
abbrev S1x1x1x80x384 : Shape := ⟨5, ![1, 1, 1, 80, 384]⟩
abbrev S80x384 : Shape := ⟨2, ![80, 384]⟩
abbrev S64x1024 : Shape := ⟨2, ![64, 1024]⟩
abbrev S256x256 : Shape := ⟨2, ![256, 256]⟩
abbrev S1x256x256 : Shape := ⟨3, ![1, 256, 256]⟩

abbrev nBuf : Space → Nat
  | .hbm => 29
  | .vmem => 10
  | .smem => 0
  | _ => 0

abbrev bufTy : (tb : Table) → Fin (tcTables nBuf tb) → BufTy
  | .hbm, ⟨0, _⟩ => ⟨S4x8192x8x64, .f32⟩
  | .hbm, ⟨1, _⟩ => ⟨S4x256x2x64, .f32⟩
  | .hbm, ⟨2, _⟩ => ⟨S4x8192x2x64, .f32⟩
  | .hbm, ⟨3, _⟩ => ⟨S4x256x2x64, .f32⟩
  | .hbm, ⟨4, _⟩ => ⟨S4x8192x2x64, .f32⟩
  | .hbm, ⟨5, _⟩ => ⟨S4x8192x512, .f32⟩
  | .hbm, ⟨6, _⟩ => ⟨S4x512x8192, .f32⟩
  | .hbm, ⟨7, _⟩ => ⟨S4x256x128, .f32⟩
  | .hbm, ⟨8, _⟩ => ⟨S4x256x128, .bf16⟩
  | .hbm, ⟨9, _⟩ => ⟨S4x8192x128, .f32⟩
  | .hbm, ⟨10, _⟩ => ⟨S4x8192x128, .bf16⟩
  | .hbm, ⟨11, _⟩ => ⟨S4x256x128, .f32⟩
  | .hbm, ⟨12, _⟩ => ⟨S4x128x256, .f32⟩
  | .hbm, ⟨13, _⟩ => ⟨S4x128x256, .bf16⟩
  | .hbm, ⟨14, _⟩ => ⟨S4x8192x128, .f32⟩
  | .hbm, ⟨15, _⟩ => ⟨S4x128x8192, .f32⟩
  | .hbm, ⟨16, _⟩ => ⟨S4x128x8192, .bf16⟩
  | .hbm, ⟨17, _⟩ => ⟨S4x8448x128, .bf16⟩
  | .hbm, ⟨18, _⟩ => ⟨S4x22x384x128, .bf16⟩
  | .hbm, ⟨19, _⟩ => ⟨S4x128x8448, .bf16⟩
  | .hbm, ⟨20, _⟩ => ⟨S4x2x64x8448, .bf16⟩
  | .hbm, ⟨21, _⟩ => ⟨S_, .bf16⟩
  | .hbm, ⟨22, _⟩ => ⟨S4x2x1x8448, .bf16⟩
  | .hbm, ⟨23, _⟩ => ⟨S_, .bf16⟩
  | .hbm, ⟨24, _⟩ => ⟨S4x2x15x8448, .bf16⟩
  | .hbm, ⟨25, _⟩ => ⟨S4x2x80x8448, .bf16⟩
  | .hbm, ⟨26, _⟩ => ⟨S4x2x80x22x384, .bf16⟩
  | .hbm, ⟨27, _⟩ => ⟨S4x2x22x80x384, .bf16⟩
  | .hbm, ⟨28, _⟩ => ⟨S4x8192x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x22x384x128, .bf16⟩
  | .local _ .vmem, ⟨3, _⟩ => ⟨S1x22x384x128, .bf16⟩
  | .local _ .vmem, ⟨4, _⟩ => ⟨S1x1x22x80x384, .bf16⟩
  | .local _ .vmem, ⟨5, _⟩ => ⟨S1x1x22x80x384, .bf16⟩
  | .local _ .vmem, ⟨6, _⟩ => ⟨S1x1024x256, .bf16⟩
  | .local _ .vmem, ⟨7, _⟩ => ⟨S1x1024x256, .bf16⟩
  | .local _ .vmem, ⟨8, _⟩ => ⟨S384x1024, .f32⟩
  | .local _ .vmem, ⟨9, _⟩ => ⟨S384x1024, .f32⟩
  | _, _ => ⟨S4x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

@[reducible] def k0_t1_loop : Scf.Loop 32 :=
  let c0_i32 : BitVec 32 := 0#32
  let c2_i32 : BitVec 32 := 2#32
  let v48 : BitVec 32 := Scalar.addi c0_i32 c2_i32
  let c1_i32 : BitVec 32 := 1#32
  ⟨c0_i32, v48, c1_i32⟩
def k0_off1 (k0_t1 : Fin k0_t1_loop.trips) (c0_i32_231 : BitVec 32) : Fin 4 → Nat :=
  let c0_233 : Index := 0#32
  let c10_i32 : BitVec 32 := 10#32
  let c0_i32 : BitVec 32 := 0#32
  let c1_i32 : BitVec 32 := 1#32
  let arg9 : BitVec 32 := Scf.iv c0_i32 c1_i32 k0_t1
  let v385 : BitVec 32 := Scalar.muli c10_i32 arg9
  let v386 : BitVec 32 := Scalar.addi v385 c0_i32_231
  let c1_i32_232 : BitVec 32 := 1#32
  let v387 : BitVec 32 := Scalar.addi v386 c1_i32_232
  let v388 : Index := Scalar.indexCast v387
  let c0_234 : Index := 0#32
  let c0_235 : Index := 0#32
  ![0, v388.toNat, 0, 0]
def k0_off2 (k0_t1 : Fin k0_t1_loop.trips) (c0_i32_240 : BitVec 32) : Fin 5 → Nat :=
  let c0_243 : Index := 0#32
  let c0_244 : Index := 0#32
  let c10_i32 : BitVec 32 := 10#32
  let c0_i32 : BitVec 32 := 0#32
  let c1_i32 : BitVec 32 := 1#32
  let arg9 : BitVec 32 := Scf.iv c0_i32 c1_i32 k0_t1
  let v385 : BitVec 32 := Scalar.muli c10_i32 arg9
  let v397 : BitVec 32 := Scalar.addi v385 c0_i32_240
  let v408 : Index := Scalar.indexCast v397
  let c0_245 : Index := 0#32
  let c0_246 : Index := 0#32
  ![0, 0, v408.toNat, 0, 0]
@[reducible] def k0_t2_loop : Scf.Loop 32 :=
  let c0_i32_80 : BitVec 32 := 0#32
  let c2_i32_81 : BitVec 32 := 2#32
  let v143 : BitVec 32 := Scalar.addi c0_i32_80 c2_i32_81
  let c1_i32_82 : BitVec 32 := 1#32
  ⟨c0_i32_80, v143, c1_i32_82⟩
def k0_off3 (k0_t2 : Fin k0_t2_loop.trips) (c0_i32_231 : BitVec 32) : Fin 4 → Nat :=
  let c0_233 : Index := 0#32
  let c10_i32 : BitVec 32 := 10#32
  let c0_i32_80 : BitVec 32 := 0#32
  let c1_i32_82 : BitVec 32 := 1#32
  let arg9 : BitVec 32 := Scf.iv c0_i32_80 c1_i32_82 k0_t2
  let v385 : BitVec 32 := Scalar.muli c10_i32 arg9
  let v386 : BitVec 32 := Scalar.addi v385 c0_i32_231
  let c1_i32_232 : BitVec 32 := 1#32
  let v387 : BitVec 32 := Scalar.addi v386 c1_i32_232
  let v388 : Index := Scalar.indexCast v387
  let c0_234 : Index := 0#32
  let c0_235 : Index := 0#32
  ![0, v388.toNat, 0, 0]
def k0_off4 (k0_t2 : Fin k0_t2_loop.trips) (c0_i32_240 : BitVec 32) : Fin 5 → Nat :=
  let c0_243 : Index := 0#32
  let c0_244 : Index := 0#32
  let c10_i32 : BitVec 32 := 10#32
  let c0_i32_80 : BitVec 32 := 0#32
  let c1_i32_82 : BitVec 32 := 1#32
  let arg9 : BitVec 32 := Scf.iv c0_i32_80 c1_i32_82 k0_t2
  let v385 : BitVec 32 := Scalar.muli c10_i32 arg9
  let v397 : BitVec 32 := Scalar.addi v385 c0_i32_240
  let v408 : Index := Scalar.indexCast v397
  let c0_245 : Index := 0#32
  let c0_246 : Index := 0#32
  ![0, 0, v408.toNat, 0, 0]
@[reducible] def k0_t3_loop : Scf.Loop 32 :=
  let c0_i32_140 : BitVec 32 := 0#32
  let c2_i32_141 : BitVec 32 := 2#32
  let v238 : BitVec 32 := Scalar.addi c0_i32_140 c2_i32_141
  let c1_i32_142 : BitVec 32 := 1#32
  ⟨c0_i32_140, v238, c1_i32_142⟩
def k0_off5 (k0_t3 : Fin k0_t3_loop.trips) (c0_i32_231 : BitVec 32) : Fin 4 → Nat :=
  let c0_233 : Index := 0#32
  let c10_i32 : BitVec 32 := 10#32
  let c0_i32_140 : BitVec 32 := 0#32
  let c1_i32_142 : BitVec 32 := 1#32
  let arg9 : BitVec 32 := Scf.iv c0_i32_140 c1_i32_142 k0_t3
  let v385 : BitVec 32 := Scalar.muli c10_i32 arg9
  let v386 : BitVec 32 := Scalar.addi v385 c0_i32_231
  let c1_i32_232 : BitVec 32 := 1#32
  let v387 : BitVec 32 := Scalar.addi v386 c1_i32_232
  let v388 : Index := Scalar.indexCast v387
  let c0_234 : Index := 0#32
  let c0_235 : Index := 0#32
  ![0, v388.toNat, 0, 0]
def k0_off6 (k0_t3 : Fin k0_t3_loop.trips) (c0_i32_240 : BitVec 32) : Fin 5 → Nat :=
  let c0_243 : Index := 0#32
  let c0_244 : Index := 0#32
  let c10_i32 : BitVec 32 := 10#32
  let c0_i32_140 : BitVec 32 := 0#32
  let c1_i32_142 : BitVec 32 := 1#32
  let arg9 : BitVec 32 := Scf.iv c0_i32_140 c1_i32_142 k0_t3
  let v385 : BitVec 32 := Scalar.muli c10_i32 arg9
  let v397 : BitVec 32 := Scalar.addi v385 c0_i32_240
  let v408 : Index := Scalar.indexCast v397
  let c0_245 : Index := 0#32
  let c0_246 : Index := 0#32
  ![0, 0, v408.toNat, 0, 0]
@[reducible] def k0_t4_loop : Scf.Loop 32 :=
  let c0_i32_200 : BitVec 32 := 0#32
  let c2_i32_201 : BitVec 32 := 2#32
  let v333 : BitVec 32 := Scalar.addi c0_i32_200 c2_i32_201
  let c1_i32_202 : BitVec 32 := 1#32
  ⟨c0_i32_200, v333, c1_i32_202⟩
def k0_off7 (k0_t4 : Fin k0_t4_loop.trips) (c0_i32_231 : BitVec 32) : Fin 4 → Nat :=
  let c0_233 : Index := 0#32
  let c10_i32 : BitVec 32 := 10#32
  let c0_i32_200 : BitVec 32 := 0#32
  let c1_i32_202 : BitVec 32 := 1#32
  let arg9 : BitVec 32 := Scf.iv c0_i32_200 c1_i32_202 k0_t4
  let v385 : BitVec 32 := Scalar.muli c10_i32 arg9
  let v386 : BitVec 32 := Scalar.addi v385 c0_i32_231
  let c1_i32_232 : BitVec 32 := 1#32
  let v387 : BitVec 32 := Scalar.addi v386 c1_i32_232
  let v388 : Index := Scalar.indexCast v387
  let c0_234 : Index := 0#32
  let c0_235 : Index := 0#32
  ![0, v388.toNat, 0, 0]
def k0_off8 (k0_t4 : Fin k0_t4_loop.trips) (c0_i32_240 : BitVec 32) : Fin 5 → Nat :=
  let c0_243 : Index := 0#32
  let c0_244 : Index := 0#32
  let c10_i32 : BitVec 32 := 10#32
  let c0_i32_200 : BitVec 32 := 0#32
  let c1_i32_202 : BitVec 32 := 1#32
  let arg9 : BitVec 32 := Scf.iv c0_i32_200 c1_i32_202 k0_t4
  let v385 : BitVec 32 := Scalar.muli c10_i32 arg9
  let v397 : BitVec 32 := Scalar.addi v385 c0_i32_240
  let v408 : Index := Scalar.indexCast v397
  let c0_245 : Index := 0#32
  let c0_246 : Index := 0#32
  ![0, 0, v408.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x22x384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x22x80x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "qscale" => some (((8 * (Real.log 2))⁻¹ : ℝ) : EReal)
  | _ => none
-- ==== ReferenceIdeal.lean ====
abbrev S4x8192x8x64 : Shape := ⟨4, ![4, 8192, 8, 64]⟩
abbrev S4x256x2x64 : Shape := ⟨4, ![4, 256, 2, 64]⟩
abbrev S4x8192x2x64 : Shape := ⟨4, ![4, 8192, 2, 64]⟩
abbrev S4x8448x2x64 : Shape := ⟨4, ![4, 8448, 2, 64]⟩
abbrev S4x8192x2x4x64 : Shape := ⟨5, ![4, 8192, 2, 4, 64]⟩
abbrev S4x2x8448x8192x4 : Shape := ⟨5, ![4, 2, 8448, 8192, 4]⟩
abbrev S4x2x4x8192x8448 : Shape := ⟨5, ![4, 2, 4, 8192, 8448]⟩
abbrev S_ : Shape := ⟨0, ![]⟩
abbrev S4x2x4x8192 : Shape := ⟨4, ![4, 2, 4, 8192]⟩
abbrev S4x2x4x8192x1 : Shape := ⟨5, ![4, 2, 4, 8192, 1]⟩
abbrev S4x2x64x4x8192 : Shape := ⟨5, ![4, 2, 64, 4, 8192]⟩
abbrev S4x8192x512 : Shape := ⟨3, ![4, 8192, 512]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x8x64, .f32⟩
  | .hbm, ⟨1, _⟩ => ⟨S4x256x2x64, .f32⟩
  | .hbm, ⟨2, _⟩ => ⟨S4x8192x2x64, .f32⟩
  | .hbm, ⟨3, _⟩ => ⟨S4x256x2x64, .f32⟩
  | .hbm, ⟨4, _⟩ => ⟨S4x8192x2x64, .f32⟩
  | .hbm, ⟨5, _⟩ => ⟨S4x8448x2x64, .f32⟩
  | .hbm, ⟨6, _⟩ => ⟨S4x8448x2x64, .f32⟩
  | .hbm, ⟨7, _⟩ => ⟨S4x8192x2x4x64, .f32⟩
  | .hbm, ⟨8, _⟩ => ⟨S4x2x8448x8192x4, .f32⟩
  | .hbm, ⟨9, _⟩ => ⟨S4x2x4x8192x8448, .f32⟩
  | .hbm, ⟨10, _⟩ => ⟨S_, .f32⟩
  | .hbm, ⟨11, _⟩ => ⟨S4x2x4x8192x8448, .f32⟩
  | .hbm, ⟨12, _⟩ => ⟨S4x2x4x8192x8448, .f32⟩
  | .hbm, ⟨13, _⟩ => ⟨S_, .f32⟩
  | .hbm, ⟨14, _⟩ => ⟨S4x2x4x8192, .f32⟩
  | .hbm, ⟨15, _⟩ => ⟨S_, .f32⟩
  | .hbm, ⟨16, _⟩ => ⟨S4x2x4x8192, .f32⟩
  | .hbm, ⟨17, _⟩ => ⟨S4x2x4x8192, .f32⟩
  | .hbm, ⟨18, _⟩ => ⟨S4x2x4x8192x1, .f32⟩
  | .hbm, ⟨19, _⟩ => ⟨S4x2x4x8192x8448, .f32⟩
  | .hbm, ⟨20, _⟩ => ⟨S4x2x4x8192x8448, .f32⟩
  | .hbm, ⟨21, _⟩ => ⟨S4x2x4x8192x8448, .f32⟩
  | .hbm, ⟨22, _⟩ => ⟨S_, .f32⟩
  | .hbm, ⟨23, _⟩ => ⟨S4x2x4x8192, .f32⟩
  | .hbm, ⟨24, _⟩ => ⟨S4x2x4x8192x1, .f32⟩
  | .hbm, ⟨25, _⟩ => ⟨S4x2x4x8192x8448, .f32⟩
  | .hbm, ⟨26, _⟩ => ⟨S4x2x4x8192x8448, .f32⟩
  | .hbm, ⟨27, _⟩ => ⟨S4x2x64x4x8192, .f32⟩
  | .hbm, ⟨28, _⟩ => ⟨S4x8192x2x4x64, .f32⟩
  | .hbm, ⟨29, _⟩ => ⟨S4x8192x512, .f32⟩
  | .hbm, ⟨30, _⟩ => ⟨S4x8192x512, .bf16⟩
  | _, _ => ⟨S4x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel2.lean ====
abbrev S147456x1024 : Shape := ⟨2, ![147456, 1024]⟩
abbrev S288 : Shape := ⟨1, ![288]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S512x1024 : Shape := ⟨2, ![512, 1024]⟩
abbrev S1x1024x2048 : Shape := ⟨3, ![1, 1024, 2048]⟩
abbrev S1 : Shape := ⟨1, ![1]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x1 : Shape := ⟨2, ![512, 1]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 9
  | .vmem => 14
  | .smem => 2
  | _ => 0

abbrev bufTy : (tb : Table) → Fin (tcTables nBuf tb) → BufTy
  | .hbm, ⟨0, _⟩ => ⟨S147456x1024, .f32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S147456x1024, .bf16⟩
  | .hbm, ⟨6, _⟩ => ⟨S32x1x2048, .f32⟩
  | .hbm, ⟨7, _⟩ => ⟨S32x1x1024, .f32⟩
  | .hbm, ⟨8, _⟩ => ⟨S147456x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S288, .i32⟩
  | _, _ => ⟨S147456x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v6 : BitVec 32 := Scalar.subi arg0 c1_i32
  let c0_i32_1 : BitVec 32 := 0#32
  let v7 : BitVec 32 := Scalar.maxsi v6 c0_i32_1
  let v8 : Index := Scalar.indexCast v7
  ![v8.toNat]
def k0_cond2 (v1 : BitVec 32) : BitVec 1 :=
  let c0_i32 : BitVec 32 := 0#32
  let v2 : BitVec 1 := Scalar.cmpi .sgt v1 c0_i32
  let v15 : BitVec 32 := Scalar.extui v2
  let c0_i32_3 : BitVec 32 := 0#32
  let v16 : BitVec 1 := Scalar.cmpi .ne v15 c0_i32_3
  v16

def k0_cond3 (v1 : BitVec 32) : BitVec 1 :=
  let c0_i32 : BitVec 32 := 0#32
  let v2 : BitVec 1 := Scalar.cmpi .sgt v1 c0_i32
  let v_true : BitVec 1 := 1#1
  let v17 : BitVec 1 := Scalar.xori v2 v_true
  let v18 : BitVec 32 := Scalar.extui v17
  let c0_i32_4 : BitVec 32 := 0#32
  let v19 : BitVec 1 := Scalar.cmpi .ne v18 c0_i32_4
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S147456x1024 : Shape := ⟨2, ![147456, 1024]⟩
abbrev S288 : Shape := ⟨1, ![288]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S288x1x1 : Shape := ⟨3, ![288, 1, 1]⟩
abbrev S512 : Shape := ⟨1, ![512]⟩
abbrev S1x512x1 : Shape := ⟨3, ![1, 512, 1]⟩
abbrev S288x512x1 : Shape := ⟨3, ![288, 512, 1]⟩
abbrev S288x512x1024 : Shape := ⟨3, ![288, 512, 1024]⟩
abbrev S_ : Shape := ⟨0, ![]⟩
abbrev S288x1 : Shape := ⟨2, ![288, 1]⟩
abbrev S288x1024x2048 : Shape := ⟨3, ![288, 1024, 2048]⟩
abbrev S288x512x2048 : Shape := ⟨3, ![288, 512, 2048]⟩
abbrev S288x2048 : Shape := ⟨2, ![288, 2048]⟩
abbrev S288x1x2048 : Shape := ⟨3, ![288, 1, 2048]⟩
abbrev S288x1024x1024 : Shape := ⟨3, ![288, 1024, 1024]⟩
abbrev S288x1024 : Shape := ⟨2, ![288, 1024]⟩
abbrev S288x1x1024 : Shape := ⟨3, ![288, 1, 1024]⟩

abbrev nBuf : Space → Nat
  | .hbm => 102
  | .vmem => 0
  | .smem => 0
  | _ => 0

abbrev bufTy : (tb : Table) → Fin (tcTables nBuf tb) → BufTy
  | .hbm, ⟨0, _⟩ => ⟨S147456x1024, .f32⟩
  | .hbm, ⟨1, _⟩ => ⟨S288, .i32⟩
  | .hbm, ⟨2, _⟩ => ⟨S288, .i32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S288x1x1, .i32⟩
  | .hbm, ⟨8, _⟩ => ⟨S512, .i32⟩
  | .hbm, ⟨9, _⟩ => ⟨S1x512x1, .i32⟩
  | .hbm, ⟨10, _⟩ => ⟨S288x512x1, .i32⟩
  | .hbm, ⟨11, _⟩ => ⟨S288x512x1, .i32⟩
  | .hbm, ⟨12, _⟩ => ⟨S288x512x1, .i1⟩
  | .hbm, ⟨13, _⟩ => ⟨S288x512x1024, .f32⟩
  | .hbm, ⟨14, _⟩ => ⟨S_, .f32⟩
  | .hbm, ⟨15, _⟩ => ⟨S_, .f32⟩
  | .hbm, ⟨16, _⟩ => ⟨S288x512x1024, .i1⟩
  | .hbm, ⟨17, _⟩ => ⟨S288x512x1024, .f32⟩
  | .hbm, ⟨18, _⟩ => ⟨S288x512x1024, .f32⟩
  | .hbm, ⟨19, _⟩ => ⟨S_, .i32⟩
  | .hbm, ⟨20, _⟩ => ⟨S288, .i32⟩
  | .hbm, ⟨21, _⟩ => ⟨S288, .i1⟩
  | .hbm, ⟨22, _⟩ => ⟨S_, .i32⟩
  | .hbm, ⟨23, _⟩ => ⟨S288, .i32⟩
  | .hbm, ⟨24, _⟩ => ⟨S288, .i32⟩
  | .hbm, ⟨25, _⟩ => ⟨S288, .i32⟩
  | .hbm, ⟨26, _⟩ => ⟨S288x1, .i32⟩
  | .hbm, ⟨27, _⟩ => ⟨S288x1024x2048, .f32⟩
  | .hbm, ⟨28, _⟩ => ⟨S288x512x2048, .f32⟩
  | .hbm, ⟨29, _⟩ => ⟨S_, .i32⟩
  | .hbm, ⟨30, _⟩ => ⟨S288, .i32⟩
  | .hbm, ⟨31, _⟩ => ⟨S288, .i1⟩
  | .hbm, ⟨32, _⟩ => ⟨S_, .i32⟩
  | .hbm, ⟨33, _⟩ => ⟨S288, .i32⟩
  | .hbm, ⟨34, _⟩ => ⟨S288, .i32⟩
  | .hbm, ⟨35, _⟩ => ⟨S288, .i32⟩
  | .hbm, ⟨36, _⟩ => ⟨S288x1, .i32⟩
  | .hbm, ⟨37, _⟩ => ⟨S288x2048, .f32⟩
  | .hbm, ⟨38, _⟩ => ⟨S288x1x2048, .f32⟩
  | .hbm, ⟨39, _⟩ => ⟨S288x512x2048, .f32⟩
  | .hbm, ⟨40, _⟩ => ⟨S288x512x2048, .f32⟩
  | .hbm, ⟨41, _⟩ => ⟨S288x512x1024, .f32⟩
  | .hbm, ⟨42, _⟩ => ⟨S288x512x1024, .f32⟩
  | .hbm, ⟨43, _⟩ => ⟨S_, .f32⟩
  | .hbm, ⟨44, _⟩ => ⟨S288x512x1024, .f32⟩
  | .hbm, ⟨45, _⟩ => ⟨S288x512x1024, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S288x512x1024, .f32⟩
  | .hbm, ⟨50, _⟩ => ⟨S288x512x1024, .f32⟩
  | .hbm, ⟨51, _⟩ => ⟨S_, .f32⟩
  | .hbm, ⟨52, _⟩ => ⟨S288x512x1024, .f32⟩
  | .hbm, ⟨53, _⟩ => ⟨S288x512x1024, .f32⟩
  | .hbm, ⟨54, _⟩ => ⟨S_, .f32⟩
  | .hbm, ⟨55, _⟩ => ⟨S288x512x1024, .f32⟩
  | .hbm, ⟨56, _⟩ => ⟨S288x512x1024, .f32⟩
  | .hbm, ⟨57, _⟩ => ⟨S_, .f32⟩
  | .hbm, ⟨58, _⟩ => ⟨S288x512x1024, .f32⟩
  | .hbm, ⟨59, _⟩ => ⟨S288x512x1024, .f32⟩
  | .hbm, ⟨60, _⟩ => ⟨S288x512x1024, .f32⟩
  | .hbm, ⟨61, _⟩ => ⟨S288x512x1024, .f32⟩
  | .hbm, ⟨62, _⟩ => ⟨S_, .f32⟩
  | .hbm, ⟨63, _⟩ => ⟨S288x512x1024, .f32⟩
  | .hbm, ⟨64, _⟩ => ⟨S288x512x1024, .f32⟩
  | .hbm, ⟨65, _⟩ => ⟨S_, .f32⟩
  | .hbm, ⟨66, _⟩ => ⟨S288x512x1024, .f32⟩
  | .hbm, ⟨67, _⟩ => ⟨S288x512x1024, .f32⟩
  | .hbm, ⟨68, _⟩ => ⟨S288x512x1024, .f32⟩
  | .hbm, ⟨69, _⟩ => ⟨S288x512x1024, .f32⟩
  | .hbm, ⟨70, _⟩ => ⟨S_, .i32⟩
  | .hbm, ⟨71, _⟩ => ⟨S288, .i32⟩
  | .hbm, ⟨72, _⟩ => ⟨S288, .i1⟩
  | .hbm, ⟨73, _⟩ => ⟨S_, .i32⟩
  | .hbm, ⟨74, _⟩ => ⟨S288, .i32⟩
  | .hbm, ⟨75, _⟩ => ⟨S288, .i32⟩
  | .hbm, ⟨76, _⟩ => ⟨S288, .i32⟩
  | .hbm, ⟨77, _⟩ => ⟨S288x1, .i32⟩
  | .hbm, ⟨78, _⟩ => ⟨S288x1024x1024, .f32⟩
  | .hbm, ⟨79, _⟩ => ⟨S288x512x1024, .f32⟩
  | .hbm, ⟨80, _⟩ => ⟨S_, .i32⟩
  | .hbm, ⟨81, _⟩ => ⟨S288, .i32⟩
  | .hbm, ⟨82, _⟩ => ⟨S288, .i1⟩
  | .hbm, ⟨83, _⟩ => ⟨S_, .i32⟩
  | .hbm, ⟨84, _⟩ => ⟨S288, .i32⟩
  | .hbm, ⟨85, _⟩ => ⟨S288, .i32⟩
  | .hbm, ⟨86, _⟩ => ⟨S288, .i32⟩
  | .hbm, ⟨87, _⟩ => ⟨S288x1, .i32⟩
  | .hbm, ⟨88, _⟩ => ⟨S288x1024, .f32⟩
  | .hbm, ⟨89, _⟩ => ⟨S288x1x1024, .f32⟩
  | .hbm, ⟨90, _⟩ => ⟨S288x512x1024, .f32⟩
  | .hbm, ⟨91, _⟩ => ⟨S288x512x1024, .f32⟩
  | .hbm, ⟨92, _⟩ => ⟨S_, .i32⟩
  | .hbm, ⟨93, _⟩ => ⟨S288x1x1, .i32⟩
  | .hbm, ⟨94, _⟩ => ⟨S288x1x1, .i1⟩
  | .hbm, ⟨95, _⟩ => ⟨S_, .f32⟩
  | .hbm, ⟨96, _⟩ => ⟨S_, .f32⟩
  | .hbm, ⟨97, _⟩ => ⟨S288x512x1024, .i1⟩
  | .hbm, ⟨98, _⟩ => ⟨S288x512x1024, .f32⟩
  | .hbm, ⟨99, _⟩ => ⟨S288x512x1024, .f32⟩
  | .hbm, ⟨100, _⟩ => ⟨S147456x1024, .f32⟩
  | .hbm, ⟨101, _⟩ => ⟨S147456x1024, .bf16⟩
  | _, _ => ⟨S147456x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_cst_5 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v30 : Ref sig .tc := ⟨.hbm, 53, rfl⟩
abbrev main_cst_6 : Ref sig .tc := ⟨.hbm, 54, rfl⟩
abbrev main_v31 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_8 : Ref sig .tc := ⟨.hbm, 62, rfl⟩
abbrev main_v37 : Ref sig .tc := ⟨.hbm, 63, rfl⟩
abbrev main_v38 : Ref sig .tc := ⟨.hbm, 64, rfl⟩
abbrev main_cst_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_10 : Ref sig .tc := ⟨.hbm, 70, rfl⟩
abbrev main_v43 : Ref sig .tc := ⟨.hbm, 71, rfl⟩
abbrev main_v44 : Ref sig .tc := ⟨.hbm, 72, rfl⟩
abbrev main_c_11 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_12 : Ref sig .tc := ⟨.hbm, 80, rfl⟩
abbrev main_v51 : Ref sig .tc := ⟨.hbm, 81, rfl⟩
abbrev main_v52 : Ref sig .tc := ⟨.hbm, 82, rfl⟩
abbrev main_c_13 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_14 : Ref sig .tc := ⟨.hbm, 92, rfl⟩
abbrev main_v61 : Ref sig .tc := ⟨.hbm, 93, rfl⟩
abbrev main_v62 : Ref sig .tc := ⟨.hbm, 94, rfl⟩
abbrev main_cst_15 : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩

abbrev nD : Nat := 1
abbrev τ : Topo := Topo.v7x

variable {F : FTy → Type} [FloatOps F]
-- ==== Proof.Plain.Launch.lean ====
/- The launch of the kernel as printed, at any floats: its body runs at every grid point, so the whole run ends with the
   arguments unchanged and the counters at zero. What the output holds is not stated here. -/
module

public import proofs.«01_k».proof.Proof.Gen.Kernel.Frame.Runs
public import Idealize.ShloMosaic.Lib.Claim

@[expose] public section

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body runs on whole buffers, leaving the inputs' as they were; what it leaves in the others is not stated. -/
theorem body_runs (c : Dev nD) (i : grid0.Coords) (arg3 : Memref sig .tc .vmem S1x256x1024 .f32) (harg3 : arg3.IsWhole) (arg4 : Memref sig .tc .vmem S1x22x384x128 .bf16) (harg4 : arg4.IsWhole) (arg5 : Memref sig .tc .vmem S1x1x22x80x384 .bf16) (harg5 : arg5.IsWhole) (arg6 : Memref sig .tc .vmem S1x1024x256 .bf16) (harg6 : arg6.IsWhole) (arg7 : Memref sig .tc .vmem S384x1024 .f32) (harg7 : arg7.IsWhole) (arg8 : Memref sig .tc .vmem S384x1024 .f32) (harg8 : arg8.IsWhole)
    (x0 : Vec F S1x256x1024 .f32) (x1 : Vec F S1x22x384x128 .bf16) (x2 : Vec F S1x1x22x80x384 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0_attn i arg3 harg3 arg4 harg4 arg5 harg5 arg6 harg6 arg7 harg7 arg8 harg8) K := by
  simp only [cc0_attn_eq_skeleton]; unfold cc0_attn_skel
  simp only [k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
  obtain rfl := harg3.eq_unread hf0; obtain rfl := harg4.eq_unread hf1; obtain rfl := harg5.eq_unread hf2
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _, _; isplitr; swap; · iexact H3
    ipureintro; rfl
  isplitl [HS0]
  · iexists _, _; isplitr; swap; · iexact HS0
    ipureintro; rfl
  iexists _, _; isplitr; swap; · iexact HS1
  ipureintro; rfl

/-- The windows whose contents are not stated: the output's. -/
def unstated : Fin cfg0.W → Bool
  | ⟨3, _⟩ => true
  | _ => false

/-- The pipeline's data: inputs keep their blocks, nothing is said of the output's buffer. -/
def plan (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => fun _ => FloatOps.ofBits .bf16 0
  Φ _ := Pipeline.ΦA spec0 c
  q _ := fullShare
  owed _ := 0

theorem plan_A (c : Dev nD) (w : Fin cfg0.W) : (plan m 0 c).A w = V m c (Pipeline.arrRef spec0 w) := by
  dsimp only [plan]

theorem plan_after0 (c : Dev nD) (t : Fin cfg0.N) : (plan m 0 c).after 0 t = iblk m c 0 t := by dsimp only [plan]
theorem plan_after1 (c : Dev nD) (t : Fin cfg0.N) : (plan m 0 c).after 1 t = iblk m c 1 t := by dsimp only [plan]
theorem plan_after2 (c : Dev nD) (t : Fin cfg0.N) : (plan m 0 c).after 2 t = iblk m c 2 t := by dsimp only [plan]

theorem plan_before0 (c : Dev nD) (t : Fin cfg0.N) (d) : (plan m 0 c).before 0 t d = iblk m c 0 t :=
  before0_0_of m (plan m 0 c) (plan_A m c 0) (plan_after0 m c) t d
theorem plan_before1 (c : Dev nD) (t : Fin cfg0.N) (d) : (plan m 0 c).before 1 t d = iblk m c 1 t :=
  before0_1_of m (plan m 0 c) (plan_A m c 1) (plan_after1 m c) t d
theorem plan_before2 (c : Dev nD) (t : Fin cfg0.N) (d) : (plan m 0 c).before 2 t d = iblk m c 2 t :=
  before0_2_of m (plan m 0 c) (plan_A m c 2) (plan_after2 m c) t d

/-- What the body has at point `t`, window by window. -/
def given (c : Dev nD) (t : Fin cfg0.N) : sProp 𝕄 :=
  iprop((plan m 0 c).Φ t.castSucc ∗ (plan m 0 c).owesAt () t.castSucc
    ∗ (∃ d, owns (c : Thread nD τ) (ms0_0 t) fullShare ((plan m 0 c).before 0 t d))
    ∗ (∃ d, owns (c : Thread nD τ) (ms0_1 t) fullShare ((plan m 0 c).before 1 t d))
    ∗ (∃ d, owns (c : Thread nD τ) (ms0_2 t) fullShare ((plan m 0 c).before 2 t d))
    ∗ (∃ d, owns (c : Thread nD τ) (ms0_3 t) fullShare d))

/-- What the body gives back at point `t`, window by window. -/
def got (c : Dev nD) (t : Fin cfg0.N) : sProp 𝕄 :=
  iprop((plan m 0 c).Φ t.succ ∗ (plan m 0 c).owesAt () t.succ
    ∗ owns (c : Thread nD τ) (ms0_0 t) fullShare ((plan m 0 c).after 0 t)
    ∗ owns (c : Thread nD τ) (ms0_1 t) fullShare ((plan m 0 c).after 1 t)
    ∗ owns (c : Thread nD τ) (ms0_2 t) fullShare ((plan m 0 c).after 2 t)
    ∗ (∃ d, owns (c : Thread nD τ) (ms0_3 t) fullShare d))

/-- The body at any grid point leaves the inputs' buffers as they were. -/
theorem body_at (c : Dev nD) (t : Fin cfg0.N) :
    given m c t ⊢ wp frame (wpE (defs₀ (F := F)) Variants.none c none) Set.univ (bodyAt0 t) (fun _ => got m c t) := by
  unfold given got bodyAt0
  simp only [plan_before0, plan_before1, plan_before2]
  rw [show (plan m 0 c).Φ t.succ = (plan m 0 c).Φ t.castSucc from rfl,
    show (plan m 0 c).owesAt () t.succ = (plan m 0 c).owesAt () t.castSucc from rfl,
    plan_after0, plan_after1, plan_after2]
  rw [show (plan m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩⟩
  iapply (body_runs c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  iexact H3

theorem row_eq (t : Fin cfg0.N) :
    defs₀ (F := F) .tc cfg0.body (cfg0.bodyArgs t (cfg0.slots t)) = bodyAt0 t := by
  unfold defs₀; rw [Defs.onTc_tc]

/-- The pipeline's obligation on the body holds at every point. -/
theorem obligation (c : Dev nD) :
    Pipeline.BodyObligationLoose (plan (F := F) m 0 c) (defs₀ (F := F)) Variants.none () Set.univ unstated := fun t => by
  rw [bigSep_W0, bigSep_W0, row_eq]
  exact triple_restated (body_at m c t) rfl .rfl fun _ => .rfl

set_option backward.isDefEq.respectTransparency.types false in
/-- Every run ends, with the arguments unchanged and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ?_) (Pipeline.θ_run_frame_forget cfgs (plan m) (0 : Fin 1) launch0 defs₀ Variants.none
    unstated m ρ main (hbody := obligation m) (hshare := fun c => (plan m 0 c).share_full fun _ => rfl)
    (howed := fun _ _ => rfl) (V := V m) (hmain := hmain m Variants.none) (hA := plan_A m) (hΦ := fun _ _ => rfl)
    (Q' := fun r => (∀ (c : Dev nD) (b : Ref sig .tc), b ∈ Pipeline.restRefs sig spec0 → r.2.mem ((c.tc : Thread nD τ).loc b) = V m c b) ∧ r.2.sem = fun _ => 0)
    (hQ' := fun r h => ⟨fun c b hb => (h.1 c).2 b hb, h.2⟩))
  exact ⟨fun c => ⟨(h.1 c main_arg0 (Pipeline.mem_restRefs_of main_arg0 (by decide) (by decide))).trans (V_main_arg0 m c),
    (h.1 c main_arg1 (Pipeline.mem_restRefs_of main_arg1 (by decide) (by decide))).trans (V_main_arg1 m c),
    (h.1 c main_arg2 (Pipeline.mem_restRefs_of main_arg2 (by decide) (by decide))).trans (V_main_arg2 m c),
    (h.1 c main_arg3 (Pipeline.mem_restRefs_of main_arg3 (by decide) (by decide))).trans (V_main_arg3 m c),
    (h.1 c main_arg4 (Pipeline.mem_restRefs_of main_arg4 (by decide) (by decide))).trans (V_main_arg4 m c)⟩, h.2⟩

end Cert.Kernel.Attn

end
-- ==== Proof.Steps.lean ====
/- One key chunk of the attention as a step on the running maximum and the running weighted sum: the loads of a
   chunk of keys and of values, the scores of a chunk, and the recursion over the chunks. -/
module

public import proofs.«01_k».proof.Proof.Gen.KernelIdeal.Loops
public import Idealize.ShloMosaic.Lib.Pipeline.Value
public import Idealize.ShloMosaic.Lib.Pipeline.FrameBody
public import Idealize.ShloMosaic.Lib.Pipeline.ValueKit
public import Idealize.ShloMosaic.Lib.WholeRead
public import Idealize.ShloMosaic.Lib.WritesUnit
public import Idealize.ShloMosaic.Lib.ValueIdxCore

@[expose] public section

set_option maxRecDepth 16384

noncomputable section

namespace Cert.KernelIdeal.Attn

open Idealize.ShloMosaic Idealize.SL.Sem Cert.KernelIdeal Cert.KernelIdeal.Gen

variable {F : FTy → Type} [FloatOps F] [Named F]

/-- The `j`-th chunk of 384 keys of a block of keys. -/
def keys (x : Vec F S1x22x384x128 .bf16) (j : ℕ) : Vec F S1x1x384x128 .bf16 :=
  fun i => x (ix4 0 ⟨j % 22, Nat.mod_lt _ (by decide)⟩ (i 2) (i 3))

/-- The `j`-th chunk of 384 columns of a block of value rows. -/
def vals (x : Vec F S1x1x22x80x384 .bf16) (j : ℕ) : Vec F S1x1x1x80x384 .bf16 :=
  fun i => x (ix5 0 0 ⟨j % 22, Nat.mod_lt _ (by decide)⟩ (i 3) (i 4))

/-- Loading one chunk of keys out of a buffer that holds the block `x`. -/
theorem load_keys {m : Memref sig .tc .vmem S1x22x384x128 .bf16} (h : m.IsWhole) (x : Vec F S1x22x384x128 .bf16)
    (off : Fin 4 → ℕ) (inb : ∀ a, off a + S1x1x384x128.size a ≤ S1x22x384x128.size a) (j : ℕ) (hj : j < 22)
    (hoff : off = ![0, j, 0, 0]) :
    View.readAt (Elt F) m.view (Rect.unit (s := S1x22x384x128) off S1x1x384x128.size inb).toLoadRect (h.unread x) = keys x j := by
  subst hoff
  funext i
  rw [h.readAt_unread]
  refine congrArg x (funext fun a => Fin.ext ?_)
  rw [Rect.idx_unit_val]
  have h0 : (i 0 : ℕ) = 0 := Nat.lt_one_iff.mp (i 0).isLt
  have h1 : (i 1 : ℕ) = 0 := Nat.lt_one_iff.mp (i 1).isLt
  have hm : j % 22 = j := Nat.mod_eq_of_lt hj
  fin_cases a <;> simp [ix4, h0, h1, hm]

/-- Loading one chunk of value columns out of a buffer that holds the block `x`. -/
theorem load_vals {m : Memref sig .tc .vmem S1x1x22x80x384 .bf16} (h : m.IsWhole) (x : Vec F S1x1x22x80x384 .bf16)
    (off : Fin 5 → ℕ) (inb : ∀ a, off a + S1x1x1x80x384.size a ≤ S1x1x22x80x384.size a) (j : ℕ) (hj : j < 22)
    (hoff : off = ![0, 0, j, 0, 0]) :
    View.readAt (Elt F) m.view (Rect.unit (s := S1x1x22x80x384) off S1x1x1x80x384.size inb).toLoadRect (h.unread x) = vals x j := by
  subst hoff
  funext i
  rw [h.readAt_unread]
  refine congrArg x (funext fun a => Fin.ext ?_)
  rw [Rect.idx_unit_val]
  have h0 : (i 0 : ℕ) = 0 := Nat.lt_one_iff.mp (i 0).isLt
  have h1 : (i 1 : ℕ) = 0 := Nat.lt_one_iff.mp (i 1).isLt
  have h2 : (i 2 : ℕ) = 0 := Nat.lt_one_iff.mp (i 2).isLt
  have hm : j % 22 = j := Nat.mod_eq_of_lt hj
  fin_cases a <;> simp [ix5, h0, h1, h2, hm]

/-- A load of a whole scratch buffer reads its contents. -/
theorem load_whole {m : Memref sig .tc .vmem S384x1024 .f32} (h : m.IsWhole) (x : Vec F S384x1024 .f32)
    (inb : ∀ a, (![0, 0] : Fin 2 → ℕ) a + S384x1024.size a ≤ S384x1024.size a) :
    View.readAt (Elt F) m.view (Rect.unit (s := S384x1024) ![0, 0] S384x1024.size inb).toLoadRect (h.unread x) = x := by
  funext i
  rw [h.readAt_unread]
  refine congrArg x (funext fun a => Fin.ext ?_)
  rw [Rect.idx_unit_val]
  fin_cases a <;> simp

/-- After a store over a whole scratch buffer, whatever was stored before, the buffer holds what was stored. -/
theorem writes_whole {m : Memref sig .tc .vmem S384x1024 .f32} (h : m.IsWhole) (f : BufTy.Contents (Elt F) m.view.ty)
    (x : Vec F S384x1024 .f32) (L : List (View.Piece (Elt F) S384x1024 .f32))
    (inb : ∀ a, (![0, 0] : Fin 2 → ℕ) a + S384x1024.size a ≤ S384x1024.size a) :
    m.view.writes (Elt F) f (⟨Rect.unit (s := S384x1024) ![0, 0] S384x1024.size inb, x⟩ :: L) = h.unread x := by
  refine h.eq_unread (funext fun y => ?_)
  refine View.read_writes_cons_unit_of_mem m.view f inb x L y y rfl fun a => ?_
  fin_cases a <;> simp

/-- The scores of a chunk of keys against a block of queries. -/
def score (q : FVec F S128x1024 .bf16) (k : Vec F S1x1x384x128 .bf16) : FVec F S384x1024 .f32 :=
  matmul dot_S384x128_S128x1024_S384x1024_1_0_0_1_n_n none (shapeCast S384x128 k shapeCasts_S1x1x384x128_S384x128) q
    (constant S384x1024 .f32 0x00000000#32)

/-- The largest score of each query among a chunk's. -/
def peak (s : FVec F S384x1024 .f32) : FVec F S1x1024 .f32 :=
  shapeCast S1x1024 (multiReduction .maximumf [0] S1024 s 0xFF800000#32 reduces_S384x1024_S1024 (.inl rfl) rfl) shapeCasts_S1024_S1x1024

/-- The weighted sum after one more chunk: the old one rescaled from the maximum `m` to the maximum `n`, and the
    chunk's values weighted by the exponentials of its scores below `n`. -/
def grow (m n : FVec F S1x1024 .f32) (acc : FVec F S80x1024 .f32) (s : FVec F S384x1024 .f32) (v : Vec F S1x1x1x80x384 .bf16) :
    FVec F S80x1024 .f32 :=
  addf (mulf (broadcastTo S80x1024 (exp2 (subf m n)) broadcasts_S1x1024_S80x1024) acc)
    (matmul dot_S80x384_S384x1024_S80x1024_1_0_0_1_n_n none (shapeCast S80x384 v shapeCasts_S1x1x1x80x384_S80x384)
      (truncf .bf16 (exp2 (subf s (broadcastTo S384x1024 n broadcasts_S1x1024_S384x1024))) bitsLt_bf16_f32)
      (constant S80x1024 .f32 0x00000000#32))

theorem score_def (q : FVec F S128x1024 .bf16) (k : Vec F S1x1x384x128 .bf16) : score q k
    = matmul dot_S384x128_S128x1024_S384x1024_1_0_0_1_n_n none (shapeCast S384x128 k shapeCasts_S1x1x384x128_S384x128) q
      (constant S384x1024 .f32 0x00000000#32) := rfl

theorem peak_def (s : FVec F S384x1024 .f32) : peak s
    = shapeCast S1x1024 (multiReduction .maximumf [0] S1024 s 0xFF800000#32 reduces_S384x1024_S1024 (.inl rfl) rfl) shapeCasts_S1024_S1x1024 :=
  rfl

theorem grow_def (m n : FVec F S1x1024 .f32) (acc : FVec F S80x1024 .f32) (s : FVec F S384x1024 .f32) (v : Vec F S1x1x1x80x384 .bf16) :
    grow m n acc s v = addf (mulf (broadcastTo S80x1024 (exp2 (subf m n)) broadcasts_S1x1024_S80x1024) acc)
    (matmul dot_S80x384_S384x1024_S80x1024_1_0_0_1_n_n none (shapeCast S80x384 v shapeCasts_S1x1x1x80x384_S80x384)
      (truncf .bf16 (exp2 (subf s (broadcastTo S384x1024 n broadcasts_S1x1024_S384x1024))) bitsLt_bf16_f32)
      (constant S80x1024 .f32 0x00000000#32)) := rfl

variable (q : FVec F S128x1024 .bf16) (x1 : Vec F S1x22x384x128 .bf16) (x2 : Vec F S1x1x22x80x384 .bf16)

/-- The running maximum over the first `j` chunks. -/
def peaks : ℕ → FVec F S1x1024 .f32
  | 0 => broadcast S1x1024 (Scalar.ofBits .f32 0xFF800000#32)
  | j + 1 => maximumf (peaks j) (peak (score q (keys x1 j)))

/-- The running weighted sum over the first `j` chunks. -/
def sums : ℕ → FVec F S80x1024 .f32
  | 0 => broadcast S80x1024 (Scalar.ofBits .f32 0x00000000#32)
  | j + 1 => grow (peaks q x1 j) (peaks q x1 (j + 1)) (sums j) (score q (keys x1 j)) (vals x2 j)

/-- What the loop over the chunks carries before chunk `j`: the maximum, the sum, and the next chunk's largest scores. -/
def carried (j : ℕ) : FVec F S1x1024 .f32 × FVec F S80x1024 .f32 × FVec F S1x1024 .f32 :=
  (peaks q x1 j, sums q x1 x2 j, peak (score q (keys x1 j)))

theorem peaks_succ (j : ℕ) : peaks q x1 (j + 1) = maximumf (peaks q x1 j) (peak (score q (keys x1 j))) := rfl

theorem sums_succ (j : ℕ) : sums q x1 x2 (j + 1)
    = grow (peaks q x1 j) (peaks q x1 (j + 1)) (sums q x1 x2 j) (score q (keys x1 j)) (vals x2 j) := rfl

/-- The running maximum and the running sum ten chunks on, one step at a time. -/
theorem ten_peaks (n : ℕ) : peaks q x1 (n + 1) = maximumf (peaks q x1 (n)) (peak (score q (keys x1 (n))))
    ∧ peaks q x1 (n + 2) = maximumf (peaks q x1 (n + 1)) (peak (score q (keys x1 (n + 1))))
    ∧ peaks q x1 (n + 3) = maximumf (peaks q x1 (n + 2)) (peak (score q (keys x1 (n + 2))))
    ∧ peaks q x1 (n + 4) = maximumf (peaks q x1 (n + 3)) (peak (score q (keys x1 (n + 3))))
    ∧ peaks q x1 (n + 5) = maximumf (peaks q x1 (n + 4)) (peak (score q (keys x1 (n + 4))))
    ∧ peaks q x1 (n + 6) = maximumf (peaks q x1 (n + 5)) (peak (score q (keys x1 (n + 5))))
    ∧ peaks q x1 (n + 7) = maximumf (peaks q x1 (n + 6)) (peak (score q (keys x1 (n + 6))))
    ∧ peaks q x1 (n + 8) = maximumf (peaks q x1 (n + 7)) (peak (score q (keys x1 (n + 7))))
    ∧ peaks q x1 (n + 9) = maximumf (peaks q x1 (n + 8)) (peak (score q (keys x1 (n + 8))))
    ∧ peaks q x1 (n + 10) = maximumf (peaks q x1 (n + 9)) (peak (score q (keys x1 (n + 9)))) :=
  ⟨rfl, rfl, rfl, rfl, rfl, rfl, rfl, rfl, rfl, rfl⟩

/-- The running sum ten chunks on, one step at a time. -/
theorem ten_sums (n : ℕ) : sums q x1 x2 (n + 1) = grow (peaks q x1 (n)) (peaks q x1 (n + 1)) (sums q x1 x2 (n)) (score q (keys x1 (n))) (vals x2 (n))
    ∧ sums q x1 x2 (n + 2) = grow (peaks q x1 (n + 1)) (peaks q x1 (n + 2)) (sums q x1 x2 (n + 1)) (score q (keys x1 (n + 1))) (vals x2 (n + 1))
    ∧ sums q x1 x2 (n + 3) = grow (peaks q x1 (n + 2)) (peaks q x1 (n + 3)) (sums q x1 x2 (n + 2)) (score q (keys x1 (n + 2))) (vals x2 (n + 2))
    ∧ sums q x1 x2 (n + 4) = grow (peaks q x1 (n + 3)) (peaks q x1 (n + 4)) (sums q x1 x2 (n + 3)) (score q (keys x1 (n + 3))) (vals x2 (n + 3))
    ∧ sums q x1 x2 (n + 5) = grow (peaks q x1 (n + 4)) (peaks q x1 (n + 5)) (sums q x1 x2 (n + 4)) (score q (keys x1 (n + 4))) (vals x2 (n + 4))
    ∧ sums q x1 x2 (n + 6) = grow (peaks q x1 (n + 5)) (peaks q x1 (n + 6)) (sums q x1 x2 (n + 5)) (score q (keys x1 (n + 5))) (vals x2 (n + 5))
    ∧ sums q x1 x2 (n + 7) = grow (peaks q x1 (n + 6)) (peaks q x1 (n + 7)) (sums q x1 x2 (n + 6)) (score q (keys x1 (n + 6))) (vals x2 (n + 6))
    ∧ sums q x1 x2 (n + 8) = grow (peaks q x1 (n + 7)) (peaks q x1 (n + 8)) (sums q x1 x2 (n + 7)) (score q (keys x1 (n + 7))) (vals x2 (n + 7))
    ∧ sums q x1 x2 (n + 9) = grow (peaks q x1 (n + 8)) (peaks q x1 (n + 9)) (sums q x1 x2 (n + 8)) (score q (keys x1 (n + 8))) (vals x2 (n + 8))
    ∧ sums q x1 x2 (n + 10) = grow (peaks q x1 (n + 9)) (peaks q x1 (n + 10)) (sums q x1 x2 (n + 9)) (score q (keys x1 (n + 9))) (vals x2 (n + 9)) :=
  ⟨rfl, rfl, rfl, rfl, rfl, rfl, rfl, rfl, rfl, rfl⟩

end Cert.KernelIdeal.Attn

end
-- ==== Proof.Block.lean ====
/- What the attention body leaves in its output block: per sub-block of 256 queries, the weighted sums after the 22 key
   chunks divided by the sum of the weights, transposed to rows of queries. -/
module

public import proofs.«01_k».proof.Proof.Steps

@[expose] public section

set_option maxRecDepth 16384

noncomputable section

namespace Cert.KernelIdeal.Attn

open Idealize.ShloMosaic Idealize.SL.Sem Cert.KernelIdeal Cert.KernelIdeal.Gen

variable {F : FTy → Type} [FloatOps F] [Named F]

/-- The rows of query head `g` of the four in a block, for the queries of sub-block `s`. -/
def slab (x0 : Vec F S1x256x1024 .f32) (g s : Fin 4) : Vec F S1x64x256 .f32 :=
  fun j => x0 (ix3 0 ⟨64 * g.val + (j 1).val, by have : (j 1).val < 64 := (j 1).isLt; omega⟩
    ⟨256 * s.val + (j 2).val, by have : (j 2).val < 256 := (j 2).isLt; omega⟩)

/-- Loading one head's rows for one sub-block out of a buffer that holds the query block `x0`. -/
theorem load_slab {m : Memref sig .tc .vmem S1x256x1024 .f32} (h : m.IsWhole) (x0 : Vec F S1x256x1024 .f32)
    (off : Fin 3 → ℕ) (inb : ∀ a, off a + S1x64x256.size a ≤ S1x256x1024.size a) (g s : Fin 4)
    (hoff : off = ![0, 64 * g.val, 256 * s.val]) :
    View.readAt (Elt F) m.view (Rect.unit (s := S1x256x1024) off S1x64x256.size inb).toLoadRect (h.unread x0) = slab x0 g s := by
  subst hoff
  funext i
  rw [h.readAt_unread]
  refine congrArg x0 (funext fun a => Fin.ext ?_)
  rw [Rect.idx_unit_val]
  have h0 : (i 0 : ℕ) = 0 := Nat.lt_one_iff.mp (i 0).isLt
  fin_cases a <;> simp [ix3, h0]

/-- One query head scaled, placed on its own half of the 128 key features and zero on the other. -/
def headQ (i : grid0.Coords) (a : Vec F S1x64x256 .f32) : FVec F S128x256 .bf16 := k0_pay195 i a

/-- The four query heads of one sub-block side by side. -/
def queries (i : grid0.Coords) (x0 : Vec F S1x256x1024 .f32) (s : Fin 4) : FVec F S128x1024 .bf16 :=
  concatenate S128x1024 1 [⟨S128x256, headQ i (slab x0 0 s)⟩, ⟨S128x256, headQ i (slab x0 1 s)⟩, ⟨S128x256, headQ i (slab x0 2 s)⟩,
    ⟨S128x256, headQ i (slab x0 3 s)⟩] concatenates_S128x256_S128x256_S128x256_S128x256_S128x1024_d1

/-- The weighted sums divided by the sum of the weights, one row per query and one column per head and feature. -/
def finish (p : FVec F S80x1024 .f32) : FVec F S1x256x256 .bf16 :=
  have o : FVec F S64x1024 .f32 := divf (extractStridedSlice S64x1024 ![0, 0] p slices_S80x1024_o0_0_S64x1024)
    (broadcastTo S64x1024 (extractStridedSlice S1x1024 ![64, 0] p slices_S80x1024_o64_0_S1x1024) broadcasts_S1x1024_S64x1024)
  shapeCast S1x256x256 (truncf .bf16 (transpose S256x256 [1, 0] (concatenate S256x256 0
    [⟨S64x256, extractStridedSlice S64x256 ![0, 0] o slices_S64x1024_o0_0_S64x256⟩,
      ⟨S64x256, extractStridedSlice S64x256 ![0, 256] o slices_S64x1024_o0_256_S64x256⟩,
      ⟨S64x256, extractStridedSlice S64x256 ![0, 512] o slices_S64x1024_o0_512_S64x256⟩,
      ⟨S64x256, extractStridedSlice S64x256 ![0, 768] o slices_S64x1024_o0_768_S64x256⟩]
    concatenates_S64x256_S64x256_S64x256_S64x256_S256x256_d0) transposes_S256x256_p1_0_S256x256) bitsLt_bf16_f32)
    shapeCasts_S256x256_S1x256x256

/-- The output block: sub-block `s` holds rows `256 s` to `256 s + 255`. -/
def block (i : grid0.Coords) (x0 : Vec F S1x256x1024 .f32) (x1 : Vec F S1x22x384x128 .bf16) (x2 : Vec F S1x1x22x80x384 .bf16) :
    Vec F S1x1024x256 .bf16 :=
  fun y => finish (sums (queries i x0 ⟨(y 1).val / 256, by have : (y 1).val < 1024 := (y 1).isLt; omega⟩) x1 x2 22)
    (ix3 0 ⟨(y 1).val % 256, Nat.mod_lt _ (by decide)⟩ (y 2))

/-- Four stores of 256 rows each are the block whose rows they are. -/
theorem assemble (i : grid0.Coords) (x0 : Vec F S1x256x1024 .f32) (x1 : Vec F S1x22x384x128 .bf16) (x2 : Vec F S1x1x22x80x384 .bf16)
    {m : Memref sig .tc .vmem S1x1024x256 .bf16} (f : BufTy.Contents (Elt F) m.view.ty) (p0 p1 p2 p3 : Vec F S1x256x256 .bf16)
    (i0 : ∀ a, (![0, 0, 0] : Fin 3 → ℕ) a + S1x256x256.size a ≤ S1x1024x256.size a)
    (i1 : ∀ a, (![0, 256, 0] : Fin 3 → ℕ) a + S1x256x256.size a ≤ S1x1024x256.size a)
    (i2 : ∀ a, (![0, 512, 0] : Fin 3 → ℕ) a + S1x256x256.size a ≤ S1x1024x256.size a)
    (i3 : ∀ a, (![0, 768, 0] : Fin 3 → ℕ) a + S1x256x256.size a ≤ S1x1024x256.size a)
    (h0 : p0 = finish (sums (queries i x0 0) x1 x2 22)) (h1 : p1 = finish (sums (queries i x0 1) x1 x2 22))
    (h2 : p2 = finish (sums (queries i x0 2) x1 x2 22)) (h3 : p3 = finish (sums (queries i x0 3) x1 x2 22)) :
    View.read (Elt F) m.view (m.view.writes (Elt F) f
      [⟨Rect.unit (s := S1x1024x256) ![0, 768, 0] S1x256x256.size i3, p3⟩, ⟨Rect.unit (s := S1x1024x256) ![0, 512, 0] S1x256x256.size i2, p2⟩,
        ⟨Rect.unit (s := S1x1024x256) ![0, 256, 0] S1x256x256.size i1, p1⟩, ⟨Rect.unit (s := S1x1024x256) ![0, 0, 0] S1x256x256.size i0, p0⟩])
      = block i x0 x1 x2 := by
  subst h0 h1 h2 h3
  funext y
  have y0 : (y 0).val = 0 := Nat.lt_one_iff.mp (y 0).isLt
  have y1 : (y 1).val < 1024 := (y 1).isLt
  have hq : ∀ (s : Fin 4), (y 1).val / 256 = s.val → block i x0 x1 x2 y
      = finish (sums (queries i x0 s) x1 x2 22) (ix3 0 ⟨(y 1).val % 256, Nat.mod_lt _ (by decide)⟩ (y 2)) := fun s hs => by
    unfold block
    rw [show (⟨(y 1).val / 256, by omega⟩ : Fin 4) = s from Fin.ext hs]
  by_cases c3 : 768 ≤ (y 1).val
  · rw [hq 3 (by simp; omega)]
    refine View.read_writes_cons_unit_of_mem m.view f i3 _ _ y _ rfl fun a => ?_
    fin_cases a <;> simp [ix3, y0]; omega
  rw [View.read_writes_cons_unit_of_not_mem m.view f i3 _ _ y rfl 1 (.inl (by simpa using c3))]
  by_cases c2 : 512 ≤ (y 1).val
  · rw [hq 2 (by simp; omega)]
    refine View.read_writes_cons_unit_of_mem m.view f i2 _ _ y _ rfl fun a => ?_
    fin_cases a <;> simp [ix3, y0]; omega
  rw [View.read_writes_cons_unit_of_not_mem m.view f i2 _ _ y rfl 1 (.inl (by simpa using c2))]
  by_cases c1 : 256 ≤ (y 1).val
  · rw [hq 1 (by simp; omega)]
    refine View.read_writes_cons_unit_of_mem m.view f i1 _ _ y _ rfl fun a => ?_
    fin_cases a <;> simp [ix3, y0]; omega
  rw [View.read_writes_cons_unit_of_not_mem m.view f i1 _ _ y rfl 1 (.inl (by simpa using c1))]
  rw [hq 0 (by simp; omega)]
  refine View.read_writes_cons_unit_of_mem m.view f i0 _ _ y _ rfl fun a => ?_
  fin_cases a <;> simp [ix3, y0]; omega

/-- The last two chunks written out. -/
theorem sums_last (q : FVec F S128x1024 .bf16) (x1 : Vec F S1x22x384x128 .bf16) (x2 : Vec F S1x1x22x80x384 .bf16) :
    sums q x1 x2 22 = grow (maximumf (peaks q x1 20) (peak (score q (keys x1 20))))
      (maximumf (maximumf (peaks q x1 20) (peak (score q (keys x1 20)))) (peak (score q (keys x1 21))))
      (grow (peaks q x1 20) (maximumf (peaks q x1 20) (peak (score q (keys x1 20)))) (sums q x1 x2 20) (score q (keys x1 20)) (vals x2 20))
      (score q (keys x1 21)) (vals x2 21) := rfl

end Cert.KernelIdeal.Attn

end
-- ==== Proof.Trip1.lean ====
/- One trip of the loop over the key chunks of sub-block 1: ten chunks. -/
module

public import proofs.«01_k».proof.Proof.Steps

@[expose] public section

set_option maxRecDepth 16384

noncomputable section

namespace Cert.KernelIdeal.Attn

open Idealize.ShloMosaic Idealize.SL.Sem Cert.KernelIdeal Cert.KernelIdeal.Gen

variable {F : FTy → Type} [FloatOps F] [Named F]

/-- Where trip `k` of the loop of sub-block 1 reads its keys. -/
theorem keysAt1 (k : Fin k0_t1_loop.trips) (u : Fin 10) :
    k0_off1 k (BitVec.ofNat 32 u.val) = ![0, 10 * k.val + u.val + 1, 0, 0] := by
  revert k u; decide

/-- Where trip `k` of the loop of sub-block 1 reads its values. -/
theorem valsAt1 (k : Fin k0_t1_loop.trips) (u : Fin 10) :
    k0_off2 k (BitVec.ofNat 32 u.val) = ![0, 0, 10 * k.val + u.val, 0, 0] := by
  revert k u; decide

set_option maxHeartbeats 4000000 in
/-- One trip of the loop of sub-block 1 takes what is carried before chunk `10 k` to what is carried before chunk
    `10 (k + 1)`, the first scratch buffer holding the scores of chunk `10 k`. -/
theorem trip1 (𝒱 : Variants) (c : Dev nD) (bd : Option 𝒱.V) (i : grid0.Coords) (arg3 : Memref sig .tc .vmem S1x256x1024 .f32) (harg3 : arg3.IsWhole) (arg4 : Memref sig .tc .vmem S1x22x384x128 .bf16) (harg4 : arg4.IsWhole) (arg5 : Memref sig .tc .vmem S1x1x22x80x384 .bf16) (harg5 : arg5.IsWhole) (arg6 : Memref sig .tc .vmem S1x1024x256 .bf16) (harg6 : arg6.IsWhole) (arg7 : Memref sig .tc .vmem S384x1024 .f32) (harg7 : arg7.IsWhole) (arg8 : Memref sig .tc .vmem S384x1024 .f32) (harg8 : arg8.IsWhole) (v12 : FVec F S128x256 .bf16) (v20 : FVec F S128x256 .bf16) (v28 : FVec F S128x256 .bf16) (v35 : FVec F S128x256 .f32)
    (x1 : Vec F S1x22x384x128 .bf16) (x2 : Vec F S1x1x22x80x384 .bf16) (k : Fin k0_t1_loop.trips)
    (f8 : BufTy.Contents (Elt F) arg8.view.ty) :
    (trip_k0_t1 (F := F) 𝒱 c bd i arg3 harg3 arg4 harg4 arg5 harg5 arg6 harg6 arg7 harg7 arg8 harg8 v12 v20 v28 v35 (harg4.unread x1) (harg5.unread x2) k).1
        (carried ((k0_pay199 v12 v20 v28 v35)) x1 x2 (10 * k.val)) (harg7.unread (score ((k0_pay199 v12 v20 v28 v35)) (keys x1 (10 * k.val)))) f8
      = carried ((k0_pay199 v12 v20 v28 v35)) x1 x2 (10 * (k.val + 1)) := by
  have hk : k.val < 2 := Nat.lt_of_lt_of_le k.isLt k0_t1_abs.2.1
  have hK : ∀ (u : Fin 10) inb, View.readAt (Elt F) arg4.view
      (Rect.unit (s := S1x22x384x128) (k0_off1 k (BitVec.ofNat 32 u.val)) S1x1x384x128.size inb).toLoadRect (harg4.unread x1)
        = keys x1 (10 * k.val + u.val + 1) := fun u inb =>
    load_keys harg4 x1 _ inb _ (by have := u.isLt; omega) (keysAt1 k u)
  have hV : ∀ (u : Fin 10) inb, View.readAt (Elt F) arg5.view
      (Rect.unit (s := S1x1x22x80x384) (k0_off2 k (BitVec.ofNat 32 u.val)) S1x1x1x80x384.size inb).toLoadRect (harg5.unread x2)
        = vals x2 (10 * k.val + u.val) := fun u inb =>
    load_vals harg5 x2 _ inb _ (by have := u.isLt; omega) (valsAt1 k u)
  have hK0 : ∀ inb, View.readAt (Elt F) arg4.view (Rect.unit (s := S1x22x384x128) (k0_off1 k 0#32) S1x1x384x128.size inb).toLoadRect
      (harg4.unread x1) = keys x1 (10 * k.val + 1) := hK 0
  have hV0 : ∀ inb, View.readAt (Elt F) arg5.view (Rect.unit (s := S1x1x22x80x384) (k0_off2 k 0#32) S1x1x1x80x384.size inb).toLoadRect
      (harg5.unread x2) = vals x2 (10 * k.val) := hV 0
  have hK1 : ∀ inb, View.readAt (Elt F) arg4.view (Rect.unit (s := S1x22x384x128) (k0_off1 k 1#32) S1x1x384x128.size inb).toLoadRect
      (harg4.unread x1) = keys x1 (10 * k.val + 2) := hK 1
  have hV1 : ∀ inb, View.readAt (Elt F) arg5.view (Rect.unit (s := S1x1x22x80x384) (k0_off2 k 1#32) S1x1x1x80x384.size inb).toLoadRect
      (harg5.unread x2) = vals x2 (10 * k.val + 1) := hV 1
  have hK2 : ∀ inb, View.readAt (Elt F) arg4.view (Rect.unit (s := S1x22x384x128) (k0_off1 k 2#32) S1x1x384x128.size inb).toLoadRect
      (harg4.unread x1) = keys x1 (10 * k.val + 3) := hK 2
  have hV2 : ∀ inb, View.readAt (Elt F) arg5.view (Rect.unit (s := S1x1x22x80x384) (k0_off2 k 2#32) S1x1x1x80x384.size inb).toLoadRect
      (harg5.unread x2) = vals x2 (10 * k.val + 2) := hV 2
  have hK3 : ∀ inb, View.readAt (Elt F) arg4.view (Rect.unit (s := S1x22x384x128) (k0_off1 k 3#32) S1x1x384x128.size inb).toLoadRect
      (harg4.unread x1) = keys x1 (10 * k.val + 4) := hK 3
  have hV3 : ∀ inb, View.readAt (Elt F) arg5.view (Rect.unit (s := S1x1x22x80x384) (k0_off2 k 3#32) S1x1x1x80x384.size inb).toLoadRect
      (harg5.unread x2) = vals x2 (10 * k.val + 3) := hV 3
  have hK4 : ∀ inb, View.readAt (Elt F) arg4.view (Rect.unit (s := S1x22x384x128) (k0_off1 k 4#32) S1x1x384x128.size inb).toLoadRect
      (harg4.unread x1) = keys x1 (10 * k.val + 5) := hK 4
  have hV4 : ∀ inb, View.readAt (Elt F) arg5.view (Rect.unit (s := S1x1x22x80x384) (k0_off2 k 4#32) S1x1x1x80x384.size inb).toLoadRect
      (harg5.unread x2) = vals x2 (10 * k.val + 4) := hV 4
  have hK5 : ∀ inb, View.readAt (Elt F) arg4.view (Rect.unit (s := S1x22x384x128) (k0_off1 k 5#32) S1x1x384x128.size inb).toLoadRect
      (harg4.unread x1) = keys x1 (10 * k.val + 6) := hK 5
  have hV5 : ∀ inb, View.readAt (Elt F) arg5.view (Rect.unit (s := S1x1x22x80x384) (k0_off2 k 5#32) S1x1x1x80x384.size inb).toLoadRect
      (harg5.unread x2) = vals x2 (10 * k.val + 5) := hV 5
  have hK6 : ∀ inb, View.readAt (Elt F) arg4.view (Rect.unit (s := S1x22x384x128) (k0_off1 k 6#32) S1x1x384x128.size inb).toLoadRect
      (harg4.unread x1) = keys x1 (10 * k.val + 7) := hK 6
  have hV6 : ∀ inb, View.readAt (Elt F) arg5.view (Rect.unit (s := S1x1x22x80x384) (k0_off2 k 6#32) S1x1x1x80x384.size inb).toLoadRect
      (harg5.unread x2) = vals x2 (10 * k.val + 6) := hV 6
  have hK7 : ∀ inb, View.readAt (Elt F) arg4.view (Rect.unit (s := S1x22x384x128) (k0_off1 k 7#32) S1x1x384x128.size inb).toLoadRect
      (harg4.unread x1) = keys x1 (10 * k.val + 8) := hK 7
  have hV7 : ∀ inb, View.readAt (Elt F) arg5.view (Rect.unit (s := S1x1x22x80x384) (k0_off2 k 7#32) S1x1x1x80x384.size inb).toLoadRect
      (harg5.unread x2) = vals x2 (10 * k.val + 7) := hV 7
  have hK8 : ∀ inb, View.readAt (Elt F) arg4.view (Rect.unit (s := S1x22x384x128) (k0_off1 k 8#32) S1x1x384x128.size inb).toLoadRect
      (harg4.unread x1) = keys x1 (10 * k.val + 9) := hK 8
  have hV8 : ∀ inb, View.readAt (Elt F) arg5.view (Rect.unit (s := S1x1x22x80x384) (k0_off2 k 8#32) S1x1x1x80x384.size inb).toLoadRect
      (harg5.unread x2) = vals x2 (10 * k.val + 8) := hV 8
  have hK9 : ∀ inb, View.readAt (Elt F) arg4.view (Rect.unit (s := S1x22x384x128) (k0_off1 k 9#32) S1x1x384x128.size inb).toLoadRect
      (harg4.unread x1) = keys x1 (10 * k.val + 10) := hK 9
  have hV9 : ∀ inb, View.readAt (Elt F) arg5.view (Rect.unit (s := S1x1x22x80x384) (k0_off2 k 9#32) S1x1x1x80x384.size inb).toLoadRect
      (harg5.unread x2) = vals x2 (10 * k.val + 9) := hV 9
  have hS : ∀ s inb, View.readAt (Elt F) arg7.view (Rect.unit (s := S384x1024) ![0, 0] ![384, 1024] inb).toLoadRect (harg7.unread s) = s :=
    fun s inb => load_whole harg7 s inb
  unfold trip_k0_t1
  dsimp only
  simp only [k0_pay205, k0_pay206, k0_pay207, k0_pay208,
    trip_k0_t1.sl.HW_arg7_1, trip_k0_t1.sl.HW_arg7_2, trip_k0_t1.sl.HW_arg7_3, trip_k0_t1.sl.HW_arg7_4,
    trip_k0_t1.sl.HW_arg8_1, trip_k0_t1.sl.HW_arg8_2, trip_k0_t1.sl.HW_arg8_3, trip_k0_t1.sl.HW_arg8_4,
    trip_k0_t1.sl.HW_arg8_5, trip_k0_t1.sl.arg9, trip_k0_t1.sl.cst_236, trip_k0_t1.sl.cst_239, trip_k0_t1.sl.cst_247,
    trip_k0_t1.sl.v385, trip_k0_t1.sl.v386, trip_k0_t1.sl.v387, trip_k0_t1.sl.v388, trip_k0_t1.sl.v390,
    trip_k0_t1.sl.v391, trip_k0_t1.sl.v393, trip_k0_t1.sl.v394, trip_k0_t1.sl.v395, trip_k0_t1.sl.v396,
    trip_k0_t1.sl.v398, trip_k0_t1.sl.v399, trip_k0_t1.sl.v400, trip_k0_t1.sl.v402, trip_k0_t1.sl.v403,
    trip_k0_t1.sl.v404, trip_k0_t1.sl.v405, trip_k0_t1.sl.v406, trip_k0_t1.sl.v407, trip_k0_t1.sl.v408,
    trip_k0_t1.sl.v410, trip_k0_t1.sl.v411, trip_k0_t1.sl.v412, trip_k0_t1.sl.v413, trip_k0_t1.sl.v414,
    trip_k0_t1.sl.v415, trip_k0_t1.sl.v417, trip_k0_t1.sl.v418, trip_k0_t1.sl.v420, trip_k0_t1.sl.v421,
    trip_k0_t1.sl.v422, trip_k0_t1.sl.v423, trip_k0_t1.sl.v425, trip_k0_t1.sl.v426, trip_k0_t1.sl.v427,
    trip_k0_t1.sl.v428, trip_k0_t1.sl.v429, trip_k0_t1.sl.v430, trip_k0_t1.sl.v431, trip_k0_t1.sl.v432,
    trip_k0_t1.sl.v433, trip_k0_t1.sl.v434, trip_k0_t1.sl.v435, trip_k0_t1.sl.v437, trip_k0_t1.sl.v438,
    trip_k0_t1.sl.v439, trip_k0_t1.sl.v440, trip_k0_t1.sl.v441, trip_k0_t1.sl.v442, trip_k0_t1.sl.v444,
    trip_k0_t1.sl.v445, trip_k0_t1.sl.v447, trip_k0_t1.sl.v448, trip_k0_t1.sl.v449, trip_k0_t1.sl.v450,
    trip_k0_t1.sl.v452, trip_k0_t1.sl.v453, trip_k0_t1.sl.v454, trip_k0_t1.sl.v455, trip_k0_t1.sl.v456,
    trip_k0_t1.sl.v457, trip_k0_t1.sl.v458, trip_k0_t1.sl.v459, trip_k0_t1.sl.v460, trip_k0_t1.sl.v461,
    trip_k0_t1.sl.v462, trip_k0_t1.sl.v464, trip_k0_t1.sl.v465, trip_k0_t1.sl.v466, trip_k0_t1.sl.v467,
    trip_k0_t1.sl.v468, trip_k0_t1.sl.v469, trip_k0_t1.sl.v471, trip_k0_t1.sl.v472, trip_k0_t1.sl.v474,
    trip_k0_t1.sl.v475, trip_k0_t1.sl.v476, trip_k0_t1.sl.v477, trip_k0_t1.sl.v479, trip_k0_t1.sl.v480,
    trip_k0_t1.sl.v481, trip_k0_t1.sl.v482, trip_k0_t1.sl.v483, trip_k0_t1.sl.v484, trip_k0_t1.sl.v485,
    trip_k0_t1.sl.v486, trip_k0_t1.sl.v487, trip_k0_t1.sl.v488, trip_k0_t1.sl.v489, trip_k0_t1.sl.v491,
    trip_k0_t1.sl.v492, trip_k0_t1.sl.v493, trip_k0_t1.sl.v494, trip_k0_t1.sl.v495, trip_k0_t1.sl.v496,
    trip_k0_t1.sl.v498, trip_k0_t1.sl.v499, trip_k0_t1.sl.v501, trip_k0_t1.sl.v502, trip_k0_t1.sl.v503,
    trip_k0_t1.sl.v504, trip_k0_t1.sl.v506, trip_k0_t1.sl.v507, trip_k0_t1.sl.v508, trip_k0_t1.sl.v509,
    trip_k0_t1.sl.v510, trip_k0_t1.sl.v511, trip_k0_t1.sl.v512, trip_k0_t1.sl.v513, trip_k0_t1.sl.v514,
    trip_k0_t1.sl.v515, trip_k0_t1.sl.v516, trip_k0_t1.sl.v518, trip_k0_t1.sl.v519, trip_k0_t1.sl.v520,
    trip_k0_t1.sl.v521, trip_k0_t1.sl.v522, trip_k0_t1.sl.v523, trip_k0_t1.sl.v525, trip_k0_t1.sl.v526,
    trip_k0_t1.sl.v528, trip_k0_t1.sl.v529, trip_k0_t1.sl.v530, trip_k0_t1.sl.v531, trip_k0_t1.sl.v533,
    trip_k0_t1.sl.v534, trip_k0_t1.sl.v535, trip_k0_t1.sl.v536, trip_k0_t1.sl.v537, trip_k0_t1.sl.v538,
    trip_k0_t1.sl.v539, trip_k0_t1.sl.v540, trip_k0_t1.sl.v541, trip_k0_t1.sl.v542, trip_k0_t1.sl.v543,
    trip_k0_t1.sl.v545, trip_k0_t1.sl.v546, trip_k0_t1.sl.v547, trip_k0_t1.sl.v548, trip_k0_t1.sl.v549,
    trip_k0_t1.sl.v550, trip_k0_t1.sl.v552, trip_k0_t1.sl.v553, trip_k0_t1.sl.v555, trip_k0_t1.sl.v556,
    trip_k0_t1.sl.v557, trip_k0_t1.sl.v558, trip_k0_t1.sl.v560, trip_k0_t1.sl.v561, trip_k0_t1.sl.v562,
    trip_k0_t1.sl.v563, trip_k0_t1.sl.v564, trip_k0_t1.sl.v565, trip_k0_t1.sl.v566, trip_k0_t1.sl.v567,
    trip_k0_t1.sl.v568, trip_k0_t1.sl.v569, trip_k0_t1.sl.v570, trip_k0_t1.sl.v572, trip_k0_t1.sl.v573,
    trip_k0_t1.sl.v574, trip_k0_t1.sl.v575, trip_k0_t1.sl.v576, trip_k0_t1.sl.v577, trip_k0_t1.sl.v579,
    trip_k0_t1.sl.v580, trip_k0_t1.sl.v582, trip_k0_t1.sl.v583, trip_k0_t1.sl.v584, trip_k0_t1.sl.v585,
    trip_k0_t1.sl.v587, trip_k0_t1.sl.v588, trip_k0_t1.sl.v589, trip_k0_t1.sl.v590, trip_k0_t1.sl.v591,
    trip_k0_t1.sl.v592, trip_k0_t1.sl.v593, trip_k0_t1.sl.v594, trip_k0_t1.sl.v595, trip_k0_t1.sl.v596,
    trip_k0_t1.sl.v597, trip_k0_t1.sl.v599, trip_k0_t1.sl.v600, trip_k0_t1.sl.v601, trip_k0_t1.sl.v602,
    trip_k0_t1.sl.v603, trip_k0_t1.sl.v604, trip_k0_t1.sl.v606, trip_k0_t1.sl.v607, trip_k0_t1.sl.v609,
    trip_k0_t1.sl.v610, trip_k0_t1.sl.v611, trip_k0_t1.sl.v612, trip_k0_t1.sl.v614, trip_k0_t1.sl.v615,
    trip_k0_t1.sl.v616, trip_k0_t1.sl.v617, trip_k0_t1.sl.v618, trip_k0_t1.sl.v619, trip_k0_t1.sl.v620,
    trip_k0_t1.sl.v621, trip_k0_t1.sl.v622, trip_k0_t1.sl.v623, trip_k0_t1.sl.v624, trip_k0_t1.sl.v626,
    trip_k0_t1.sl.v627, trip_k0_t1.sl.v628, trip_k0_t1.sl.v629, trip_k0_t1.sl.v630, trip_k0_t1.sl.v631,
    trip_k0_t1.sl.v633, trip_k0_t1.sl.v634, trip_k0_t1.sl.v644]
  simp only [hS, View.readCov_cons_toLoadRect, shapeCast_self, hK0, hV0, hK1, hV1, hK2, hV2, hK3, hV3, hK4, hV4, hK5, hV5, hK6, hV6, hK7, hV7, hK8, hV8, hK9, hV9, ← score_def]
  rw [show 10 * (k.val + 1) = 10 * k.val + 10 from rfl]
  simp only [carried, ten_peaks, ten_sums, grow_def, peak_def]

/-- One trip of the loop of sub-block 1 leaves the scores of chunk `10 (k + 1)` in the first scratch buffer. -/
theorem store1 (𝒱 : Variants) (c : Dev nD) (bd : Option 𝒱.V) (i : grid0.Coords) (arg3 : Memref sig .tc .vmem S1x256x1024 .f32) (harg3 : arg3.IsWhole) (arg4 : Memref sig .tc .vmem S1x22x384x128 .bf16) (harg4 : arg4.IsWhole) (arg5 : Memref sig .tc .vmem S1x1x22x80x384 .bf16) (harg5 : arg5.IsWhole) (arg6 : Memref sig .tc .vmem S1x1024x256 .bf16) (harg6 : arg6.IsWhole) (arg7 : Memref sig .tc .vmem S384x1024 .f32) (harg7 : arg7.IsWhole) (arg8 : Memref sig .tc .vmem S384x1024 .f32) (harg8 : arg8.IsWhole) (v12 : FVec F S128x256 .bf16) (v20 : FVec F S128x256 .bf16) (v28 : FVec F S128x256 .bf16) (v35 : FVec F S128x256 .f32)
    (x1 : Vec F S1x22x384x128 .bf16) (x2 : Vec F S1x1x22x80x384 .bf16) (k : Fin k0_t1_loop.trips)
    (acc : FVec F S1x1024 .f32 × FVec F S80x1024 .f32 × FVec F S1x1024 .f32)
    (f7 : BufTy.Contents (Elt F) arg7.view.ty) (f8 : BufTy.Contents (Elt F) arg8.view.ty) :
    ∃ L, (trip_k0_t1 (F := F) 𝒱 c bd i arg3 harg3 arg4 harg4 arg5 harg5 arg6 harg6 arg7 harg7 arg8 harg8 v12 v20 v28 v35 (harg4.unread x1) (harg5.unread x2) k).2.1 acc f7 f8
      = ⟨Rect.unit (s := S384x1024) ![0, 0] S384x1024.size inb_S384x1024_S384x1024_0_0, score ((k0_pay199 v12 v20 v28 v35)) (keys x1 (10 * (k.val + 1)))⟩ :: L := by
  have hk : k.val < 2 := Nat.lt_of_lt_of_le k.isLt k0_t1_abs.2.1
  have hK : ∀ inb, View.readAt (Elt F) arg4.view (Rect.unit (s := S1x22x384x128) (k0_off1 k 9#32) S1x1x384x128.size inb).toLoadRect
      (harg4.unread x1) = keys x1 (10 * (k.val + 1)) := fun inb => load_keys harg4 x1 _ inb _ (by omega) (keysAt1 k 9)
  unfold trip_k0_t1
  refine ⟨_, congrArg (fun x => (⟨Rect.unit (s := S384x1024) ![0, 0] S384x1024.size inb_S384x1024_S384x1024_0_0, x⟩ :
    View.Piece (Elt F) S384x1024 .f32) :: _) ?_⟩
  simp only [k0_pay205, trip_k0_t1.sl.v634, trip_k0_t1.sl.v633, trip_k0_t1.sl.cst_236, hK, shapeCast_self, ← score_def]

/-- The loop of sub-block 1, entered with what is carried before chunk 0 and the scores of chunk 0, ends with what is
    carried before chunk 20, its last store being the scores of chunk 20. -/
theorem loop1 (𝒱 : Variants) (c : Dev nD) (bd : Option 𝒱.V) (i : grid0.Coords) (arg3 : Memref sig .tc .vmem S1x256x1024 .f32) (harg3 : arg3.IsWhole) (arg4 : Memref sig .tc .vmem S1x22x384x128 .bf16) (harg4 : arg4.IsWhole) (arg5 : Memref sig .tc .vmem S1x1x22x80x384 .bf16) (harg5 : arg5.IsWhole) (arg6 : Memref sig .tc .vmem S1x1024x256 .bf16) (harg6 : arg6.IsWhole) (arg7 : Memref sig .tc .vmem S384x1024 .f32) (harg7 : arg7.IsWhole) (arg8 : Memref sig .tc .vmem S384x1024 .f32) (harg8 : arg8.IsWhole) (v12 : FVec F S128x256 .bf16) (v20 : FVec F S128x256 .bf16) (v28 : FVec F S128x256 .bf16) (v35 : FVec F S128x256 .f32)
    (x1 : Vec F S1x22x384x128 .bf16) (x2 : Vec F S1x1x22x80x384 .bf16)
    (G7 : BufTy.Contents (Elt F) arg7.view.ty) (G8 : BufTy.Contents (Elt F) arg8.view.ty)
    (init : FVec F S1x1024 .f32 × FVec F S80x1024 .f32 × FVec F S1x1024 .f32)
    (h7 : G7 = harg7.unread (score ((k0_pay199 v12 v20 v28 v35)) (keys x1 0))) (hi : init = carried ((k0_pay199 v12 v20 v28 v35)) x1 x2 0) :
    (st_k0_t1 (F := F) 𝒱 c bd i arg3 harg3 arg4 harg4 arg5 harg5 arg6 harg6 arg7 harg7 arg8 harg8 v12 v20 v28 v35 (harg4.unread x1) (harg5.unread x2) G7 G8 init k0_t1_loop.trips).1 = carried ((k0_pay199 v12 v20 v28 v35)) x1 x2 20
    ∧ ∃ L, (st_k0_t1 (F := F) 𝒱 c bd i arg3 harg3 arg4 harg4 arg5 harg5 arg6 harg6 arg7 harg7 arg8 harg8 v12 v20 v28 v35 (harg4.unread x1) (harg5.unread x2) G7 G8 init k0_t1_loop.trips).2.1
      = ⟨Rect.unit (s := S384x1024) ![0, 0] S384x1024.size inb_S384x1024_S384x1024_0_0, score ((k0_pay199 v12 v20 v28 v35)) (keys x1 20)⟩ :: L := by
  have ht : k0_t1_loop.trips = 2 := by decide
  have step : ∀ k : Fin k0_t1_loop.trips,
      (st_k0_t1 (F := F) 𝒱 c bd i arg3 harg3 arg4 harg4 arg5 harg5 arg6 harg6 arg7 harg7 arg8 harg8 v12 v20 v28 v35 (harg4.unread x1) (harg5.unread x2) G7 G8 init k.val).1 = carried ((k0_pay199 v12 v20 v28 v35)) x1 x2 (10 * k.val) →
      arg7.view.writes (Elt F) G7 (st_k0_t1 (F := F) 𝒱 c bd i arg3 harg3 arg4 harg4 arg5 harg5 arg6 harg6 arg7 harg7 arg8 harg8 v12 v20 v28 v35 (harg4.unread x1) (harg5.unread x2) G7 G8 init k.val).2.1
        = harg7.unread (score ((k0_pay199 v12 v20 v28 v35)) (keys x1 (10 * k.val))) →
      (st_k0_t1 (F := F) 𝒱 c bd i arg3 harg3 arg4 harg4 arg5 harg5 arg6 harg6 arg7 harg7 arg8 harg8 v12 v20 v28 v35 (harg4.unread x1) (harg5.unread x2) G7 G8 init (k.val + 1)).1 = carried ((k0_pay199 v12 v20 v28 v35)) x1 x2 (10 * (k.val + 1))
      ∧ ∃ L, (st_k0_t1 (F := F) 𝒱 c bd i arg3 harg3 arg4 harg4 arg5 harg5 arg6 harg6 arg7 harg7 arg8 harg8 v12 v20 v28 v35 (harg4.unread x1) (harg5.unread x2) G7 G8 init (k.val + 1)).2.1
        = ⟨Rect.unit (s := S384x1024) ![0, 0] S384x1024.size inb_S384x1024_S384x1024_0_0, score ((k0_pay199 v12 v20 v28 v35)) (keys x1 (10 * (k.val + 1)))⟩ :: L := by
    intro k h1 h2
    rw [st_k0_t1_succ]
    refine ⟨?_, ?_⟩
    · dsimp only [tripR_k0_t1]
      rw [h1, h2]
      exact trip1 𝒱 c bd i arg3 harg3 arg4 harg4 arg5 harg5 arg6 harg6 arg7 harg7 arg8 harg8 v12 v20 v28 v35 x1 x2 k _
    · obtain ⟨L, hL⟩ := store1 𝒱 c bd i arg3 harg3 arg4 harg4 arg5 harg5 arg6 harg6 arg7 harg7 arg8 harg8 v12 v20 v28 v35 x1 x2 k _ _ _
      exact ⟨_, (congrArg (· ++ _) hL).trans (List.cons_append ..)⟩
  have h1 := step ⟨0, by omega⟩ hi h7
  obtain ⟨L, hL⟩ := h1.2
  have h2 := step ⟨1, by omega⟩ h1.1 ((congrArg (arg7.view.writes (Elt F) G7) hL).trans (writes_whole harg7 G7 _ L _))
  exact ht ▸ h2

end Cert.KernelIdeal.Attn

end
-- ==== Proof.Trip2.lean ====
/- One trip of the loop over the key chunks of sub-block 2: ten chunks. -/
module

public import proofs.«01_k».proof.Proof.Steps

@[expose] public section

set_option maxRecDepth 16384

noncomputable section

namespace Cert.KernelIdeal.Attn

open Idealize.ShloMosaic Idealize.SL.Sem Cert.KernelIdeal Cert.KernelIdeal.Gen

variable {F : FTy → Type} [FloatOps F] [Named F]

/-- Where trip `k` of the loop of sub-block 2 reads its keys. -/
theorem keysAt2 (k : Fin k0_t2_loop.trips) (u : Fin 10) :
    k0_off3 k (BitVec.ofNat 32 u.val) = ![0, 10 * k.val + u.val + 1, 0, 0] := by
  revert k u; decide

/-- Where trip `k` of the loop of sub-block 2 reads its values. -/
theorem valsAt2 (k : Fin k0_t2_loop.trips) (u : Fin 10) :
    k0_off4 k (BitVec.ofNat 32 u.val) = ![0, 0, 10 * k.val + u.val, 0, 0] := by
  revert k u; decide

set_option maxHeartbeats 4000000 in
/-- One trip of the loop of sub-block 2 takes what is carried before chunk `10 k` to what is carried before chunk
    `10 (k + 1)`, the first scratch buffer holding the scores of chunk `10 k`. -/
theorem trip2 (𝒱 : Variants) (c : Dev nD) (bd : Option 𝒱.V) (i : grid0.Coords) (arg3 : Memref sig .tc .vmem S1x256x1024 .f32) (harg3 : arg3.IsWhole) (arg4 : Memref sig .tc .vmem S1x22x384x128 .bf16) (harg4 : arg4.IsWhole) (arg5 : Memref sig .tc .vmem S1x1x22x80x384 .bf16) (harg5 : arg5.IsWhole) (arg6 : Memref sig .tc .vmem S1x1024x256 .bf16) (harg6 : arg6.IsWhole) (arg7 : Memref sig .tc .vmem S384x1024 .f32) (harg7 : arg7.IsWhole) (arg8 : Memref sig .tc .vmem S384x1024 .f32) (harg8 : arg8.IsWhole) (v132 : FVec F S128x1024 .bf16) (v133 : FVec F S1x1024 .f32) (v134 : FVec F S80x1024 .f32) (v137 : FVec F S384x1024 .f32)
    (x1 : Vec F S1x22x384x128 .bf16) (x2 : Vec F S1x1x22x80x384 .bf16) (k : Fin k0_t2_loop.trips)
    (f8 : BufTy.Contents (Elt F) arg8.view.ty) :
    (trip_k0_t2 (F := F) 𝒱 c bd i arg3 harg3 arg4 harg4 arg5 harg5 arg6 harg6 arg7 harg7 arg8 harg8 v132 v133 v134 v137 (harg4.unread x1) (harg5.unread x2) k).1
        (carried (v132) x1 x2 (10 * k.val)) (harg7.unread (score (v132) (keys x1 (10 * k.val)))) f8
      = carried (v132) x1 x2 (10 * (k.val + 1)) := by
  have hk : k.val < 2 := Nat.lt_of_lt_of_le k.isLt k0_t2_abs.2.1
  have hK : ∀ (u : Fin 10) inb, View.readAt (Elt F) arg4.view
      (Rect.unit (s := S1x22x384x128) (k0_off3 k (BitVec.ofNat 32 u.val)) S1x1x384x128.size inb).toLoadRect (harg4.unread x1)
        = keys x1 (10 * k.val + u.val + 1) := fun u inb =>
    load_keys harg4 x1 _ inb _ (by have := u.isLt; omega) (keysAt2 k u)
  have hV : ∀ (u : Fin 10) inb, View.readAt (Elt F) arg5.view
      (Rect.unit (s := S1x1x22x80x384) (k0_off4 k (BitVec.ofNat 32 u.val)) S1x1x1x80x384.size inb).toLoadRect (harg5.unread x2)
        = vals x2 (10 * k.val + u.val) := fun u inb =>
    load_vals harg5 x2 _ inb _ (by have := u.isLt; omega) (valsAt2 k u)
  have hK0 : ∀ inb, View.readAt (Elt F) arg4.view (Rect.unit (s := S1x22x384x128) (k0_off3 k 0#32) S1x1x384x128.size inb).toLoadRect
      (harg4.unread x1) = keys x1 (10 * k.val + 1) := hK 0
  have hV0 : ∀ inb, View.readAt (Elt F) arg5.view (Rect.unit (s := S1x1x22x80x384) (k0_off4 k 0#32) S1x1x1x80x384.size inb).toLoadRect
      (harg5.unread x2) = vals x2 (10 * k.val) := hV 0
  have hK1 : ∀ inb, View.readAt (Elt F) arg4.view (Rect.unit (s := S1x22x384x128) (k0_off3 k 1#32) S1x1x384x128.size inb).toLoadRect
      (harg4.unread x1) = keys x1 (10 * k.val + 2) := hK 1
  have hV1 : ∀ inb, View.readAt (Elt F) arg5.view (Rect.unit (s := S1x1x22x80x384) (k0_off4 k 1#32) S1x1x1x80x384.size inb).toLoadRect
      (harg5.unread x2) = vals x2 (10 * k.val + 1) := hV 1
  have hK2 : ∀ inb, View.readAt (Elt F) arg4.view (Rect.unit (s := S1x22x384x128) (k0_off3 k 2#32) S1x1x384x128.size inb).toLoadRect
      (harg4.unread x1) = keys x1 (10 * k.val + 3) := hK 2
  have hV2 : ∀ inb, View.readAt (Elt F) arg5.view (Rect.unit (s := S1x1x22x80x384) (k0_off4 k 2#32) S1x1x1x80x384.size inb).toLoadRect
      (harg5.unread x2) = vals x2 (10 * k.val + 2) := hV 2
  have hK3 : ∀ inb, View.readAt (Elt F) arg4.view (Rect.unit (s := S1x22x384x128) (k0_off3 k 3#32) S1x1x384x128.size inb).toLoadRect
      (harg4.unread x1) = keys x1 (10 * k.val + 4) := hK 3
  have hV3 : ∀ inb, View.readAt (Elt F) arg5.view (Rect.unit (s := S1x1x22x80x384) (k0_off4 k 3#32) S1x1x1x80x384.size inb).toLoadRect
      (harg5.unread x2) = vals x2 (10 * k.val + 3) := hV 3
  have hK4 : ∀ inb, View.readAt (Elt F) arg4.view (Rect.unit (s := S1x22x384x128) (k0_off3 k 4#32) S1x1x384x128.size inb).toLoadRect
      (harg4.unread x1) = keys x1 (10 * k.val + 5) := hK 4
  have hV4 : ∀ inb, View.readAt (Elt F) arg5.view (Rect.unit (s := S1x1x22x80x384) (k0_off4 k 4#32) S1x1x1x80x384.size inb).toLoadRect
      (harg5.unread x2) = vals x2 (10 * k.val + 4) := hV 4
  have hK5 : ∀ inb, View.readAt (Elt F) arg4.view (Rect.unit (s := S1x22x384x128) (k0_off3 k 5#32) S1x1x384x128.size inb).toLoadRect
      (harg4.unread x1) = keys x1 (10 * k.val + 6) := hK 5
  have hV5 : ∀ inb, View.readAt (Elt F) arg5.view (Rect.unit (s := S1x1x22x80x384) (k0_off4 k 5#32) S1x1x1x80x384.size inb).toLoadRect
      (harg5.unread x2) = vals x2 (10 * k.val + 5) := hV 5
  have hK6 : ∀ inb, View.readAt (Elt F) arg4.view (Rect.unit (s := S1x22x384x128) (k0_off3 k 6#32) S1x1x384x128.size inb).toLoadRect
      (harg4.unread x1) = keys x1 (10 * k.val + 7) := hK 6
  have hV6 : ∀ inb, View.readAt (Elt F) arg5.view (Rect.unit (s := S1x1x22x80x384) (k0_off4 k 6#32) S1x1x1x80x384.size inb).toLoadRect
      (harg5.unread x2) = vals x2 (10 * k.val + 6) := hV 6
  have hK7 : ∀ inb, View.readAt (Elt F) arg4.view (Rect.unit (s := S1x22x384x128) (k0_off3 k 7#32) S1x1x384x128.size inb).toLoadRect
      (harg4.unread x1) = keys x1 (10 * k.val + 8) := hK 7
  have hV7 : ∀ inb, View.readAt (Elt F) arg5.view (Rect.unit (s := S1x1x22x80x384) (k0_off4 k 7#32) S1x1x1x80x384.size inb).toLoadRect
      (harg5.unread x2) = vals x2 (10 * k.val + 7) := hV 7
  have hK8 : ∀ inb, View.readAt (Elt F) arg4.view (Rect.unit (s := S1x22x384x128) (k0_off3 k 8#32) S1x1x384x128.size inb).toLoadRect
      (harg4.unread x1) = keys x1 (10 * k.val + 9) := hK 8
  have hV8 : ∀ inb, View.readAt (Elt F) arg5.view (Rect.unit (s := S1x1x22x80x384) (k0_off4 k 8#32) S1x1x1x80x384.size inb).toLoadRect
      (harg5.unread x2) = vals x2 (10 * k.val + 8) := hV 8
  have hK9 : ∀ inb, View.readAt (Elt F) arg4.view (Rect.unit (s := S1x22x384x128) (k0_off3 k 9#32) S1x1x384x128.size inb).toLoadRect
      (harg4.unread x1) = keys x1 (10 * k.val + 10) := hK 9
  have hV9 : ∀ inb, View.readAt (Elt F) arg5.view (Rect.unit (s := S1x1x22x80x384) (k0_off4 k 9#32) S1x1x1x80x384.size inb).toLoadRect
      (harg5.unread x2) = vals x2 (10 * k.val + 9) := hV 9
  have hS : ∀ s inb, View.readAt (Elt F) arg7.view (Rect.unit (s := S384x1024) ![0, 0] ![384, 1024] inb).toLoadRect (harg7.unread s) = s :=
    fun s inb => load_whole harg7 s inb
  unfold trip_k0_t2
  dsimp only
  simp only [k0_pay223, k0_pay224, k0_pay225, k0_pay226,
    trip_k0_t2.sl.HW_arg7_1, trip_k0_t2.sl.HW_arg7_2, trip_k0_t2.sl.HW_arg7_3, trip_k0_t2.sl.HW_arg7_4,
    trip_k0_t2.sl.HW_arg8_1, trip_k0_t2.sl.HW_arg8_2, trip_k0_t2.sl.HW_arg8_3, trip_k0_t2.sl.HW_arg8_4,
    trip_k0_t2.sl.HW_arg8_5, trip_k0_t2.sl.arg9, trip_k0_t2.sl.cst_236, trip_k0_t2.sl.cst_239, trip_k0_t2.sl.cst_247,
    trip_k0_t2.sl.v385, trip_k0_t2.sl.v386, trip_k0_t2.sl.v387, trip_k0_t2.sl.v388, trip_k0_t2.sl.v390,
    trip_k0_t2.sl.v391, trip_k0_t2.sl.v393, trip_k0_t2.sl.v394, trip_k0_t2.sl.v395, trip_k0_t2.sl.v396,
    trip_k0_t2.sl.v398, trip_k0_t2.sl.v399, trip_k0_t2.sl.v400, trip_k0_t2.sl.v402, trip_k0_t2.sl.v403,
    trip_k0_t2.sl.v404, trip_k0_t2.sl.v405, trip_k0_t2.sl.v406, trip_k0_t2.sl.v407, trip_k0_t2.sl.v408,
    trip_k0_t2.sl.v410, trip_k0_t2.sl.v411, trip_k0_t2.sl.v412, trip_k0_t2.sl.v413, trip_k0_t2.sl.v414,
    trip_k0_t2.sl.v415, trip_k0_t2.sl.v417, trip_k0_t2.sl.v418, trip_k0_t2.sl.v420, trip_k0_t2.sl.v421,
    trip_k0_t2.sl.v422, trip_k0_t2.sl.v423, trip_k0_t2.sl.v425, trip_k0_t2.sl.v426, trip_k0_t2.sl.v427,
    trip_k0_t2.sl.v428, trip_k0_t2.sl.v429, trip_k0_t2.sl.v430, trip_k0_t2.sl.v431, trip_k0_t2.sl.v432,
    trip_k0_t2.sl.v433, trip_k0_t2.sl.v434, trip_k0_t2.sl.v435, trip_k0_t2.sl.v437, trip_k0_t2.sl.v438,
    trip_k0_t2.sl.v439, trip_k0_t2.sl.v440, trip_k0_t2.sl.v441, trip_k0_t2.sl.v442, trip_k0_t2.sl.v444,
    trip_k0_t2.sl.v445, trip_k0_t2.sl.v447, trip_k0_t2.sl.v448, trip_k0_t2.sl.v449, trip_k0_t2.sl.v450,
    trip_k0_t2.sl.v452, trip_k0_t2.sl.v453, trip_k0_t2.sl.v454, trip_k0_t2.sl.v455, trip_k0_t2.sl.v456,
    trip_k0_t2.sl.v457, trip_k0_t2.sl.v458, trip_k0_t2.sl.v459, trip_k0_t2.sl.v460, trip_k0_t2.sl.v461,
    trip_k0_t2.sl.v462, trip_k0_t2.sl.v464, trip_k0_t2.sl.v465, trip_k0_t2.sl.v466, trip_k0_t2.sl.v467,
    trip_k0_t2.sl.v468, trip_k0_t2.sl.v469, trip_k0_t2.sl.v471, trip_k0_t2.sl.v472, trip_k0_t2.sl.v474,
    trip_k0_t2.sl.v475, trip_k0_t2.sl.v476, trip_k0_t2.sl.v477, trip_k0_t2.sl.v479, trip_k0_t2.sl.v480,
    trip_k0_t2.sl.v481, trip_k0_t2.sl.v482, trip_k0_t2.sl.v483, trip_k0_t2.sl.v484, trip_k0_t2.sl.v485,
    trip_k0_t2.sl.v486, trip_k0_t2.sl.v487, trip_k0_t2.sl.v488, trip_k0_t2.sl.v489, trip_k0_t2.sl.v491,
    trip_k0_t2.sl.v492, trip_k0_t2.sl.v493, trip_k0_t2.sl.v494, trip_k0_t2.sl.v495, trip_k0_t2.sl.v496,
    trip_k0_t2.sl.v498, trip_k0_t2.sl.v499, trip_k0_t2.sl.v501, trip_k0_t2.sl.v502, trip_k0_t2.sl.v503,
    trip_k0_t2.sl.v504, trip_k0_t2.sl.v506, trip_k0_t2.sl.v507, trip_k0_t2.sl.v508, trip_k0_t2.sl.v509,
    trip_k0_t2.sl.v510, trip_k0_t2.sl.v511, trip_k0_t2.sl.v512, trip_k0_t2.sl.v513, trip_k0_t2.sl.v514,
    trip_k0_t2.sl.v515, trip_k0_t2.sl.v516, trip_k0_t2.sl.v518, trip_k0_t2.sl.v519, trip_k0_t2.sl.v520,
    trip_k0_t2.sl.v521, trip_k0_t2.sl.v522, trip_k0_t2.sl.v523, trip_k0_t2.sl.v525, trip_k0_t2.sl.v526,
    trip_k0_t2.sl.v528, trip_k0_t2.sl.v529, trip_k0_t2.sl.v530, trip_k0_t2.sl.v531, trip_k0_t2.sl.v533,
    trip_k0_t2.sl.v534, trip_k0_t2.sl.v535, trip_k0_t2.sl.v536, trip_k0_t2.sl.v537, trip_k0_t2.sl.v538,
    trip_k0_t2.sl.v539, trip_k0_t2.sl.v540, trip_k0_t2.sl.v541, trip_k0_t2.sl.v542, trip_k0_t2.sl.v543,
    trip_k0_t2.sl.v545, trip_k0_t2.sl.v546, trip_k0_t2.sl.v547, trip_k0_t2.sl.v548, trip_k0_t2.sl.v549,
    trip_k0_t2.sl.v550, trip_k0_t2.sl.v552, trip_k0_t2.sl.v553, trip_k0_t2.sl.v555, trip_k0_t2.sl.v556,
    trip_k0_t2.sl.v557, trip_k0_t2.sl.v558, trip_k0_t2.sl.v560, trip_k0_t2.sl.v561, trip_k0_t2.sl.v562,
    trip_k0_t2.sl.v563, trip_k0_t2.sl.v564, trip_k0_t2.sl.v565, trip_k0_t2.sl.v566, trip_k0_t2.sl.v567,
    trip_k0_t2.sl.v568, trip_k0_t2.sl.v569, trip_k0_t2.sl.v570, trip_k0_t2.sl.v572, trip_k0_t2.sl.v573,
    trip_k0_t2.sl.v574, trip_k0_t2.sl.v575, trip_k0_t2.sl.v576, trip_k0_t2.sl.v577, trip_k0_t2.sl.v579,
    trip_k0_t2.sl.v580, trip_k0_t2.sl.v582, trip_k0_t2.sl.v583, trip_k0_t2.sl.v584, trip_k0_t2.sl.v585,
    trip_k0_t2.sl.v587, trip_k0_t2.sl.v588, trip_k0_t2.sl.v589, trip_k0_t2.sl.v590, trip_k0_t2.sl.v591,
    trip_k0_t2.sl.v592, trip_k0_t2.sl.v593, trip_k0_t2.sl.v594, trip_k0_t2.sl.v595, trip_k0_t2.sl.v596,
    trip_k0_t2.sl.v597, trip_k0_t2.sl.v599, trip_k0_t2.sl.v600, trip_k0_t2.sl.v601, trip_k0_t2.sl.v602,
    trip_k0_t2.sl.v603, trip_k0_t2.sl.v604, trip_k0_t2.sl.v606, trip_k0_t2.sl.v607, trip_k0_t2.sl.v609,
    trip_k0_t2.sl.v610, trip_k0_t2.sl.v611, trip_k0_t2.sl.v612, trip_k0_t2.sl.v614, trip_k0_t2.sl.v615,
    trip_k0_t2.sl.v616, trip_k0_t2.sl.v617, trip_k0_t2.sl.v618, trip_k0_t2.sl.v619, trip_k0_t2.sl.v620,
    trip_k0_t2.sl.v621, trip_k0_t2.sl.v622, trip_k0_t2.sl.v623, trip_k0_t2.sl.v624, trip_k0_t2.sl.v626,
    trip_k0_t2.sl.v627, trip_k0_t2.sl.v628, trip_k0_t2.sl.v629, trip_k0_t2.sl.v630, trip_k0_t2.sl.v631,
    trip_k0_t2.sl.v633, trip_k0_t2.sl.v634, trip_k0_t2.sl.v644]
  simp only [hS, View.readCov_cons_toLoadRect, shapeCast_self, hK0, hV0, hK1, hV1, hK2, hV2, hK3, hV3, hK4, hV4, hK5, hV5, hK6, hV6, hK7, hV7, hK8, hV8, hK9, hV9, ← score_def]
  rw [show 10 * (k.val + 1) = 10 * k.val + 10 from rfl]
  simp only [carried, ten_peaks, ten_sums, grow_def, peak_def]

/-- One trip of the loop of sub-block 2 leaves the scores of chunk `10 (k + 1)` in the first scratch buffer. -/
theorem store2 (𝒱 : Variants) (c : Dev nD) (bd : Option 𝒱.V) (i : grid0.Coords) (arg3 : Memref sig .tc .vmem S1x256x1024 .f32) (harg3 : arg3.IsWhole) (arg4 : Memref sig .tc .vmem S1x22x384x128 .bf16) (harg4 : arg4.IsWhole) (arg5 : Memref sig .tc .vmem S1x1x22x80x384 .bf16) (harg5 : arg5.IsWhole) (arg6 : Memref sig .tc .vmem S1x1024x256 .bf16) (harg6 : arg6.IsWhole) (arg7 : Memref sig .tc .vmem S384x1024 .f32) (harg7 : arg7.IsWhole) (arg8 : Memref sig .tc .vmem S384x1024 .f32) (harg8 : arg8.IsWhole) (v132 : FVec F S128x1024 .bf16) (v133 : FVec F S1x1024 .f32) (v134 : FVec F S80x1024 .f32) (v137 : FVec F S384x1024 .f32)
    (x1 : Vec F S1x22x384x128 .bf16) (x2 : Vec F S1x1x22x80x384 .bf16) (k : Fin k0_t2_loop.trips)
    (acc : FVec F S1x1024 .f32 × FVec F S80x1024 .f32 × FVec F S1x1024 .f32)
    (f7 : BufTy.Contents (Elt F) arg7.view.ty) (f8 : BufTy.Contents (Elt F) arg8.view.ty) :
    ∃ L, (trip_k0_t2 (F := F) 𝒱 c bd i arg3 harg3 arg4 harg4 arg5 harg5 arg6 harg6 arg7 harg7 arg8 harg8 v132 v133 v134 v137 (harg4.unread x1) (harg5.unread x2) k).2.1 acc f7 f8
      = ⟨Rect.unit (s := S384x1024) ![0, 0] S384x1024.size inb_S384x1024_S384x1024_0_0, score (v132) (keys x1 (10 * (k.val + 1)))⟩ :: L := by
  have hk : k.val < 2 := Nat.lt_of_lt_of_le k.isLt k0_t2_abs.2.1
  have hK : ∀ inb, View.readAt (Elt F) arg4.view (Rect.unit (s := S1x22x384x128) (k0_off3 k 9#32) S1x1x384x128.size inb).toLoadRect
      (harg4.unread x1) = keys x1 (10 * (k.val + 1)) := fun inb => load_keys harg4 x1 _ inb _ (by omega) (keysAt2 k 9)
  unfold trip_k0_t2
  refine ⟨_, congrArg (fun x => (⟨Rect.unit (s := S384x1024) ![0, 0] S384x1024.size inb_S384x1024_S384x1024_0_0, x⟩ :
    View.Piece (Elt F) S384x1024 .f32) :: _) ?_⟩
  simp only [k0_pay223, trip_k0_t2.sl.v634, trip_k0_t2.sl.v633, trip_k0_t2.sl.cst_236, hK, shapeCast_self, ← score_def]

/-- The loop of sub-block 2, entered with what is carried before chunk 0 and the scores of chunk 0, ends with what is
    carried before chunk 20, its last store being the scores of chunk 20. -/
theorem loop2 (𝒱 : Variants) (c : Dev nD) (bd : Option 𝒱.V) (i : grid0.Coords) (arg3 : Memref sig .tc .vmem S1x256x1024 .f32) (harg3 : arg3.IsWhole) (arg4 : Memref sig .tc .vmem S1x22x384x128 .bf16) (harg4 : arg4.IsWhole) (arg5 : Memref sig .tc .vmem S1x1x22x80x384 .bf16) (harg5 : arg5.IsWhole) (arg6 : Memref sig .tc .vmem S1x1024x256 .bf16) (harg6 : arg6.IsWhole) (arg7 : Memref sig .tc .vmem S384x1024 .f32) (harg7 : arg7.IsWhole) (arg8 : Memref sig .tc .vmem S384x1024 .f32) (harg8 : arg8.IsWhole) (v132 : FVec F S128x1024 .bf16) (v133 : FVec F S1x1024 .f32) (v134 : FVec F S80x1024 .f32) (v137 : FVec F S384x1024 .f32)
    (x1 : Vec F S1x22x384x128 .bf16) (x2 : Vec F S1x1x22x80x384 .bf16)
    (G7 : BufTy.Contents (Elt F) arg7.view.ty) (G8 : BufTy.Contents (Elt F) arg8.view.ty)
    (init : FVec F S1x1024 .f32 × FVec F S80x1024 .f32 × FVec F S1x1024 .f32)
    (h7 : G7 = harg7.unread (score (v132) (keys x1 0))) (hi : init = carried (v132) x1 x2 0) :
    (st_k0_t2 (F := F) 𝒱 c bd i arg3 harg3 arg4 harg4 arg5 harg5 arg6 harg6 arg7 harg7 arg8 harg8 v132 v133 v134 v137 (harg4.unread x1) (harg5.unread x2) G7 G8 init k0_t2_loop.trips).1 = carried (v132) x1 x2 20
    ∧ ∃ L, (st_k0_t2 (F := F) 𝒱 c bd i arg3 harg3 arg4 harg4 arg5 harg5 arg6 harg6 arg7 harg7 arg8 harg8 v132 v133 v134 v137 (harg4.unread x1) (harg5.unread x2) G7 G8 init k0_t2_loop.trips).2.1
      = ⟨Rect.unit (s := S384x1024) ![0, 0] S384x1024.size inb_S384x1024_S384x1024_0_0, score (v132) (keys x1 20)⟩ :: L := by
  have ht : k0_t2_loop.trips = 2 := by decide
  have step : ∀ k : Fin k0_t2_loop.trips,
      (st_k0_t2 (F := F) 𝒱 c bd i arg3 harg3 arg4 harg4 arg5 harg5 arg6 harg6 arg7 harg7 arg8 harg8 v132 v133 v134 v137 (harg4.unread x1) (harg5.unread x2) G7 G8 init k.val).1 = carried (v132) x1 x2 (10 * k.val) →
      arg7.view.writes (Elt F) G7 (st_k0_t2 (F := F) 𝒱 c bd i arg3 harg3 arg4 harg4 arg5 harg5 arg6 harg6 arg7 harg7 arg8 harg8 v132 v133 v134 v137 (harg4.unread x1) (harg5.unread x2) G7 G8 init k.val).2.1
        = harg7.unread (score (v132) (keys x1 (10 * k.val))) →
      (st_k0_t2 (F := F) 𝒱 c bd i arg3 harg3 arg4 harg4 arg5 harg5 arg6 harg6 arg7 harg7 arg8 harg8 v132 v133 v134 v137 (harg4.unread x1) (harg5.unread x2) G7 G8 init (k.val + 1)).1 = carried (v132) x1 x2 (10 * (k.val + 1))
      ∧ ∃ L, (st_k0_t2 (F := F) 𝒱 c bd i arg3 harg3 arg4 harg4 arg5 harg5 arg6 harg6 arg7 harg7 arg8 harg8 v132 v133 v134 v137 (harg4.unread x1) (harg5.unread x2) G7 G8 init (k.val + 1)).2.1
        = ⟨Rect.unit (s := S384x1024) ![0, 0] S384x1024.size inb_S384x1024_S384x1024_0_0, score (v132) (keys x1 (10 * (k.val + 1)))⟩ :: L := by
    intro k h1 h2
    rw [st_k0_t2_succ]
    refine ⟨?_, ?_⟩
    · dsimp only [tripR_k0_t2]
      rw [h1, h2]
      exact trip2 𝒱 c bd i arg3 harg3 arg4 harg4 arg5 harg5 arg6 harg6 arg7 harg7 arg8 harg8 v132 v133 v134 v137 x1 x2 k _
    · obtain ⟨L, hL⟩ := store2 𝒱 c bd i arg3 harg3 arg4 harg4 arg5 harg5 arg6 harg6 arg7 harg7 arg8 harg8 v132 v133 v134 v137 x1 x2 k _ _ _
      exact ⟨_, (congrArg (· ++ _) hL).trans (List.cons_append ..)⟩
  have h1 := step ⟨0, by omega⟩ hi h7
  obtain ⟨L, hL⟩ := h1.2
  have h2 := step ⟨1, by omega⟩ h1.1 ((congrArg (arg7.view.writes (Elt F) G7) hL).trans (writes_whole harg7 G7 _ L _))
  exact ht ▸ h2

end Cert.KernelIdeal.Attn

end
-- ==== Proof.Trip3.lean ====
/- One trip of the loop over the key chunks of sub-block 3: ten chunks. -/
module

public import proofs.«01_k».proof.Proof.Steps

@[expose] public section

set_option maxRecDepth 16384

noncomputable section

namespace Cert.KernelIdeal.Attn

open Idealize.ShloMosaic Idealize.SL.Sem Cert.KernelIdeal Cert.KernelIdeal.Gen

variable {F : FTy → Type} [FloatOps F] [Named F]

/-- Where trip `k` of the loop of sub-block 3 reads its keys. -/
theorem keysAt3 (k : Fin k0_t3_loop.trips) (u : Fin 10) :
    k0_off5 k (BitVec.ofNat 32 u.val) = ![0, 10 * k.val + u.val + 1, 0, 0] := by
  revert k u; decide

/-- Where trip `k` of the loop of sub-block 3 reads its values. -/
theorem valsAt3 (k : Fin k0_t3_loop.trips) (u : Fin 10) :
    k0_off6 k (BitVec.ofNat 32 u.val) = ![0, 0, 10 * k.val + u.val, 0, 0] := by
  revert k u; decide

set_option maxHeartbeats 4000000 in
/-- One trip of the loop of sub-block 3 takes what is carried before chunk `10 k` to what is carried before chunk
    `10 (k + 1)`, the first scratch buffer holding the scores of chunk `10 k`. -/
theorem trip3 (𝒱 : Variants) (c : Dev nD) (bd : Option 𝒱.V) (i : grid0.Coords) (arg3 : Memref sig .tc .vmem S1x256x1024 .f32) (harg3 : arg3.IsWhole) (arg4 : Memref sig .tc .vmem S1x22x384x128 .bf16) (harg4 : arg4.IsWhole) (arg5 : Memref sig .tc .vmem S1x1x22x80x384 .bf16) (harg5 : arg5.IsWhole) (arg6 : Memref sig .tc .vmem S1x1024x256 .bf16) (harg6 : arg6.IsWhole) (arg7 : Memref sig .tc .vmem S384x1024 .f32) (harg7 : arg7.IsWhole) (arg8 : Memref sig .tc .vmem S384x1024 .f32) (harg8 : arg8.IsWhole) (v4 : IVec S128x256 1) (v202 : FVec F S128x256 .bf16) (v210 : FVec F S128x256 .bf16) (v212 : FVec F S64x256 .f32) (v213 : FVec F S64x256 .f32) (v219 : Vec F S1x64x256 .f32)
    (x1 : Vec F S1x22x384x128 .bf16) (x2 : Vec F S1x1x22x80x384 .bf16) (k : Fin k0_t3_loop.trips)
    (f8 : BufTy.Contents (Elt F) arg8.view.ty) :
    (trip_k0_t3 (F := F) 𝒱 c bd i arg3 harg3 arg4 harg4 arg5 harg5 arg6 harg6 arg7 harg7 arg8 harg8 v4 v202 v210 v212 v213 v219 (harg4.unread x1) (harg5.unread x2) k).1
        (carried ((k0_pay238 v4 v202 v210 v212 v213 v219)) x1 x2 (10 * k.val)) (harg7.unread (score ((k0_pay238 v4 v202 v210 v212 v213 v219)) (keys x1 (10 * k.val)))) f8
      = carried ((k0_pay238 v4 v202 v210 v212 v213 v219)) x1 x2 (10 * (k.val + 1)) := by
  have hk : k.val < 2 := Nat.lt_of_lt_of_le k.isLt k0_t3_abs.2.1
  have hK : ∀ (u : Fin 10) inb, View.readAt (Elt F) arg4.view
      (Rect.unit (s := S1x22x384x128) (k0_off5 k (BitVec.ofNat 32 u.val)) S1x1x384x128.size inb).toLoadRect (harg4.unread x1)
        = keys x1 (10 * k.val + u.val + 1) := fun u inb =>
    load_keys harg4 x1 _ inb _ (by have := u.isLt; omega) (keysAt3 k u)
  have hV : ∀ (u : Fin 10) inb, View.readAt (Elt F) arg5.view
      (Rect.unit (s := S1x1x22x80x384) (k0_off6 k (BitVec.ofNat 32 u.val)) S1x1x1x80x384.size inb).toLoadRect (harg5.unread x2)
        = vals x2 (10 * k.val + u.val) := fun u inb =>
    load_vals harg5 x2 _ inb _ (by have := u.isLt; omega) (valsAt3 k u)
  have hK0 : ∀ inb, View.readAt (Elt F) arg4.view (Rect.unit (s := S1x22x384x128) (k0_off5 k 0#32) S1x1x384x128.size inb).toLoadRect
      (harg4.unread x1) = keys x1 (10 * k.val + 1) := hK 0
  have hV0 : ∀ inb, View.readAt (Elt F) arg5.view (Rect.unit (s := S1x1x22x80x384) (k0_off6 k 0#32) S1x1x1x80x384.size inb).toLoadRect
      (harg5.unread x2) = vals x2 (10 * k.val) := hV 0
  have hK1 : ∀ inb, View.readAt (Elt F) arg4.view (Rect.unit (s := S1x22x384x128) (k0_off5 k 1#32) S1x1x384x128.size inb).toLoadRect
      (harg4.unread x1) = keys x1 (10 * k.val + 2) := hK 1
  have hV1 : ∀ inb, View.readAt (Elt F) arg5.view (Rect.unit (s := S1x1x22x80x384) (k0_off6 k 1#32) S1x1x1x80x384.size inb).toLoadRect
      (harg5.unread x2) = vals x2 (10 * k.val + 1) := hV 1
  have hK2 : ∀ inb, View.readAt (Elt F) arg4.view (Rect.unit (s := S1x22x384x128) (k0_off5 k 2#32) S1x1x384x128.size inb).toLoadRect
      (harg4.unread x1) = keys x1 (10 * k.val + 3) := hK 2
  have hV2 : ∀ inb, View.readAt (Elt F) arg5.view (Rect.unit (s := S1x1x22x80x384) (k0_off6 k 2#32) S1x1x1x80x384.size inb).toLoadRect
      (harg5.unread x2) = vals x2 (10 * k.val + 2) := hV 2
  have hK3 : ∀ inb, View.readAt (Elt F) arg4.view (Rect.unit (s := S1x22x384x128) (k0_off5 k 3#32) S1x1x384x128.size inb).toLoadRect
      (harg4.unread x1) = keys x1 (10 * k.val + 4) := hK 3
  have hV3 : ∀ inb, View.readAt (Elt F) arg5.view (Rect.unit (s := S1x1x22x80x384) (k0_off6 k 3#32) S1x1x1x80x384.size inb).toLoadRect
      (harg5.unread x2) = vals x2 (10 * k.val + 3) := hV 3
  have hK4 : ∀ inb, View.readAt (Elt F) arg4.view (Rect.unit (s := S1x22x384x128) (k0_off5 k 4#32) S1x1x384x128.size inb).toLoadRect
      (harg4.unread x1) = keys x1 (10 * k.val + 5) := hK 4
  have hV4 : ∀ inb, View.readAt (Elt F) arg5.view (Rect.unit (s := S1x1x22x80x384) (k0_off6 k 4#32) S1x1x1x80x384.size inb).toLoadRect
      (harg5.unread x2) = vals x2 (10 * k.val + 4) := hV 4
  have hK5 : ∀ inb, View.readAt (Elt F) arg4.view (Rect.unit (s := S1x22x384x128) (k0_off5 k 5#32) S1x1x384x128.size inb).toLoadRect
      (harg4.unread x1) = keys x1 (10 * k.val + 6) := hK 5
  have hV5 : ∀ inb, View.readAt (Elt F) arg5.view (Rect.unit (s := S1x1x22x80x384) (k0_off6 k 5#32) S1x1x1x80x384.size inb).toLoadRect
      (harg5.unread x2) = vals x2 (10 * k.val + 5) := hV 5
  have hK6 : ∀ inb, View.readAt (Elt F) arg4.view (Rect.unit (s := S1x22x384x128) (k0_off5 k 6#32) S1x1x384x128.size inb).toLoadRect
      (harg4.unread x1) = keys x1 (10 * k.val + 7) := hK 6
  have hV6 : ∀ inb, View.readAt (Elt F) arg5.view (Rect.unit (s := S1x1x22x80x384) (k0_off6 k 6#32) S1x1x1x80x384.size inb).toLoadRect
      (harg5.unread x2) = vals x2 (10 * k.val + 6) := hV 6
  have hK7 : ∀ inb, View.readAt (Elt F) arg4.view (Rect.unit (s := S1x22x384x128) (k0_off5 k 7#32) S1x1x384x128.size inb).toLoadRect
      (harg4.unread x1) = keys x1 (10 * k.val + 8) := hK 7
  have hV7 : ∀ inb, View.readAt (Elt F) arg5.view (Rect.unit (s := S1x1x22x80x384) (k0_off6 k 7#32) S1x1x1x80x384.size inb).toLoadRect
      (harg5.unread x2) = vals x2 (10 * k.val + 7) := hV 7
  have hK8 : ∀ inb, View.readAt (Elt F) arg4.view (Rect.unit (s := S1x22x384x128) (k0_off5 k 8#32) S1x1x384x128.size inb).toLoadRect
      (harg4.unread x1) = keys x1 (10 * k.val + 9) := hK 8
  have hV8 : ∀ inb, View.readAt (Elt F) arg5.view (Rect.unit (s := S1x1x22x80x384) (k0_off6 k 8#32) S1x1x1x80x384.size inb).toLoadRect
      (harg5.unread x2) = vals x2 (10 * k.val + 8) := hV 8
  have hK9 : ∀ inb, View.readAt (Elt F) arg4.view (Rect.unit (s := S1x22x384x128) (k0_off5 k 9#32) S1x1x384x128.size inb).toLoadRect
      (harg4.unread x1) = keys x1 (10 * k.val + 10) := hK 9
  have hV9 : ∀ inb, View.readAt (Elt F) arg5.view (Rect.unit (s := S1x1x22x80x384) (k0_off6 k 9#32) S1x1x1x80x384.size inb).toLoadRect
      (harg5.unread x2) = vals x2 (10 * k.val + 9) := hV 9
  have hS : ∀ s inb, View.readAt (Elt F) arg7.view (Rect.unit (s := S384x1024) ![0, 0] ![384, 1024] inb).toLoadRect (harg7.unread s) = s :=
    fun s inb => load_whole harg7 s inb
  unfold trip_k0_t3
  dsimp only
  simp only [k0_pay244, k0_pay245, k0_pay246, k0_pay247,
    trip_k0_t3.sl.HW_arg7_1, trip_k0_t3.sl.HW_arg7_2, trip_k0_t3.sl.HW_arg7_3, trip_k0_t3.sl.HW_arg7_4,
    trip_k0_t3.sl.HW_arg8_1, trip_k0_t3.sl.HW_arg8_2, trip_k0_t3.sl.HW_arg8_3, trip_k0_t3.sl.HW_arg8_4,
    trip_k0_t3.sl.HW_arg8_5, trip_k0_t3.sl.arg9, trip_k0_t3.sl.cst_236, trip_k0_t3.sl.cst_239, trip_k0_t3.sl.cst_247,
    trip_k0_t3.sl.v385, trip_k0_t3.sl.v386, trip_k0_t3.sl.v387, trip_k0_t3.sl.v388, trip_k0_t3.sl.v390,
    trip_k0_t3.sl.v391, trip_k0_t3.sl.v393, trip_k0_t3.sl.v394, trip_k0_t3.sl.v395, trip_k0_t3.sl.v396,
    trip_k0_t3.sl.v398, trip_k0_t3.sl.v399, trip_k0_t3.sl.v400, trip_k0_t3.sl.v402, trip_k0_t3.sl.v403,
    trip_k0_t3.sl.v404, trip_k0_t3.sl.v405, trip_k0_t3.sl.v406, trip_k0_t3.sl.v407, trip_k0_t3.sl.v408,
    trip_k0_t3.sl.v410, trip_k0_t3.sl.v411, trip_k0_t3.sl.v412, trip_k0_t3.sl.v413, trip_k0_t3.sl.v414,
    trip_k0_t3.sl.v415, trip_k0_t3.sl.v417, trip_k0_t3.sl.v418, trip_k0_t3.sl.v420, trip_k0_t3.sl.v421,
    trip_k0_t3.sl.v422, trip_k0_t3.sl.v423, trip_k0_t3.sl.v425, trip_k0_t3.sl.v426, trip_k0_t3.sl.v427,
    trip_k0_t3.sl.v428, trip_k0_t3.sl.v429, trip_k0_t3.sl.v430, trip_k0_t3.sl.v431, trip_k0_t3.sl.v432,
    trip_k0_t3.sl.v433, trip_k0_t3.sl.v434, trip_k0_t3.sl.v435, trip_k0_t3.sl.v437, trip_k0_t3.sl.v438,
    trip_k0_t3.sl.v439, trip_k0_t3.sl.v440, trip_k0_t3.sl.v441, trip_k0_t3.sl.v442, trip_k0_t3.sl.v444,
    trip_k0_t3.sl.v445, trip_k0_t3.sl.v447, trip_k0_t3.sl.v448, trip_k0_t3.sl.v449, trip_k0_t3.sl.v450,
    trip_k0_t3.sl.v452, trip_k0_t3.sl.v453, trip_k0_t3.sl.v454, trip_k0_t3.sl.v455, trip_k0_t3.sl.v456,
    trip_k0_t3.sl.v457, trip_k0_t3.sl.v458, trip_k0_t3.sl.v459, trip_k0_t3.sl.v460, trip_k0_t3.sl.v461,
    trip_k0_t3.sl.v462, trip_k0_t3.sl.v464, trip_k0_t3.sl.v465, trip_k0_t3.sl.v466, trip_k0_t3.sl.v467,
    trip_k0_t3.sl.v468, trip_k0_t3.sl.v469, trip_k0_t3.sl.v471, trip_k0_t3.sl.v472, trip_k0_t3.sl.v474,
    trip_k0_t3.sl.v475, trip_k0_t3.sl.v476, trip_k0_t3.sl.v477, trip_k0_t3.sl.v479, trip_k0_t3.sl.v480,
    trip_k0_t3.sl.v481, trip_k0_t3.sl.v482, trip_k0_t3.sl.v483, trip_k0_t3.sl.v484, trip_k0_t3.sl.v485,
    trip_k0_t3.sl.v486, trip_k0_t3.sl.v487, trip_k0_t3.sl.v488, trip_k0_t3.sl.v489, trip_k0_t3.sl.v491,
    trip_k0_t3.sl.v492, trip_k0_t3.sl.v493, trip_k0_t3.sl.v494, trip_k0_t3.sl.v495, trip_k0_t3.sl.v496,
    trip_k0_t3.sl.v498, trip_k0_t3.sl.v499, trip_k0_t3.sl.v501, trip_k0_t3.sl.v502, trip_k0_t3.sl.v503,
    trip_k0_t3.sl.v504, trip_k0_t3.sl.v506, trip_k0_t3.sl.v507, trip_k0_t3.sl.v508, trip_k0_t3.sl.v509,
    trip_k0_t3.sl.v510, trip_k0_t3.sl.v511, trip_k0_t3.sl.v512, trip_k0_t3.sl.v513, trip_k0_t3.sl.v514,
    trip_k0_t3.sl.v515, trip_k0_t3.sl.v516, trip_k0_t3.sl.v518, trip_k0_t3.sl.v519, trip_k0_t3.sl.v520,
    trip_k0_t3.sl.v521, trip_k0_t3.sl.v522, trip_k0_t3.sl.v523, trip_k0_t3.sl.v525, trip_k0_t3.sl.v526,
    trip_k0_t3.sl.v528, trip_k0_t3.sl.v529, trip_k0_t3.sl.v530, trip_k0_t3.sl.v531, trip_k0_t3.sl.v533,
    trip_k0_t3.sl.v534, trip_k0_t3.sl.v535, trip_k0_t3.sl.v536, trip_k0_t3.sl.v537, trip_k0_t3.sl.v538,
    trip_k0_t3.sl.v539, trip_k0_t3.sl.v540, trip_k0_t3.sl.v541, trip_k0_t3.sl.v542, trip_k0_t3.sl.v543,
    trip_k0_t3.sl.v545, trip_k0_t3.sl.v546, trip_k0_t3.sl.v547, trip_k0_t3.sl.v548, trip_k0_t3.sl.v549,
    trip_k0_t3.sl.v550, trip_k0_t3.sl.v552, trip_k0_t3.sl.v553, trip_k0_t3.sl.v555, trip_k0_t3.sl.v556,
    trip_k0_t3.sl.v557, trip_k0_t3.sl.v558, trip_k0_t3.sl.v560, trip_k0_t3.sl.v561, trip_k0_t3.sl.v562,
    trip_k0_t3.sl.v563, trip_k0_t3.sl.v564, trip_k0_t3.sl.v565, trip_k0_t3.sl.v566, trip_k0_t3.sl.v567,
    trip_k0_t3.sl.v568, trip_k0_t3.sl.v569, trip_k0_t3.sl.v570, trip_k0_t3.sl.v572, trip_k0_t3.sl.v573,
    trip_k0_t3.sl.v574, trip_k0_t3.sl.v575, trip_k0_t3.sl.v576, trip_k0_t3.sl.v577, trip_k0_t3.sl.v579,
    trip_k0_t3.sl.v580, trip_k0_t3.sl.v582, trip_k0_t3.sl.v583, trip_k0_t3.sl.v584, trip_k0_t3.sl.v585,
    trip_k0_t3.sl.v587, trip_k0_t3.sl.v588, trip_k0_t3.sl.v589, trip_k0_t3.sl.v590, trip_k0_t3.sl.v591,
    trip_k0_t3.sl.v592, trip_k0_t3.sl.v593, trip_k0_t3.sl.v594, trip_k0_t3.sl.v595, trip_k0_t3.sl.v596,
    trip_k0_t3.sl.v597, trip_k0_t3.sl.v599, trip_k0_t3.sl.v600, trip_k0_t3.sl.v601, trip_k0_t3.sl.v602,
    trip_k0_t3.sl.v603, trip_k0_t3.sl.v604, trip_k0_t3.sl.v606, trip_k0_t3.sl.v607, trip_k0_t3.sl.v609,
    trip_k0_t3.sl.v610, trip_k0_t3.sl.v611, trip_k0_t3.sl.v612, trip_k0_t3.sl.v614, trip_k0_t3.sl.v615,
    trip_k0_t3.sl.v616, trip_k0_t3.sl.v617, trip_k0_t3.sl.v618, trip_k0_t3.sl.v619, trip_k0_t3.sl.v620,
    trip_k0_t3.sl.v621, trip_k0_t3.sl.v622, trip_k0_t3.sl.v623, trip_k0_t3.sl.v624, trip_k0_t3.sl.v626,
    trip_k0_t3.sl.v627, trip_k0_t3.sl.v628, trip_k0_t3.sl.v629, trip_k0_t3.sl.v630, trip_k0_t3.sl.v631,
    trip_k0_t3.sl.v633, trip_k0_t3.sl.v634, trip_k0_t3.sl.v644]
  simp only [hS, View.readCov_cons_toLoadRect, shapeCast_self, hK0, hV0, hK1, hV1, hK2, hV2, hK3, hV3, hK4, hV4, hK5, hV5, hK6, hV6, hK7, hV7, hK8, hV8, hK9, hV9, ← score_def]
  rw [show 10 * (k.val + 1) = 10 * k.val + 10 from rfl]
  simp only [carried, ten_peaks, ten_sums, grow_def, peak_def]

/-- One trip of the loop of sub-block 3 leaves the scores of chunk `10 (k + 1)` in the first scratch buffer. -/
theorem store3 (𝒱 : Variants) (c : Dev nD) (bd : Option 𝒱.V) (i : grid0.Coords) (arg3 : Memref sig .tc .vmem S1x256x1024 .f32) (harg3 : arg3.IsWhole) (arg4 : Memref sig .tc .vmem S1x22x384x128 .bf16) (harg4 : arg4.IsWhole) (arg5 : Memref sig .tc .vmem S1x1x22x80x384 .bf16) (harg5 : arg5.IsWhole) (arg6 : Memref sig .tc .vmem S1x1024x256 .bf16) (harg6 : arg6.IsWhole) (arg7 : Memref sig .tc .vmem S384x1024 .f32) (harg7 : arg7.IsWhole) (arg8 : Memref sig .tc .vmem S384x1024 .f32) (harg8 : arg8.IsWhole) (v4 : IVec S128x256 1) (v202 : FVec F S128x256 .bf16) (v210 : FVec F S128x256 .bf16) (v212 : FVec F S64x256 .f32) (v213 : FVec F S64x256 .f32) (v219 : Vec F S1x64x256 .f32)
    (x1 : Vec F S1x22x384x128 .bf16) (x2 : Vec F S1x1x22x80x384 .bf16) (k : Fin k0_t3_loop.trips)
    (acc : FVec F S1x1024 .f32 × FVec F S80x1024 .f32 × FVec F S1x1024 .f32)
    (f7 : BufTy.Contents (Elt F) arg7.view.ty) (f8 : BufTy.Contents (Elt F) arg8.view.ty) :
    ∃ L, (trip_k0_t3 (F := F) 𝒱 c bd i arg3 harg3 arg4 harg4 arg5 harg5 arg6 harg6 arg7 harg7 arg8 harg8 v4 v202 v210 v212 v213 v219 (harg4.unread x1) (harg5.unread x2) k).2.1 acc f7 f8
      = ⟨Rect.unit (s := S384x1024) ![0, 0] S384x1024.size inb_S384x1024_S384x1024_0_0, score ((k0_pay238 v4 v202 v210 v212 v213 v219)) (keys x1 (10 * (k.val + 1)))⟩ :: L := by
  have hk : k.val < 2 := Nat.lt_of_lt_of_le k.isLt k0_t3_abs.2.1
  have hK : ∀ inb, View.readAt (Elt F) arg4.view (Rect.unit (s := S1x22x384x128) (k0_off5 k 9#32) S1x1x384x128.size inb).toLoadRect
      (harg4.unread x1) = keys x1 (10 * (k.val + 1)) := fun inb => load_keys harg4 x1 _ inb _ (by omega) (keysAt3 k 9)
  unfold trip_k0_t3
  refine ⟨_, congrArg (fun x => (⟨Rect.unit (s := S384x1024) ![0, 0] S384x1024.size inb_S384x1024_S384x1024_0_0, x⟩ :
    View.Piece (Elt F) S384x1024 .f32) :: _) ?_⟩
  simp only [k0_pay244, trip_k0_t3.sl.v634, trip_k0_t3.sl.v633, trip_k0_t3.sl.cst_236, hK, shapeCast_self, ← score_def]

/-- The loop of sub-block 3, entered with what is carried before chunk 0 and the scores of chunk 0, ends with what is
    carried before chunk 20, its last store being the scores of chunk 20. -/
theorem loop3 (𝒱 : Variants) (c : Dev nD) (bd : Option 𝒱.V) (i : grid0.Coords) (arg3 : Memref sig .tc .vmem S1x256x1024 .f32) (harg3 : arg3.IsWhole) (arg4 : Memref sig .tc .vmem S1x22x384x128 .bf16) (harg4 : arg4.IsWhole) (arg5 : Memref sig .tc .vmem S1x1x22x80x384 .bf16) (harg5 : arg5.IsWhole) (arg6 : Memref sig .tc .vmem S1x1024x256 .bf16) (harg6 : arg6.IsWhole) (arg7 : Memref sig .tc .vmem S384x1024 .f32) (harg7 : arg7.IsWhole) (arg8 : Memref sig .tc .vmem S384x1024 .f32) (harg8 : arg8.IsWhole) (v4 : IVec S128x256 1) (v202 : FVec F S128x256 .bf16) (v210 : FVec F S128x256 .bf16) (v212 : FVec F S64x256 .f32) (v213 : FVec F S64x256 .f32) (v219 : Vec F S1x64x256 .f32)
    (x1 : Vec F S1x22x384x128 .bf16) (x2 : Vec F S1x1x22x80x384 .bf16)
    (G7 : BufTy.Contents (Elt F) arg7.view.ty) (G8 : BufTy.Contents (Elt F) arg8.view.ty)
    (init : FVec F S1x1024 .f32 × FVec F S80x1024 .f32 × FVec F S1x1024 .f32)
    (h7 : G7 = harg7.unread (score ((k0_pay238 v4 v202 v210 v212 v213 v219)) (keys x1 0))) (hi : init = carried ((k0_pay238 v4 v202 v210 v212 v213 v219)) x1 x2 0) :
    (st_k0_t3 (F := F) 𝒱 c bd i arg3 harg3 arg4 harg4 arg5 harg5 arg6 harg6 arg7 harg7 arg8 harg8 v4 v202 v210 v212 v213 v219 (harg4.unread x1) (harg5.unread x2) G7 G8 init k0_t3_loop.trips).1 = carried ((k0_pay238 v4 v202 v210 v212 v213 v219)) x1 x2 20
    ∧ ∃ L, (st_k0_t3 (F := F) 𝒱 c bd i arg3 harg3 arg4 harg4 arg5 harg5 arg6 harg6 arg7 harg7 arg8 harg8 v4 v202 v210 v212 v213 v219 (harg4.unread x1) (harg5.unread x2) G7 G8 init k0_t3_loop.trips).2.1
      = ⟨Rect.unit (s := S384x1024) ![0, 0] S384x1024.size inb_S384x1024_S384x1024_0_0, score ((k0_pay238 v4 v202 v210 v212 v213 v219)) (keys x1 20)⟩ :: L := by
  have ht : k0_t3_loop.trips = 2 := by decide
  have step : ∀ k : Fin k0_t3_loop.trips,
      (st_k0_t3 (F := F) 𝒱 c bd i arg3 harg3 arg4 harg4 arg5 harg5 arg6 harg6 arg7 harg7 arg8 harg8 v4 v202 v210 v212 v213 v219 (harg4.unread x1) (harg5.unread x2) G7 G8 init k.val).1 = carried ((k0_pay238 v4 v202 v210 v212 v213 v219)) x1 x2 (10 * k.val) →
      arg7.view.writes (Elt F) G7 (st_k0_t3 (F := F) 𝒱 c bd i arg3 harg3 arg4 harg4 arg5 harg5 arg6 harg6 arg7 harg7 arg8 harg8 v4 v202 v210 v212 v213 v219 (harg4.unread x1) (harg5.unread x2) G7 G8 init k.val).2.1
        = harg7.unread (score ((k0_pay238 v4 v202 v210 v212 v213 v219)) (keys x1 (10 * k.val))) →
      (st_k0_t3 (F := F) 𝒱 c bd i arg3 harg3 arg4 harg4 arg5 harg5 arg6 harg6 arg7 harg7 arg8 harg8 v4 v202 v210 v212 v213 v219 (harg4.unread x1) (harg5.unread x2) G7 G8 init (k.val + 1)).1 = carried ((k0_pay238 v4 v202 v210 v212 v213 v219)) x1 x2 (10 * (k.val + 1))
      ∧ ∃ L, (st_k0_t3 (F := F) 𝒱 c bd i arg3 harg3 arg4 harg4 arg5 harg5 arg6 harg6 arg7 harg7 arg8 harg8 v4 v202 v210 v212 v213 v219 (harg4.unread x1) (harg5.unread x2) G7 G8 init (k.val + 1)).2.1
        = ⟨Rect.unit (s := S384x1024) ![0, 0] S384x1024.size inb_S384x1024_S384x1024_0_0, score ((k0_pay238 v4 v202 v210 v212 v213 v219)) (keys x1 (10 * (k.val + 1)))⟩ :: L := by
    intro k h1 h2
    rw [st_k0_t3_succ]
    refine ⟨?_, ?_⟩
    · dsimp only [tripR_k0_t3]
      rw [h1, h2]
      exact trip3 𝒱 c bd i arg3 harg3 arg4 harg4 arg5 harg5 arg6 harg6 arg7 harg7 arg8 harg8 v4 v202 v210 v212 v213 v219 x1 x2 k _
    · obtain ⟨L, hL⟩ := store3 𝒱 c bd i arg3 harg3 arg4 harg4 arg5 harg5 arg6 harg6 arg7 harg7 arg8 harg8 v4 v202 v210 v212 v213 v219 x1 x2 k _ _ _
      exact ⟨_, (congrArg (· ++ _) hL).trans (List.cons_append ..)⟩
  have h1 := step ⟨0, by omega⟩ hi h7
  obtain ⟨L, hL⟩ := h1.2
  have h2 := step ⟨1, by omega⟩ h1.1 ((congrArg (arg7.view.writes (Elt F) G7) hL).trans (writes_whole harg7 G7 _ L _))
  exact ht ▸ h2

end Cert.KernelIdeal.Attn

end
-- ==== Proof.Trip4.lean ====
/- One trip of the loop over the key chunks of sub-block 4: ten chunks. -/
module

public import proofs.«01_k».proof.Proof.Steps

@[expose] public section

set_option maxRecDepth 16384

noncomputable section

namespace Cert.KernelIdeal.Attn

open Idealize.ShloMosaic Idealize.SL.Sem Cert.KernelIdeal Cert.KernelIdeal.Gen

variable {F : FTy → Type} [FloatOps F] [Named F]

/-- Where trip `k` of the loop of sub-block 4 reads its keys. -/
theorem keysAt4 (k : Fin k0_t4_loop.trips) (u : Fin 10) :
    k0_off7 k (BitVec.ofNat 32 u.val) = ![0, 10 * k.val + u.val + 1, 0, 0] := by
  revert k u; decide

/-- Where trip `k` of the loop of sub-block 4 reads its values. -/
theorem valsAt4 (k : Fin k0_t4_loop.trips) (u : Fin 10) :
    k0_off8 k (BitVec.ofNat 32 u.val) = ![0, 0, 10 * k.val + u.val, 0, 0] := by
  revert k u; decide

set_option maxHeartbeats 4000000 in
/-- One trip of the loop of sub-block 4 takes what is carried before chunk `10 k` to what is carried before chunk
    `10 (k + 1)`, the first scratch buffer holding the scores of chunk `10 k`. -/
theorem trip4 (𝒱 : Variants) (c : Dev nD) (bd : Option 𝒱.V) (i : grid0.Coords) (arg3 : Memref sig .tc .vmem S1x256x1024 .f32) (harg3 : arg3.IsWhole) (arg4 : Memref sig .tc .vmem S1x22x384x128 .bf16) (harg4 : arg4.IsWhole) (arg5 : Memref sig .tc .vmem S1x1x22x80x384 .bf16) (harg5 : arg5.IsWhole) (arg6 : Memref sig .tc .vmem S1x1024x256 .bf16) (harg6 : arg6.IsWhole) (arg7 : Memref sig .tc .vmem S384x1024 .f32) (harg7 : arg7.IsWhole) (arg8 : Memref sig .tc .vmem S384x1024 .f32) (harg8 : arg8.IsWhole) (v322 : FVec F S128x1024 .bf16) (cst_190 : F .f32)
    (x1 : Vec F S1x22x384x128 .bf16) (x2 : Vec F S1x1x22x80x384 .bf16) (k : Fin k0_t4_loop.trips)
    (f8 : BufTy.Contents (Elt F) arg8.view.ty) :
    (trip_k0_t4 (F := F) 𝒱 c bd i arg3 harg3 arg4 harg4 arg5 harg5 arg6 harg6 arg7 harg7 arg8 harg8 v322 cst_190 (harg4.unread x1) (harg5.unread x2) k).1
        (carried (v322) x1 x2 (10 * k.val)) (harg7.unread (score (v322) (keys x1 (10 * k.val)))) f8
      = carried (v322) x1 x2 (10 * (k.val + 1)) := by
  have hk : k.val < 2 := Nat.lt_of_lt_of_le k.isLt k0_t4_abs.2.1
  have hK : ∀ (u : Fin 10) inb, View.readAt (Elt F) arg4.view
      (Rect.unit (s := S1x22x384x128) (k0_off7 k (BitVec.ofNat 32 u.val)) S1x1x384x128.size inb).toLoadRect (harg4.unread x1)
        = keys x1 (10 * k.val + u.val + 1) := fun u inb =>
    load_keys harg4 x1 _ inb _ (by have := u.isLt; omega) (keysAt4 k u)
  have hV : ∀ (u : Fin 10) inb, View.readAt (Elt F) arg5.view
      (Rect.unit (s := S1x1x22x80x384) (k0_off8 k (BitVec.ofNat 32 u.val)) S1x1x1x80x384.size inb).toLoadRect (harg5.unread x2)
        = vals x2 (10 * k.val + u.val) := fun u inb =>
    load_vals harg5 x2 _ inb _ (by have := u.isLt; omega) (valsAt4 k u)
  have hK0 : ∀ inb, View.readAt (Elt F) arg4.view (Rect.unit (s := S1x22x384x128) (k0_off7 k 0#32) S1x1x384x128.size inb).toLoadRect
      (harg4.unread x1) = keys x1 (10 * k.val + 1) := hK 0
  have hV0 : ∀ inb, View.readAt (Elt F) arg5.view (Rect.unit (s := S1x1x22x80x384) (k0_off8 k 0#32) S1x1x1x80x384.size inb).toLoadRect
      (harg5.unread x2) = vals x2 (10 * k.val) := hV 0
  have hK1 : ∀ inb, View.readAt (Elt F) arg4.view (Rect.unit (s := S1x22x384x128) (k0_off7 k 1#32) S1x1x384x128.size inb).toLoadRect
      (harg4.unread x1) = keys x1 (10 * k.val + 2) := hK 1
  have hV1 : ∀ inb, View.readAt (Elt F) arg5.view (Rect.unit (s := S1x1x22x80x384) (k0_off8 k 1#32) S1x1x1x80x384.size inb).toLoadRect
      (harg5.unread x2) = vals x2 (10 * k.val + 1) := hV 1
  have hK2 : ∀ inb, View.readAt (Elt F) arg4.view (Rect.unit (s := S1x22x384x128) (k0_off7 k 2#32) S1x1x384x128.size inb).toLoadRect
      (harg4.unread x1) = keys x1 (10 * k.val + 3) := hK 2
  have hV2 : ∀ inb, View.readAt (Elt F) arg5.view (Rect.unit (s := S1x1x22x80x384) (k0_off8 k 2#32) S1x1x1x80x384.size inb).toLoadRect
      (harg5.unread x2) = vals x2 (10 * k.val + 2) := hV 2
  have hK3 : ∀ inb, View.readAt (Elt F) arg4.view (Rect.unit (s := S1x22x384x128) (k0_off7 k 3#32) S1x1x384x128.size inb).toLoadRect
      (harg4.unread x1) = keys x1 (10 * k.val + 4) := hK 3
  have hV3 : ∀ inb, View.readAt (Elt F) arg5.view (Rect.unit (s := S1x1x22x80x384) (k0_off8 k 3#32) S1x1x1x80x384.size inb).toLoadRect
      (harg5.unread x2) = vals x2 (10 * k.val + 3) := hV 3
  have hK4 : ∀ inb, View.readAt (Elt F) arg4.view (Rect.unit (s := S1x22x384x128) (k0_off7 k 4#32) S1x1x384x128.size inb).toLoadRect
      (harg4.unread x1) = keys x1 (10 * k.val + 5) := hK 4
  have hV4 : ∀ inb, View.readAt (Elt F) arg5.view (Rect.unit (s := S1x1x22x80x384) (k0_off8 k 4#32) S1x1x1x80x384.size inb).toLoadRect
      (harg5.unread x2) = vals x2 (10 * k.val + 4) := hV 4
  have hK5 : ∀ inb, View.readAt (Elt F) arg4.view (Rect.unit (s := S1x22x384x128) (k0_off7 k 5#32) S1x1x384x128.size inb).toLoadRect
      (harg4.unread x1) = keys x1 (10 * k.val + 6) := hK 5
  have hV5 : ∀ inb, View.readAt (Elt F) arg5.view (Rect.unit (s := S1x1x22x80x384) (k0_off8 k 5#32) S1x1x1x80x384.size inb).toLoadRect
      (harg5.unread x2) = vals x2 (10 * k.val + 5) := hV 5
  have hK6 : ∀ inb, View.readAt (Elt F) arg4.view (Rect.unit (s := S1x22x384x128) (k0_off7 k 6#32) S1x1x384x128.size inb).toLoadRect
      (harg4.unread x1) = keys x1 (10 * k.val + 7) := hK 6
  have hV6 : ∀ inb, View.readAt (Elt F) arg5.view (Rect.unit (s := S1x1x22x80x384) (k0_off8 k 6#32) S1x1x1x80x384.size inb).toLoadRect
      (harg5.unread x2) = vals x2 (10 * k.val + 6) := hV 6
  have hK7 : ∀ inb, View.readAt (Elt F) arg4.view (Rect.unit (s := S1x22x384x128) (k0_off7 k 7#32) S1x1x384x128.size inb).toLoadRect
      (harg4.unread x1) = keys x1 (10 * k.val + 8) := hK 7
  have hV7 : ∀ inb, View.readAt (Elt F) arg5.view (Rect.unit (s := S1x1x22x80x384) (k0_off8 k 7#32) S1x1x1x80x384.size inb).toLoadRect
      (harg5.unread x2) = vals x2 (10 * k.val + 7) := hV 7
  have hK8 : ∀ inb, View.readAt (Elt F) arg4.view (Rect.unit (s := S1x22x384x128) (k0_off7 k 8#32) S1x1x384x128.size inb).toLoadRect
      (harg4.unread x1) = keys x1 (10 * k.val + 9) := hK 8
  have hV8 : ∀ inb, View.readAt (Elt F) arg5.view (Rect.unit (s := S1x1x22x80x384) (k0_off8 k 8#32) S1x1x1x80x384.size inb).toLoadRect
      (harg5.unread x2) = vals x2 (10 * k.val + 8) := hV 8
  have hK9 : ∀ inb, View.readAt (Elt F) arg4.view (Rect.unit (s := S1x22x384x128) (k0_off7 k 9#32) S1x1x384x128.size inb).toLoadRect
      (harg4.unread x1) = keys x1 (10 * k.val + 10) := hK 9
  have hV9 : ∀ inb, View.readAt (Elt F) arg5.view (Rect.unit (s := S1x1x22x80x384) (k0_off8 k 9#32) S1x1x1x80x384.size inb).toLoadRect
      (harg5.unread x2) = vals x2 (10 * k.val + 9) := hV 9
  have hS : ∀ s inb, View.readAt (Elt F) arg7.view (Rect.unit (s := S384x1024) ![0, 0] ![384, 1024] inb).toLoadRect (harg7.unread s) = s :=
    fun s inb => load_whole harg7 s inb
  unfold trip_k0_t4
  dsimp only
  simp only [k0_pay258, k0_pay259, k0_pay260, k0_pay261,
    trip_k0_t4.sl.HW_arg7_1, trip_k0_t4.sl.HW_arg7_2, trip_k0_t4.sl.HW_arg7_3, trip_k0_t4.sl.HW_arg7_4,
    trip_k0_t4.sl.HW_arg8_1, trip_k0_t4.sl.HW_arg8_2, trip_k0_t4.sl.HW_arg8_3, trip_k0_t4.sl.HW_arg8_4,
    trip_k0_t4.sl.HW_arg8_5, trip_k0_t4.sl.arg9, trip_k0_t4.sl.cst_236, trip_k0_t4.sl.cst_239, trip_k0_t4.sl.cst_247,
    trip_k0_t4.sl.v385, trip_k0_t4.sl.v386, trip_k0_t4.sl.v387, trip_k0_t4.sl.v388, trip_k0_t4.sl.v390,
    trip_k0_t4.sl.v391, trip_k0_t4.sl.v393, trip_k0_t4.sl.v394, trip_k0_t4.sl.v395, trip_k0_t4.sl.v396,
    trip_k0_t4.sl.v398, trip_k0_t4.sl.v399, trip_k0_t4.sl.v400, trip_k0_t4.sl.v402, trip_k0_t4.sl.v403,
    trip_k0_t4.sl.v404, trip_k0_t4.sl.v405, trip_k0_t4.sl.v406, trip_k0_t4.sl.v407, trip_k0_t4.sl.v408,
    trip_k0_t4.sl.v410, trip_k0_t4.sl.v411, trip_k0_t4.sl.v412, trip_k0_t4.sl.v413, trip_k0_t4.sl.v414,
    trip_k0_t4.sl.v415, trip_k0_t4.sl.v417, trip_k0_t4.sl.v418, trip_k0_t4.sl.v420, trip_k0_t4.sl.v421,
    trip_k0_t4.sl.v422, trip_k0_t4.sl.v423, trip_k0_t4.sl.v425, trip_k0_t4.sl.v426, trip_k0_t4.sl.v427,
    trip_k0_t4.sl.v428, trip_k0_t4.sl.v429, trip_k0_t4.sl.v430, trip_k0_t4.sl.v431, trip_k0_t4.sl.v432,
    trip_k0_t4.sl.v433, trip_k0_t4.sl.v434, trip_k0_t4.sl.v435, trip_k0_t4.sl.v437, trip_k0_t4.sl.v438,
    trip_k0_t4.sl.v439, trip_k0_t4.sl.v440, trip_k0_t4.sl.v441, trip_k0_t4.sl.v442, trip_k0_t4.sl.v444,
    trip_k0_t4.sl.v445, trip_k0_t4.sl.v447, trip_k0_t4.sl.v448, trip_k0_t4.sl.v449, trip_k0_t4.sl.v450,
    trip_k0_t4.sl.v452, trip_k0_t4.sl.v453, trip_k0_t4.sl.v454, trip_k0_t4.sl.v455, trip_k0_t4.sl.v456,
    trip_k0_t4.sl.v457, trip_k0_t4.sl.v458, trip_k0_t4.sl.v459, trip_k0_t4.sl.v460, trip_k0_t4.sl.v461,
    trip_k0_t4.sl.v462, trip_k0_t4.sl.v464, trip_k0_t4.sl.v465, trip_k0_t4.sl.v466, trip_k0_t4.sl.v467,
    trip_k0_t4.sl.v468, trip_k0_t4.sl.v469, trip_k0_t4.sl.v471, trip_k0_t4.sl.v472, trip_k0_t4.sl.v474,
    trip_k0_t4.sl.v475, trip_k0_t4.sl.v476, trip_k0_t4.sl.v477, trip_k0_t4.sl.v479, trip_k0_t4.sl.v480,
    trip_k0_t4.sl.v481, trip_k0_t4.sl.v482, trip_k0_t4.sl.v483, trip_k0_t4.sl.v484, trip_k0_t4.sl.v485,
    trip_k0_t4.sl.v486, trip_k0_t4.sl.v487, trip_k0_t4.sl.v488, trip_k0_t4.sl.v489, trip_k0_t4.sl.v491,
    trip_k0_t4.sl.v492, trip_k0_t4.sl.v493, trip_k0_t4.sl.v494, trip_k0_t4.sl.v495, trip_k0_t4.sl.v496,
    trip_k0_t4.sl.v498, trip_k0_t4.sl.v499, trip_k0_t4.sl.v501, trip_k0_t4.sl.v502, trip_k0_t4.sl.v503,
    trip_k0_t4.sl.v504, trip_k0_t4.sl.v506, trip_k0_t4.sl.v507, trip_k0_t4.sl.v508, trip_k0_t4.sl.v509,
    trip_k0_t4.sl.v510, trip_k0_t4.sl.v511, trip_k0_t4.sl.v512, trip_k0_t4.sl.v513, trip_k0_t4.sl.v514,
    trip_k0_t4.sl.v515, trip_k0_t4.sl.v516, trip_k0_t4.sl.v518, trip_k0_t4.sl.v519, trip_k0_t4.sl.v520,
    trip_k0_t4.sl.v521, trip_k0_t4.sl.v522, trip_k0_t4.sl.v523, trip_k0_t4.sl.v525, trip_k0_t4.sl.v526,
    trip_k0_t4.sl.v528, trip_k0_t4.sl.v529, trip_k0_t4.sl.v530, trip_k0_t4.sl.v531, trip_k0_t4.sl.v533,
    trip_k0_t4.sl.v534, trip_k0_t4.sl.v535, trip_k0_t4.sl.v536, trip_k0_t4.sl.v537, trip_k0_t4.sl.v538,
    trip_k0_t4.sl.v539, trip_k0_t4.sl.v540, trip_k0_t4.sl.v541, trip_k0_t4.sl.v542, trip_k0_t4.sl.v543,
    trip_k0_t4.sl.v545, trip_k0_t4.sl.v546, trip_k0_t4.sl.v547, trip_k0_t4.sl.v548, trip_k0_t4.sl.v549,
    trip_k0_t4.sl.v550, trip_k0_t4.sl.v552, trip_k0_t4.sl.v553, trip_k0_t4.sl.v555, trip_k0_t4.sl.v556,
    trip_k0_t4.sl.v557, trip_k0_t4.sl.v558, trip_k0_t4.sl.v560, trip_k0_t4.sl.v561, trip_k0_t4.sl.v562,
    trip_k0_t4.sl.v563, trip_k0_t4.sl.v564, trip_k0_t4.sl.v565, trip_k0_t4.sl.v566, trip_k0_t4.sl.v567,
    trip_k0_t4.sl.v568, trip_k0_t4.sl.v569, trip_k0_t4.sl.v570, trip_k0_t4.sl.v572, trip_k0_t4.sl.v573,
    trip_k0_t4.sl.v574, trip_k0_t4.sl.v575, trip_k0_t4.sl.v576, trip_k0_t4.sl.v577, trip_k0_t4.sl.v579,
    trip_k0_t4.sl.v580, trip_k0_t4.sl.v582, trip_k0_t4.sl.v583, trip_k0_t4.sl.v584, trip_k0_t4.sl.v585,
    trip_k0_t4.sl.v587, trip_k0_t4.sl.v588, trip_k0_t4.sl.v589, trip_k0_t4.sl.v590, trip_k0_t4.sl.v591,
    trip_k0_t4.sl.v592, trip_k0_t4.sl.v593, trip_k0_t4.sl.v594, trip_k0_t4.sl.v595, trip_k0_t4.sl.v596,
    trip_k0_t4.sl.v597, trip_k0_t4.sl.v599, trip_k0_t4.sl.v600, trip_k0_t4.sl.v601, trip_k0_t4.sl.v602,
    trip_k0_t4.sl.v603, trip_k0_t4.sl.v604, trip_k0_t4.sl.v606, trip_k0_t4.sl.v607, trip_k0_t4.sl.v609,
    trip_k0_t4.sl.v610, trip_k0_t4.sl.v611, trip_k0_t4.sl.v612, trip_k0_t4.sl.v614, trip_k0_t4.sl.v615,
    trip_k0_t4.sl.v616, trip_k0_t4.sl.v617, trip_k0_t4.sl.v618, trip_k0_t4.sl.v619, trip_k0_t4.sl.v620,
    trip_k0_t4.sl.v621, trip_k0_t4.sl.v622, trip_k0_t4.sl.v623, trip_k0_t4.sl.v624, trip_k0_t4.sl.v626,
    trip_k0_t4.sl.v627, trip_k0_t4.sl.v628, trip_k0_t4.sl.v629, trip_k0_t4.sl.v630, trip_k0_t4.sl.v631,
    trip_k0_t4.sl.v633, trip_k0_t4.sl.v634, trip_k0_t4.sl.v644]
  simp only [hS, View.readCov_cons_toLoadRect, shapeCast_self, hK0, hV0, hK1, hV1, hK2, hV2, hK3, hV3, hK4, hV4, hK5, hV5, hK6, hV6, hK7, hV7, hK8, hV8, hK9, hV9, ← score_def]
  rw [show 10 * (k.val + 1) = 10 * k.val + 10 from rfl]
  simp only [carried, ten_peaks, ten_sums, grow_def, peak_def]

/-- One trip of the loop of sub-block 4 leaves the scores of chunk `10 (k + 1)` in the first scratch buffer. -/
theorem store4 (𝒱 : Variants) (c : Dev nD) (bd : Option 𝒱.V) (i : grid0.Coords) (arg3 : Memref sig .tc .vmem S1x256x1024 .f32) (harg3 : arg3.IsWhole) (arg4 : Memref sig .tc .vmem S1x22x384x128 .bf16) (harg4 : arg4.IsWhole) (arg5 : Memref sig .tc .vmem S1x1x22x80x384 .bf16) (harg5 : arg5.IsWhole) (arg6 : Memref sig .tc .vmem S1x1024x256 .bf16) (harg6 : arg6.IsWhole) (arg7 : Memref sig .tc .vmem S384x1024 .f32) (harg7 : arg7.IsWhole) (arg8 : Memref sig .tc .vmem S384x1024 .f32) (harg8 : arg8.IsWhole) (v322 : FVec F S128x1024 .bf16) (cst_190 : F .f32)
    (x1 : Vec F S1x22x384x128 .bf16) (x2 : Vec F S1x1x22x80x384 .bf16) (k : Fin k0_t4_loop.trips)
    (acc : FVec F S1x1024 .f32 × FVec F S80x1024 .f32 × FVec F S1x1024 .f32)
    (f7 : BufTy.Contents (Elt F) arg7.view.ty) (f8 : BufTy.Contents (Elt F) arg8.view.ty) :
    ∃ L, (trip_k0_t4 (F := F) 𝒱 c bd i arg3 harg3 arg4 harg4 arg5 harg5 arg6 harg6 arg7 harg7 arg8 harg8 v322 cst_190 (harg4.unread x1) (harg5.unread x2) k).2.1 acc f7 f8
      = ⟨Rect.unit (s := S384x1024) ![0, 0] S384x1024.size inb_S384x1024_S384x1024_0_0, score (v322) (keys x1 (10 * (k.val + 1)))⟩ :: L := by
  have hk : k.val < 2 := Nat.lt_of_lt_of_le k.isLt k0_t4_abs.2.1
  have hK : ∀ inb, View.readAt (Elt F) arg4.view (Rect.unit (s := S1x22x384x128) (k0_off7 k 9#32) S1x1x384x128.size inb).toLoadRect
      (harg4.unread x1) = keys x1 (10 * (k.val + 1)) := fun inb => load_keys harg4 x1 _ inb _ (by omega) (keysAt4 k 9)
  unfold trip_k0_t4
  refine ⟨_, congrArg (fun x => (⟨Rect.unit (s := S384x1024) ![0, 0] S384x1024.size inb_S384x1024_S384x1024_0_0, x⟩ :
    View.Piece (Elt F) S384x1024 .f32) :: _) ?_⟩
  simp only [k0_pay258, trip_k0_t4.sl.v634, trip_k0_t4.sl.v633, trip_k0_t4.sl.cst_236, hK, shapeCast_self, ← score_def]

/-- The loop of sub-block 4, entered with what is carried before chunk 0 and the scores of chunk 0, ends with what is
    carried before chunk 20, its last store being the scores of chunk 20. -/
theorem loop4 (𝒱 : Variants) (c : Dev nD) (bd : Option 𝒱.V) (i : grid0.Coords) (arg3 : Memref sig .tc .vmem S1x256x1024 .f32) (harg3 : arg3.IsWhole) (arg4 : Memref sig .tc .vmem S1x22x384x128 .bf16) (harg4 : arg4.IsWhole) (arg5 : Memref sig .tc .vmem S1x1x22x80x384 .bf16) (harg5 : arg5.IsWhole) (arg6 : Memref sig .tc .vmem S1x1024x256 .bf16) (harg6 : arg6.IsWhole) (arg7 : Memref sig .tc .vmem S384x1024 .f32) (harg7 : arg7.IsWhole) (arg8 : Memref sig .tc .vmem S384x1024 .f32) (harg8 : arg8.IsWhole) (v322 : FVec F S128x1024 .bf16) (cst_190 : F .f32)
    (x1 : Vec F S1x22x384x128 .bf16) (x2 : Vec F S1x1x22x80x384 .bf16)
    (G7 : BufTy.Contents (Elt F) arg7.view.ty) (G8 : BufTy.Contents (Elt F) arg8.view.ty)
    (init : FVec F S1x1024 .f32 × FVec F S80x1024 .f32 × FVec F S1x1024 .f32)
    (h7 : G7 = harg7.unread (score (v322) (keys x1 0))) (hi : init = carried (v322) x1 x2 0) :
    (st_k0_t4 (F := F) 𝒱 c bd i arg3 harg3 arg4 harg4 arg5 harg5 arg6 harg6 arg7 harg7 arg8 harg8 v322 cst_190 (harg4.unread x1) (harg5.unread x2) G7 G8 init k0_t4_loop.trips).1 = carried (v322) x1 x2 20
    ∧ ∃ L, (st_k0_t4 (F := F) 𝒱 c bd i arg3 harg3 arg4 harg4 arg5 harg5 arg6 harg6 arg7 harg7 arg8 harg8 v322 cst_190 (harg4.unread x1) (harg5.unread x2) G7 G8 init k0_t4_loop.trips).2.1
      = ⟨Rect.unit (s := S384x1024) ![0, 0] S384x1024.size inb_S384x1024_S384x1024_0_0, score (v322) (keys x1 20)⟩ :: L := by
  have ht : k0_t4_loop.trips = 2 := by decide
  have step : ∀ k : Fin k0_t4_loop.trips,
      (st_k0_t4 (F := F) 𝒱 c bd i arg3 harg3 arg4 harg4 arg5 harg5 arg6 harg6 arg7 harg7 arg8 harg8 v322 cst_190 (harg4.unread x1) (harg5.unread x2) G7 G8 init k.val).1 = carried (v322) x1 x2 (10 * k.val) →
      arg7.view.writes (Elt F) G7 (st_k0_t4 (F := F) 𝒱 c bd i arg3 harg3 arg4 harg4 arg5 harg5 arg6 harg6 arg7 harg7 arg8 harg8 v322 cst_190 (harg4.unread x1) (harg5.unread x2) G7 G8 init k.val).2.1
        = harg7.unread (score (v322) (keys x1 (10 * k.val))) →
      (st_k0_t4 (F := F) 𝒱 c bd i arg3 harg3 arg4 harg4 arg5 harg5 arg6 harg6 arg7 harg7 arg8 harg8 v322 cst_190 (harg4.unread x1) (harg5.unread x2) G7 G8 init (k.val + 1)).1 = carried (v322) x1 x2 (10 * (k.val + 1))
      ∧ ∃ L, (st_k0_t4 (F := F) 𝒱 c bd i arg3 harg3 arg4 harg4 arg5 harg5 arg6 harg6 arg7 harg7 arg8 harg8 v322 cst_190 (harg4.unread x1) (harg5.unread x2) G7 G8 init (k.val + 1)).2.1
        = ⟨Rect.unit (s := S384x1024) ![0, 0] S384x1024.size inb_S384x1024_S384x1024_0_0, score (v322) (keys x1 (10 * (k.val + 1)))⟩ :: L := by
    intro k h1 h2
    rw [st_k0_t4_succ]
    refine ⟨?_, ?_⟩
    · dsimp only [tripR_k0_t4]
      rw [h1, h2]
      exact trip4 𝒱 c bd i arg3 harg3 arg4 harg4 arg5 harg5 arg6 harg6 arg7 harg7 arg8 harg8 v322 cst_190 x1 x2 k _
    · obtain ⟨L, hL⟩ := store4 𝒱 c bd i arg3 harg3 arg4 harg4 arg5 harg5 arg6 harg6 arg7 harg7 arg8 harg8 v322 cst_190 x1 x2 k _ _ _
      exact ⟨_, (congrArg (· ++ _) hL).trans (List.cons_append ..)⟩
  have h1 := step ⟨0, by omega⟩ hi h7
  obtain ⟨L, hL⟩ := h1.2
  have h2 := step ⟨1, by omega⟩ h1.1 ((congrArg (arg7.view.writes (Elt F) G7) hL).trans (writes_whole harg7 G7 _ L _))
  exact ht ▸ h2

end Cert.KernelIdeal.Attn

end
-- ==== Proof.Run.lean ====
/- The attention body as one triple: from whole staging buffers holding the query, key and value blocks it runs to the
   output buffer holding the block `Attn.block` of them. -/
module

public import proofs.«01_k».proof.Proof.Gen.KernelIdeal.Frame.Runs
public import proofs.«01_k».proof.Proof.Block
public import proofs.«01_k».proof.Proof.Trip1
public import proofs.«01_k».proof.Proof.Trip2
public import proofs.«01_k».proof.Proof.Trip3
public import proofs.«01_k».proof.Proof.Trip4

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- The body's triple: the inputs' buffers are left as they were, the output's holds the block, the scratch anything. -/
theorem body_run (c : Dev nD) (i : grid0.Coords) (arg3 : Memref sig .tc .vmem S1x256x1024 .f32) (harg3 : arg3.IsWhole) (arg4 : Memref sig .tc .vmem S1x22x384x128 .bf16) (harg4 : arg4.IsWhole) (arg5 : Memref sig .tc .vmem S1x1x22x80x384 .bf16) (harg5 : arg5.IsWhole) (arg6 : Memref sig .tc .vmem S1x1024x256 .bf16) (harg6 : arg6.IsWhole) (arg7 : Memref sig .tc .vmem S384x1024 .f32) (harg7 : arg7.IsWhole) (arg8 : Memref sig .tc .vmem S384x1024 .f32) (harg8 : arg8.IsWhole)
    (x0 : Vec F S1x256x1024 .f32) (x1 : Vec F S1x22x384x128 .bf16) (x2 : Vec F S1x1x22x80x384 .bf16)
    (E : Set ℕ) (K : PUnit → sProp 𝕄) :
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare (block i x0 x1 x2) ∗ (∃ d, owns (c : Thread nD τ) arg7 fullShare d) ∗ (∃ d, owns (c : Thread nD τ) arg8 fullShare d)) -∗ K ⟨⟩))
          ⊢ wp frame (wpE (defs₀ (F := F)) Variants.none c none) E (cc0_attn i arg3 harg3 arg4 harg4 arg5 harg5 arg6 harg6 arg7 harg7 arg8 harg8) K := by
    simp only [cc0_attn_eq_skeleton]; unfold cc0_attn_skel
    simp only [k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg3.eq_unread hf0; obtain rfl := harg4.eq_unread hf1; obtain rfl := harg5.eq_unread hf2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro
      have hK0 : ∀ inb, View.readAt (Elt F) arg4.view (Rect.unit (s := S1x22x384x128) ![0, 0, 0, 0] S1x1x384x128.size inb).toLoadRect
          (harg4.unread x1) = keys x1 0 := fun inb => load_keys harg4 x1 _ inb 0 (by decide) rfl
      have hV0 : ∀ inb, View.readAt (Elt F) arg5.view (Rect.unit (s := S1x1x22x80x384) ![0, 0, 0, 0, 0] S1x1x1x80x384.size inb).toLoadRect
          (harg5.unread x2) = vals x2 0 := fun inb => load_vals harg5 x2 _ inb 0 (by decide) rfl
      have hV0' : ∀ inb, View.readAt (Elt F) arg5.view (Rect.unit (s := S1x1x22x80x384) ![0, 0, 0, 0, 0] ![1, 1, 1, 80, 384] inb).toLoadRect
          (harg5.unread x2) = vals x2 0 := fun inb => load_vals harg5 x2 _ inb 0 (by decide) rfl
      have hK20 : ∀ inb, View.readAt (Elt F) arg4.view (Rect.unit (s := S1x22x384x128) ![0, 20, 0, 0] S1x1x384x128.size inb).toLoadRect
          (harg4.unread x1) = keys x1 20 := fun inb => load_keys harg4 x1 _ inb 20 (by decide) rfl
      have hV20 : ∀ inb, View.readAt (Elt F) arg5.view (Rect.unit (s := S1x1x22x80x384) ![0, 0, 20, 0, 0] S1x1x1x80x384.size inb).toLoadRect
          (harg5.unread x2) = vals x2 20 := fun inb => load_vals harg5 x2 _ inb 20 (by decide) rfl
      have hV20' : ∀ inb, View.readAt (Elt F) arg5.view (Rect.unit (s := S1x1x22x80x384) ![0, 0, 20, 0, 0] ![1, 1, 1, 80, 384] inb).toLoadRect
          (harg5.unread x2) = vals x2 20 := fun inb => load_vals harg5 x2 _ inb 20 (by decide) rfl
      have hK21 : ∀ inb, View.readAt (Elt F) arg4.view (Rect.unit (s := S1x22x384x128) ![0, 21, 0, 0] S1x1x384x128.size inb).toLoadRect
          (harg4.unread x1) = keys x1 21 := fun inb => load_keys harg4 x1 _ inb 21 (by decide) rfl
      have hV21 : ∀ inb, View.readAt (Elt F) arg5.view (Rect.unit (s := S1x1x22x80x384) ![0, 0, 21, 0, 0] S1x1x1x80x384.size inb).toLoadRect
          (harg5.unread x2) = vals x2 21 := fun inb => load_vals harg5 x2 _ inb 21 (by decide) rfl
      have hV21' : ∀ inb, View.readAt (Elt F) arg5.view (Rect.unit (s := S1x1x22x80x384) ![0, 0, 21, 0, 0] ![1, 1, 1, 80, 384] inb).toLoadRect
          (harg5.unread x2) = vals x2 21 := fun inb => load_vals harg5 x2 _ inb 21 (by decide) rfl
      refine assemble i x0 x1 x2 f3 _ _ _ _ _ _ _ _ ?_ ?_ ?_ ?_
      · -- sub-block 0
        have hQ0 : ∀ inb, View.readAt (Elt F) arg3.view (Rect.unit (s := S1x256x1024) ![0, 0, 0] S1x64x256.size inb).toLoadRect
            (harg3.unread x0) = slab x0 0 0 := fun inb => load_slab harg3 x0 _ inb 0 0 rfl
        have hQ1 : ∀ inb, View.readAt (Elt F) arg3.view (Rect.unit (s := S1x256x1024) ![0, 64, 0] S1x64x256.size inb).toLoadRect
            (harg3.unread x0) = slab x0 1 0 := fun inb => load_slab harg3 x0 _ inb 1 0 rfl
        have hQ2 : ∀ inb, View.readAt (Elt F) arg3.view (Rect.unit (s := S1x256x1024) ![0, 128, 0] S1x64x256.size inb).toLoadRect
            (harg3.unread x0) = slab x0 2 0 := fun inb => load_slab harg3 x0 _ inb 2 0 rfl
        have hQ3 : ∀ inb, View.readAt (Elt F) arg3.view (Rect.unit (s := S1x256x1024) ![0, 192, 0] S1x64x256.size inb).toLoadRect
            (harg3.unread x0) = slab x0 3 0 := fun inb => load_slab harg3 x0 _ inb 3 0 rfl
        repeat delta body_run.sl.HS0_1 body_run.sl.HS1_1 body_run.sl.r body_run.sl.r_1 body_run.sl.r_2 body_run.sl.r_3 body_run.sl.r_4 body_run.sl.r_5 body_run.sl.r_6 body_run.sl.r_7 body_run.sl.v61 body_run.sl.v75
        simp only [hQ0, hQ1, hQ2, hQ3, hK0, hK20, hK21, hV20, hV21, hV20', hV21']
        clear hQ0 hQ1 hQ2 hQ3 hK0 hV0 hV0' hK20 hV20 hV20' hK21 hV21 hV21'
        generalize hS : st_k0_t1 (F := F) Variants.none c none i arg3 harg3 arg4 harg4 arg5 harg5 arg6 harg6 arg7 harg7 arg8 harg8 _ _ _ _ _ _ _ _ _ _ = S
        have hl : S.1 = carried (queries i x0 0) x1 x2 20 ∧ ∃ L, S.2.1
            = ⟨Rect.unit (s := S384x1024) ![0, 0] S384x1024.size inb_S384x1024_S384x1024_0_0, score (queries i x0 0) (keys x1 20)⟩ :: L := by
          rw [← hS]
          refine loop1 Variants.none c none i arg3 harg3 arg4 harg4 arg5 harg5 arg6 harg6 arg7 harg7 arg8 harg8 _ _ _ _ x1 x2 _ _ _ ?_ rfl
          refine (writes_whole harg7 _ _ _ _).trans (congrArg harg7.unread ?_)
          simp only [k0_pay203, k0_pay202, shapeCast_self]
          rfl
        obtain ⟨h1, L, hL⟩ := hl
        obtain ⟨S1, S2, S3⟩ := S
        clear hS
        dsimp only at h1 hL
        subst h1 hL
        dsimp only
        simp only [List.cons_append, k0_pay209, k0_pay210, k0_pay211, k0_pay212, k0_pay213, k0_pay214, k0_pay215, shapeCast_self, carried]
        generalize hA : View.readCov (Val := Elt F) arg7.view _ _ = A
        have hA' : A = score (queries i x0 0) (keys x1 20) := hA.symm.trans (View.readCov_cons_toLoadRect _ _ _ _)
        generalize hB : View.readCov (Val := Elt F) arg8.view _ _ = B
        have hB' : B = score (queries i x0 0) (keys x1 21) := hB.symm.trans ((View.readCov_cons_toLoadRect _ _ _ _).trans ((shapeCast_self _ _).trans rfl))
        clear hA hB
        subst hA' hB'
        rfl
      · -- sub-block 1
        have hQ0 : ∀ inb, View.readAt (Elt F) arg3.view (Rect.unit (s := S1x256x1024) ![0, 0, 256] S1x64x256.size inb).toLoadRect
            (harg3.unread x0) = slab x0 0 1 := fun inb => load_slab harg3 x0 _ inb 0 1 rfl
        have hQ1 : ∀ inb, View.readAt (Elt F) arg3.view (Rect.unit (s := S1x256x1024) ![0, 64, 256] S1x64x256.size inb).toLoadRect
            (harg3.unread x0) = slab x0 1 1 := fun inb => load_slab harg3 x0 _ inb 1 1 rfl
        have hQ2 : ∀ inb, View.readAt (Elt F) arg3.view (Rect.unit (s := S1x256x1024) ![0, 128, 256] S1x64x256.size inb).toLoadRect
            (harg3.unread x0) = slab x0 2 1 := fun inb => load_slab harg3 x0 _ inb 2 1 rfl
        have hQ3 : ∀ inb, View.readAt (Elt F) arg3.view (Rect.unit (s := S1x256x1024) ![0, 192, 256] S1x64x256.size inb).toLoadRect
            (harg3.unread x0) = slab x0 3 1 := fun inb => load_slab harg3 x0 _ inb 3 1 rfl
        repeat delta body_run.sl.HS0_1 body_run.sl.HS1_1_1 body_run.sl.r body_run.sl.r_1 body_run.sl.r_10 body_run.sl.r_11 body_run.sl.r_12 body_run.sl.r_2 body_run.sl.r_3 body_run.sl.r_8 body_run.sl.r_9 body_run.sl.v156 body_run.sl.v170
        simp only [hQ0, hQ1, hQ2, hQ3, hK0, hK20, hK21, hV20, hV21, hV20', hV21']
        clear hQ0 hQ1 hQ2 hQ3 hK0 hV0 hV0' hK20 hV20 hV20' hK21 hV21 hV21'
        generalize hS : st_k0_t2 (F := F) Variants.none c none i arg3 harg3 arg4 harg4 arg5 harg5 arg6 harg6 arg7 harg7 arg8 harg8 _ _ _ _ _ _ _ _ _ _ = S
        have hl : S.1 = carried (queries i x0 1) x1 x2 20 ∧ ∃ L, S.2.1
            = ⟨Rect.unit (s := S384x1024) ![0, 0] S384x1024.size inb_S384x1024_S384x1024_0_0, score (queries i x0 1) (keys x1 20)⟩ :: L := by
          rw [← hS]
          refine loop2 Variants.none c none i arg3 harg3 arg4 harg4 arg5 harg5 arg6 harg6 arg7 harg7 arg8 harg8 _ _ _ _ x1 x2 _ _ _ ?_ rfl
          refine (writes_whole harg7 _ _ _ _).trans (congrArg harg7.unread ?_)
          simp only [k0_pay221, k0_pay220, shapeCast_self]
          rfl
        obtain ⟨h1, L, hL⟩ := hl
        obtain ⟨S1, S2, S3⟩ := S
        clear hS
        dsimp only at h1 hL
        subst h1 hL
        dsimp only
        simp only [List.cons_append, k0_pay227, k0_pay228, k0_pay229, k0_pay230, k0_pay231, k0_pay232, k0_pay233, shapeCast_self, carried]
        generalize hA : View.readCov (Val := Elt F) arg7.view _ _ = A
        have hA' : A = score (queries i x0 1) (keys x1 20) := hA.symm.trans (View.readCov_cons_toLoadRect _ _ _ _)
        generalize hB : View.readCov (Val := Elt F) arg8.view _ _ = B
        have hB' : B = score (queries i x0 1) (keys x1 21) := hB.symm.trans ((View.readCov_cons_toLoadRect _ _ _ _).trans ((shapeCast_self _ _).trans rfl))
        clear hA hB
        subst hA' hB'
        rfl
      · -- sub-block 2
        have hQ0 : ∀ inb, View.readAt (Elt F) arg3.view (Rect.unit (s := S1x256x1024) ![0, 0, 512] S1x64x256.size inb).toLoadRect
            (harg3.unread x0) = slab x0 0 2 := fun inb => load_slab harg3 x0 _ inb 0 2 rfl
        have hQ1 : ∀ inb, View.readAt (Elt F) arg3.view (Rect.unit (s := S1x256x1024) ![0, 64, 512] S1x64x256.size inb).toLoadRect
            (harg3.unread x0) = slab x0 1 2 := fun inb => load_slab harg3 x0 _ inb 1 2 rfl
        have hQ2 : ∀ inb, View.readAt (Elt F) arg3.view (Rect.unit (s := S1x256x1024) ![0, 128, 512] S1x64x256.size inb).toLoadRect
            (harg3.unread x0) = slab x0 2 2 := fun inb => load_slab harg3 x0 _ inb 2 2 rfl
        have hQ3 : ∀ inb, View.readAt (Elt F) arg3.view (Rect.unit (s := S1x256x1024) ![0, 192, 512] S1x64x256.size inb).toLoadRect
            (harg3.unread x0) = slab x0 3 2 := fun inb => load_slab harg3 x0 _ inb 3 2 rfl
        repeat delta body_run.sl.HS0_1 body_run.sl.HS1_1_2 body_run.sl.r body_run.sl.r_1 body_run.sl.r_10 body_run.sl.r_13 body_run.sl.r_14 body_run.sl.r_15 body_run.sl.r_16 body_run.sl.r_17 body_run.sl.r_18 body_run.sl.r_19 body_run.sl.r_2 body_run.sl.r_20 body_run.sl.r_21 body_run.sl.r_3 body_run.sl.r_8 body_run.sl.r_9 body_run.sl.v251 body_run.sl.v265
        simp only [hQ0, hQ1, hQ2, hQ3, hK0, hK20, hK21, hV20, hV21, hV20', hV21']
        clear hQ0 hQ1 hQ2 hQ3 hK0 hV0 hV0' hK20 hV20 hV20' hK21 hV21 hV21'
        generalize hS : st_k0_t3 (F := F) Variants.none c none i arg3 harg3 arg4 harg4 arg5 harg5 arg6 harg6 arg7 harg7 arg8 harg8 _ _ _ _ _ _ _ _ _ _ _ _ = S
        have hl : S.1 = carried (queries i x0 2) x1 x2 20 ∧ ∃ L, S.2.1
            = ⟨Rect.unit (s := S384x1024) ![0, 0] S384x1024.size inb_S384x1024_S384x1024_0_0, score (queries i x0 2) (keys x1 20)⟩ :: L := by
          rw [← hS]
          refine loop3 Variants.none c none i arg3 harg3 arg4 harg4 arg5 harg5 arg6 harg6 arg7 harg7 arg8 harg8 _ _ _ _ _ _ x1 x2 _ _ _ ?_ rfl
          refine (writes_whole harg7 _ _ _ _).trans (congrArg harg7.unread ?_)
          simp only [k0_pay242, k0_pay241, shapeCast_self]
          rfl
        obtain ⟨h1, L, hL⟩ := hl
        obtain ⟨S1, S2, S3⟩ := S
        clear hS
        dsimp only at h1 hL
        subst h1 hL
        dsimp only
        simp only [List.cons_append, k0_pay248, k0_pay249, k0_pay250, k0_pay251, shapeCast_self, carried]
        generalize hA : View.readCov (Val := Elt F) arg7.view _ _ = A
        have hA' : A = score (queries i x0 2) (keys x1 20) := hA.symm.trans (View.readCov_cons_toLoadRect _ _ _ _)
        generalize hB : View.readCov (Val := Elt F) arg8.view _ _ = B
        have hB' : B = score (queries i x0 2) (keys x1 21) := hB.symm.trans ((View.readCov_cons_toLoadRect _ _ _ _).trans ((shapeCast_self _ _).trans rfl))
        clear hA hB
        subst hA' hB'
        rfl
      · -- sub-block 3
        have hQ0 : ∀ inb, View.readAt (Elt F) arg3.view (Rect.unit (s := S1x256x1024) ![0, 0, 768] S1x64x256.size inb).toLoadRect
            (harg3.unread x0) = slab x0 0 3 := fun inb => load_slab harg3 x0 _ inb 0 3 rfl
        have hQ1 : ∀ inb, View.readAt (Elt F) arg3.view (Rect.unit (s := S1x256x1024) ![0, 64, 768] S1x64x256.size inb).toLoadRect
            (harg3.unread x0) = slab x0 1 3 := fun inb => load_slab harg3 x0 _ inb 1 3 rfl
        have hQ2 : ∀ inb, View.readAt (Elt F) arg3.view (Rect.unit (s := S1x256x1024) ![0, 128, 768] S1x64x256.size inb).toLoadRect
            (harg3.unread x0) = slab x0 2 3 := fun inb => load_slab harg3 x0 _ inb 2 3 rfl
        have hQ3 : ∀ inb, View.readAt (Elt F) arg3.view (Rect.unit (s := S1x256x1024) ![0, 192, 768] S1x64x256.size inb).toLoadRect
            (harg3.unread x0) = slab x0 3 3 := fun inb => load_slab harg3 x0 _ inb 3 3 rfl
        repeat delta body_run.sl.HS0_1 body_run.sl.HS1_1_3 body_run.sl.cst_190 body_run.sl.r body_run.sl.r_1 body_run.sl.r_10 body_run.sl.r_13 body_run.sl.r_14 body_run.sl.r_15 body_run.sl.r_2 body_run.sl.r_22 body_run.sl.r_23 body_run.sl.r_24 body_run.sl.r_25 body_run.sl.r_26 body_run.sl.r_3 body_run.sl.r_8 body_run.sl.r_9 body_run.sl.v346 body_run.sl.v353 body_run.sl.v360 body_run.sl.v367
        simp only [hQ0, hQ1, hQ2, hQ3, hK0, hK20, hK21, hV20, hV21, hV20', hV21']
        clear hQ0 hQ1 hQ2 hQ3 hK0 hV0 hV0' hK20 hV20 hV20' hK21 hV21 hV21'
        generalize hS : st_k0_t4 (F := F) Variants.none c none i arg3 harg3 arg4 harg4 arg5 harg5 arg6 harg6 arg7 harg7 arg8 harg8 _ _ _ _ _ _ _ _ = S
        have hl : S.1 = carried (queries i x0 3) x1 x2 20 ∧ ∃ L, S.2.1
            = ⟨Rect.unit (s := S384x1024) ![0, 0] S384x1024.size inb_S384x1024_S384x1024_0_0, score (queries i x0 3) (keys x1 20)⟩ :: L := by
          rw [← hS]
          refine loop4 Variants.none c none i arg3 harg3 arg4 harg4 arg5 harg5 arg6 harg6 arg7 harg7 arg8 harg8 _ _ x1 x2 _ _ _ ?_ rfl
          refine (writes_whole harg7 _ _ _ _).trans (congrArg harg7.unread ?_)
          simp only [k0_pay256, k0_pay255, shapeCast_self]
          rfl
        obtain ⟨h1, L, hL⟩ := hl
        obtain ⟨S1, S2, S3⟩ := S
        clear hS
        dsimp only at h1 hL
        subst h1 hL
        dsimp only
        simp only [List.cons_append, k0_pay1, k0_pay262, k0_pay263, k0_pay264, k0_pay265, k0_pay266, k0_pay267, shapeCast_self, carried]
        generalize hA : View.readCov (Val := Elt F) arg7.view _ _ = A
        have hA' : A = score (queries i x0 3) (keys x1 20) := hA.symm.trans (View.readCov_cons_toLoadRect _ _ _ _)
        generalize hB : View.readCov (Val := Elt F) arg8.view _ _ = B
        have hB' : B = score (queries i x0 3) (keys x1 21) := hB.symm.trans ((View.readCov_cons_toLoadRect _ _ _ _).trans ((shapeCast_self _ _).trans rfl))
        clear hA hB
        subst hA' hB'
        rfl
    isplitl [HS0]
    · iexists _, _; isplitr; swap; · iexact HS0
      ipureintro; rfl
    iexists _, _; isplitr; swap; · iexact HS1
    ipureintro; rfl

end Cert.KernelIdeal.Attn

end
-- ==== Proof.Launch.lean ====
/- The launch of the attention kernel: at each grid point the output's buffer ends at the block of the point's query, key
   and value blocks, so the whole run ends with its arrays as the pipeline composes them from these blocks. -/
module

public import proofs.«01_k».proof.Proof.Run
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the output's buffer holds after the body at point `t`. -/
def left (c : Dev nD) (t : Fin cfg0.N) : Vec F S1x1024x256 .bf16 :=
  block (grid0.coords t) (iblk m c 0 t) (iblk m c 1 t) (iblk m c 2 t)

/-- The pipeline's data: inputs keep their blocks, the output's buffer gets the attention block. -/
def plan (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => left m c t
  Φ _ := Pipeline.ΦA spec0 c
  q _ := fullShare
  owed _ := 0

theorem plan_A (c : Dev nD) (w : Fin cfg0.W) : (plan m 0 c).A w = V m c (Pipeline.arrRef spec0 w) := by
  dsimp only [plan]

theorem plan_after0 (c : Dev nD) (t : Fin cfg0.N) : (plan m 0 c).after 0 t = iblk m c 0 t := by dsimp only [plan]
theorem plan_after1 (c : Dev nD) (t : Fin cfg0.N) : (plan m 0 c).after 1 t = iblk m c 1 t := by dsimp only [plan]
theorem plan_after2 (c : Dev nD) (t : Fin cfg0.N) : (plan m 0 c).after 2 t = iblk m c 2 t := by dsimp only [plan]
theorem plan_after3 (c : Dev nD) (t : Fin cfg0.N) : (plan m 0 c).after 3 t = left m c t := by dsimp only [plan]

theorem plan_before0 (c : Dev nD) (t : Fin cfg0.N) (d) : (plan m 0 c).before 0 t d = iblk m c 0 t :=
  before0_0_of m (plan m 0 c) (plan_A m c 0) (plan_after0 m c) t d
theorem plan_before1 (c : Dev nD) (t : Fin cfg0.N) (d) : (plan m 0 c).before 1 t d = iblk m c 1 t :=
  before0_1_of m (plan m 0 c) (plan_A m c 1) (plan_after1 m c) t d
theorem plan_before2 (c : Dev nD) (t : Fin cfg0.N) (d) : (plan m 0 c).before 2 t d = iblk m c 2 t :=
  before0_2_of m (plan m 0 c) (plan_A m c 2) (plan_after2 m c) t d

/-- What the body has at point `t`, window by window. -/
def given (c : Dev nD) (t : Fin cfg0.N) : sProp 𝕄 :=
  iprop((plan m 0 c).Φ t.castSucc ∗ (plan m 0 c).owesAt () t.castSucc
    ∗ (∃ d, owns (c : Thread nD τ) (ms0_0 t) fullShare ((plan m 0 c).before 0 t d))
    ∗ (∃ d, owns (c : Thread nD τ) (ms0_1 t) fullShare ((plan m 0 c).before 1 t d))
    ∗ (∃ d, owns (c : Thread nD τ) (ms0_2 t) fullShare ((plan m 0 c).before 2 t d))
    ∗ (∃ d, owns (c : Thread nD τ) (ms0_3 t) fullShare ((plan m 0 c).before 3 t d)))

/-- What the body gives back at point `t`, window by window. -/
def got (c : Dev nD) (t : Fin cfg0.N) : sProp 𝕄 :=
  iprop((plan m 0 c).Φ t.succ ∗ (plan m 0 c).owesAt () t.succ
    ∗ owns (c : Thread nD τ) (ms0_0 t) fullShare ((plan m 0 c).after 0 t)
    ∗ owns (c : Thread nD τ) (ms0_1 t) fullShare ((plan m 0 c).after 1 t)
    ∗ owns (c : Thread nD τ) (ms0_2 t) fullShare ((plan m 0 c).after 2 t)
    ∗ owns (c : Thread nD τ) (ms0_3 t) fullShare ((plan m 0 c).after 3 t))

/-- The body at any grid point leaves the attention block of its inputs. -/
theorem body_at (c : Dev nD) (t : Fin cfg0.N) :
    given m c t ⊢ wp frame (wpE (defs₀ (F := F)) Variants.none c none) Set.univ (bodyAt0 t) (fun _ => got m c t) := by
  unfold given got bodyAt0
  simp only [plan_before0, plan_before1, plan_before2]
  rw [show (plan m 0 c).Φ t.succ = (plan m 0 c).Φ t.castSucc from rfl,
    show (plan m 0 c).owesAt () t.succ = (plan m 0 c).owesAt () t.castSucc from rfl,
    plan_after0, plan_after1, plan_after2, plan_after3]
  rw [show (plan m 0 c).Φ t.castSucc = Pipeline.ΦA spec0 c from rfl, PhiA0_eq]
  unfold left
  iintro ⟨⟨⟨HS0, HS1⟩, Hg⟩, Ho, ⟨%d0, H0⟩, ⟨%d1, H1⟩, ⟨%d2, H2⟩, ⟨%d3, H3⟩⟩
  iapply (body_run c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  iexact H3

theorem row_eq (t : Fin cfg0.N) :
    defs₀ (F := F) .tc cfg0.body (cfg0.bodyArgs t (cfg0.slots t)) = bodyAt0 t := by
  unfold defs₀; rw [Defs.onTc_tc]

/-- The pipeline's obligation on the body holds at every point. -/
theorem obligation (c : Dev nD) : BodyObligation (plan (F := F) m 0 c) (defs₀ (F := F)) Variants.none () Set.univ := fun t => by
  rw [bigSep_W0, bigSep_W0, row_eq]
  exact triple_restated (body_at m c t) rfl .rfl fun _ => .rfl

set_option backward.isDefEq.respectTransparency.types false in
/-- Every run ends, with the arrays as the pipeline's data says and every counter at zero. -/
theorem launch : θ_run defs (onTc (τ := τ) (main (F := F))) (s₀ m ρ)
    (fun r => (Pipeline.FramePost cfgs (plan m) 0 (V m)) r ∧ r.2.sem = fun _ => 0) :=
  Pipeline.θ_run_frame (Q' := _) cfgs (plan m) (0 : Fin 1) launch0 defs₀ Variants.none m ρ main
    (hbody := fun c => (obligation m c).loose) (hshare := fun c => (plan m 0 c).share_full fun _ => rfl)
    (howed := fun _ _ => rfl) (V := V m) (hmain := hmain m Variants.none) (hA := plan_A m) (hΦ := fun _ _ => rfl)

theorem launch_post : θ_run defs (onTc (τ := τ) (main (F := F))) (s₀ m ρ) (Pipeline.FramePost cfgs (plan m) 0 (V m)) :=
  (θ_run defs _ _).mono (fun _ h => h.1) (launch m ρ)

/-- Every run ends with the arguments unchanged and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (plan m) (plan_A m) (launch_post m ρ)) ((θ_run defs _ _).mono (fun _ h => h.2) (launch m ρ))

end Cert.KernelIdeal.Attn

end
-- ==== Proof.Softmax.lean ====
/- Softmax taken block by block: a running maximum, a running weighted sum rescaled whenever the maximum moves, and one
   division at the end, equal to the softmax-weighted sum written out. Extended reals throughout; scores real. -/
module

public import Idealize.ShloMosaic.PureOps
public import Idealize.ShloMosaic.PureOps.Ideal

@[expose] public section

noncomputable section

namespace Cert.Softmax

open Idealize.ShloMosaic

/-- The largest of the first `n` numbers of a list (`⊥` of none). -/
def top (S : ℕ → EReal) (n : ℕ) : EReal := (Finset.range n).sup S

/-- The running weighted sum after `j` blocks of `T` scores: each step rescales what it has to the new maximum
    and adds the block's weights times its values. -/
def runAcc (T : ℕ) (S V : ℕ → EReal) : ℕ → EReal
  | 0 => 0
  | j + 1 => Ideal.exp2 (top S (T * j) - top S (T * (j + 1))) * runAcc T S V j
      + ∑ t ∈ Finset.range T, V (T * j + t) * Ideal.exp2 (S (T * j + t) - top S (T * (j + 1)))

/-- The maximum of `n + T` numbers is that of the first `n` and of the `T` after them. -/
theorem top_add (S : ℕ → EReal) (n T : ℕ) :
    top S (n + T) = max (top S n) ((Finset.range T).sup fun t => S (n + t)) := by
  apply le_antisymm
  · refine Finset.sup_le fun x hx => ?_
    rw [Finset.mem_range] at hx
    by_cases h : x < n
    · exact le_max_of_le_left (Finset.le_sup (f := S) (Finset.mem_range.2 h))
    · refine le_max_of_le_right ?_
      have := Finset.le_sup (f := fun t => S (n + t)) (Finset.mem_range.2 (show x - n < T by omega))
      simpa [show n + (x - n) = x by omega] using this
  · refine max_le ?_ ?_
    · exact Finset.sup_mono (Finset.range_subset_range.2 (by omega))
    · refine Finset.sup_le fun x hx => ?_
      rw [Finset.mem_range] at hx
      exact Finset.le_sup (f := S) (Finset.mem_range.2 (by omega))

theorem top_mono (S : ℕ → EReal) {a b : ℕ} (h : a ≤ b) : top S a ≤ top S b :=
  Finset.sup_mono (Finset.range_subset_range.2 h)

theorem le_top (S : ℕ → EReal) {a n : ℕ} (h : a < n) : S a ≤ top S n :=
  Finset.le_sup (f := S) (Finset.mem_range.2 h)

/-- Powers of two are not negative. -/
theorem exp2_nonneg (x : EReal) : 0 ≤ Ideal.exp2 x := by
  induction x using EReal.rec with
  | bot => simp
  | top => simp
  | coe r =>
    rw [Ideal.exp2_coe]
    exact_mod_cast (Real.rpow_pos_of_pos (by norm_num) r).le

/-- The factor between two maxima, the first below the second, is finite. -/
theorem exp2_sub_ne_top {a b : EReal} (h : a ≤ b) : Ideal.exp2 (a - b) ≠ ⊤ := by
  induction b using EReal.rec with
  | bot => simp [le_bot_iff.1 h]
  | top => simp
  | coe s =>
    induction a using EReal.rec with
    | bot => simp
    | top => simp at h
    | coe r =>
      rw [← EReal.coe_sub, Ideal.exp2_coe]
      exact EReal.coe_ne_top _

/-- Rescaling a weight taken at an older maximum gives the weight at the newer one. -/
theorem exp2_rescale {s a b : EReal} (hs : s ≤ a) (h : a ≤ b) :
    Ideal.exp2 (a - b) * Ideal.exp2 (s - a) = Ideal.exp2 (s - b) := by
  induction b using EReal.rec with
  | bot =>
    obtain rfl := le_bot_iff.1 h
    obtain rfl := le_bot_iff.1 hs
    simp
  | top => simp
  | coe b =>
    induction a using EReal.rec with
    | bot =>
      obtain rfl := le_bot_iff.1 hs
      simp
    | top => simp at h
    | coe a =>
      induction s using EReal.rec with
      | bot => simp
      | top => simp at hs
      | coe s =>
        rw [← EReal.coe_sub, ← EReal.coe_sub, ← EReal.coe_sub, Ideal.exp2_coe, Ideal.exp2_coe, Ideal.exp2_coe,
          ← EReal.coe_mul]
        congr 1
        show (2 : ℝ) ^ (a - b) * (2 : ℝ) ^ (s - a) = (2 : ℝ) ^ (s - b)
        rw [← Real.rpow_add (by norm_num)]
        congr 1
        ring

/-- A finite factor that is not negative goes into a sum. -/
theorem mul_sum_of_nonneg {ι : Type*} {a : EReal} (h0 : 0 ≤ a) (h1 : a ≠ ⊤) (s : Finset ι) (f : ι → EReal) :
    a * ∑ i ∈ s, f i = ∑ i ∈ s, a * f i := by
  classical
  induction s using Finset.induction_on with
  | empty => simp
  | insert i s hi ih =>
    rw [Finset.sum_insert hi, Finset.sum_insert hi, EReal.left_distrib_of_nonneg_of_ne_top h0 h1, ih]

/-- The running sum after `j` blocks is the sum of all the scores so far, weighted at the maximum so far. -/
theorem runAcc_eq (T : ℕ) (S V : ℕ → EReal) (j : ℕ) :
    runAcc T S V j = ∑ t ∈ Finset.range (T * j), V t * Ideal.exp2 (S t - top S (T * j)) := by
  induction j with
  | zero => simp [runAcc]
  | succ j ih =>
    have hm : top S (T * j) ≤ top S (T * (j + 1)) := top_mono S (Nat.mul_le_mul_left _ (Nat.le_succ _))
    rw [runAcc, ih, mul_sum_of_nonneg (exp2_nonneg _) (exp2_sub_ne_top hm)]
    conv_rhs => rw [show Finset.range (T * (j + 1)) = Finset.range (T * j + T) by rw [Nat.mul_succ]]
    rw [Finset.sum_range_add]
    congr 1
    refine Finset.sum_congr rfl fun t ht => ?_
    rw [← exp2_rescale (le_top S (Finset.mem_range.1 ht)) hm, ← mul_assoc, ← mul_assoc, mul_comm (V t)]

/-- A power of two of a score in units of `log 2` is the exponential of the score. -/
theorem exp2_scaled (s m : ℝ) :
    Ideal.exp2 ((((Real.log 2)⁻¹ * s : ℝ) : EReal) - (((Real.log 2)⁻¹ * m : ℝ) : EReal))
      = ((Real.exp (s - m) : ℝ) : EReal) := by
  rw [← EReal.coe_sub, Ideal.exp2_coe]
  congr 1
  show (2 : ℝ) ^ ((Real.log 2)⁻¹ * s - (Real.log 2)⁻¹ * m) = _
  have h2 : Real.log 2 ≠ 0 := (Real.log_pos (by norm_num)).ne'
  rw [Real.rpow_def_of_pos (by norm_num)]
  congr 1
  field_simp

/-- The maximum of scores in units of `log 2` is the scores' maximum in those units, a real number. -/
theorem top_scaled (S : ℕ → ℝ) {n : ℕ} (hn : 0 < n) :
    ∃ M : ℝ, top (fun t => ((S t : ℝ) : EReal)) n = (M : EReal)
      ∧ top (fun t => (((Real.log 2)⁻¹ * S t : ℝ) : EReal)) n = (((Real.log 2)⁻¹ * M : ℝ) : EReal)
      ∧ ∃ t < n, S t = M := by
  obtain ⟨t, ht, hmax⟩ := Finset.exists_max_image (Finset.range n) S ⟨0, Finset.mem_range.2 hn⟩
  have hl : 0 < (Real.log 2)⁻¹ := inv_pos.2 (Real.log_pos (by norm_num))
  refine ⟨S t, ?_, ?_, t, Finset.mem_range.1 ht, rfl⟩
  · apply le_antisymm
    · exact Finset.sup_le fun x hx => EReal.coe_le_coe_iff.2 (hmax x hx)
    · exact Finset.le_sup (f := fun t => ((S t : ℝ) : EReal)) ht
  · apply le_antisymm
    · exact Finset.sup_le fun x hx => EReal.coe_le_coe_iff.2 (mul_le_mul_of_nonneg_left (hmax x hx) hl.le)
    · exact Finset.le_sup (f := fun t => (((Real.log 2)⁻¹ * S t : ℝ) : EReal)) ht

/-- THE EQUATION. With real scores `S` the block-by-block weighted sum of `V`, taken with powers of two of the scores in
    units of `log 2` and divided once by the running sum of the weights, is the sum of `V` against the softmax of `S`. -/
theorem flash_eq (T n : ℕ) (hT : 0 < T * n) (S : ℕ → ℝ) (V : ℕ → EReal) :
    Ideal.div (runAcc T (fun t => (((Real.log 2)⁻¹ * S t : ℝ) : EReal)) V n)
        (runAcc T (fun t => (((Real.log 2)⁻¹ * S t : ℝ) : EReal)) (fun _ => 1) n)
      = ∑ t ∈ Finset.range (T * n), V t * Ideal.div
          (Ideal.exp (((S t : ℝ) : EReal) - top (fun t => ((S t : ℝ) : EReal)) (T * n)))
          (∑ t ∈ Finset.range (T * n), Ideal.exp (((S t : ℝ) : EReal) - top (fun t => ((S t : ℝ) : EReal)) (T * n))) := by
  obtain ⟨M, hM, hM', t₀, ht₀, hS⟩ := top_scaled S hT
  rw [runAcc_eq, runAcc_eq, hM, hM']
  simp only [one_mul, exp2_scaled]
  have he : ∀ t, Ideal.exp (((S t : ℝ) : EReal) - (M : EReal)) = ((Real.exp (S t - M) : ℝ) : EReal) := fun t => by
    rw [← EReal.coe_sub, Ideal.exp_coe]
  simp only [he]
  have hsum : ∑ t ∈ Finset.range (T * n), ((Real.exp (S t - M) : ℝ) : EReal)
      = ((∑ t ∈ Finset.range (T * n), Real.exp (S t - M) : ℝ) : EReal) := by
    induction Finset.range (T * n) using Finset.induction_on with
    | empty => simp
    | insert i s hi ih => rw [Finset.sum_insert hi, Finset.sum_insert hi, ih, EReal.coe_add]
  rw [hsum]
  have hpos : 0 < ∑ t ∈ Finset.range (T * n), Real.exp (S t - M) :=
    Finset.sum_pos (fun _ _ => Real.exp_pos _) ⟨t₀, Finset.mem_range.2 ht₀⟩
  rw [Ideal.div_coe hpos.ne', mul_comm]
  rw [mul_sum_of_nonneg (by exact_mod_cast (one_div_pos.2 hpos).le) (EReal.coe_ne_top _)]
  refine Finset.sum_congr rfl fun t _ => ?_
  rw [Ideal.div_coe hpos.ne', mul_comm, mul_assoc]

end Cert.Softmax

end
-- ==== Proof.Average.lean ====
/- Grouped attention as a formula: the values averaged by the softmax of the scaled scores of a query against all keys,
   the context's keys before the sequence's own. -/
module

public import proofs.«01_k».proof.Proof.Softmax
public import Idealize.ShloMosaic.Lib.Pointwise

@[expose] public section

noncomputable section

namespace Cert.Average

open Idealize.ShloMosaic Cert.Softmax

/-- The queries: 8 heads of 64 features at each of 8192 places of 4 sequences. -/
abbrev Heads := FVec Ideal ⟨4, ![4, 8192, 8, 64]⟩ .f32
/-- Keys or values of the context: 2 heads of 64 features at each of 256 places. -/
abbrev Context := FVec Ideal ⟨4, ![4, 256, 2, 64]⟩ .f32
/-- Keys or values of the sequences themselves. -/
abbrev Latent := FVec Ideal ⟨4, ![4, 8192, 2, 64]⟩ .f32

/-- The `p`-th of the context's and the sequence's entries, one after another. -/
def joined (x : Context) (y : Latent) (b : Fin 4) (h : Fin 2) (p : ℕ) (d : Fin 64) : EReal :=
  if p < 256 then x (ix4 b ⟨p % 256, Nat.mod_lt _ (by decide)⟩ h d)
  else y (ix4 b ⟨(p - 256) % 8192, Nat.mod_lt _ (by decide)⟩ h d)

/-- The score of the `p`-th key: its inner product with the query, divided by 8. -/
def scores (q : Heads) (x : Context) (y : Latent) (b : Fin 4) (l : Fin 8192) (h : Fin 2) (g : Fin 4) (p : ℕ) : EReal :=
  (∑ d : Fin 64, joined x y b h p d * q (ix4 b l ⟨4 * h.val + g.val, by omega⟩ d)) * ((8⁻¹ : ℝ) : EReal)

/-- The average of numbers by the softmax of scores. -/
def average (S V : ℕ → EReal) (n : ℕ) : EReal :=
  ∑ t ∈ Finset.range n, V t * Ideal.div (Ideal.exp (S t - top S n)) (∑ t ∈ Finset.range n, Ideal.exp (S t - top S n))

/-- The attention of one query and one feature. -/
def attend (q : Heads) (kx : Context) (ky : Latent) (vx : Context) (vy : Latent) (b : Fin 4) (l : Fin 8192) (h : Fin 2) (g : Fin 4)
    (d : Fin 64) : EReal :=
  average (scores q kx ky b l h g) (fun t => joined vx vy b h t d) 8448

/-- The attention of all queries, the heads side by side. -/
def attention (q : Heads) (kx : Context) (ky : Latent) (vx : Context) (vy : Latent) : FVec Ideal ⟨3, ![4, 8192, 512]⟩ .bf16 :=
  fun i => attend q kx ky vx vy (i 0) (i 1) ⟨(i 2).val / 256, by have h : (i 2).val < 512 := (i 2).isLt; omega⟩
    ⟨(i 2).val / 64 % 4, Nat.mod_lt _ (by decide)⟩ ⟨(i 2).val % 64, Nat.mod_lt _ (by decide)⟩

end Cert.Average

end
-- ==== Proof.Entry.lean ====
/- The arrays the launch reads, at an index, over the extended reals: each an entry of the arguments. -/
module

public import proofs.«01_k».proof.Proof.Launch
public import Idealize.ShloMosaic.Lib.Pipeline.ValueKit
public import proofs.«01_k».proof.Proof.Average
public import Idealize.ShloMosaic.Lib.Pointwise
public import Idealize.ShloMosaic.Lib.Tactic.ValueTie
public import Idealize.ShloMosaic.Lib.IdealHost

@[expose] public section

set_option maxRecDepth 16384

noncomputable section

namespace Cert.KernelIdeal.Attn

open Idealize.ShloMosaic Idealize.ShloMosaic.TcCoe Idealize.ShloMosaic.Tactic Idealize.SL.Sem Cert.KernelIdeal Cert.KernelIdeal.Gen

variable (m : (ℓ : Loc nD τ sig) → Buf (Elt Ideal) ℓ) (c : Dev nD)

/-- The queries of device `c`. -/
abbrev argQ : Cert.Average.Heads := m ((c.tc : Thread nD τ).loc main_arg0)
/-- The context's keys. -/
abbrev argKx : Cert.Average.Context := m ((c.tc : Thread nD τ).loc main_arg1)
/-- The sequences' keys. -/
abbrev argKy : Cert.Average.Latent := m ((c.tc : Thread nD τ).loc main_arg2)
/-- The context's values. -/
abbrev argVx : Cert.Average.Context := m ((c.tc : Thread nD τ).loc main_arg3)
/-- The sequences' values. -/
abbrev argVy : Cert.Average.Latent := m ((c.tc : Thread nD τ).loc main_arg4)

/-- The launch's queries: the features of all heads, each over the places. -/
theorem entry_queries : (V m c main_v1 : FVec Ideal S4x512x8192 .f32)
    = transpose S4x512x8192 [0, 2, 1] (shapeCast S4x8192x512 (argQ m c) shapeCasts_S4x8192x8x64_S4x8192x512)
        transposes_S4x8192x512_S4x512x8192_0_2_1 := by
  entry_read
  rfl

/-- The launch's keys: the context's before the sequence's, in chunks. -/
theorem entry_keys : (V m c main_v13 : FVec Ideal S4x22x384x128 .bf16)
    = shapeCast S4x22x384x128 (concatenate S4x8448x128 1
        [⟨S4x256x128, truncf .bf16 (shapeCast S4x256x128 (argKx m c) shapeCasts_S4x256x2x64_S4x256x128) bitsLt_bf16_f32⟩,
         ⟨S4x8192x128, truncf .bf16 (shapeCast S4x8192x128 (argKy m c) shapeCasts_S4x8192x2x64_S4x8192x128) bitsLt_bf16_f32⟩]
        concatenates_S4x256x128_S4x8192x128_S4x8448x128_d1) shapeCasts_S4x8448x128_S4x22x384x128 := by
  entry_read
  rfl

/-- The queries at an index. -/
theorem queries_entry (b : Fin 4) (f : Fin 512) (l : Fin 8192) :
    (V m c main_v1 : FVec Ideal S4x512x8192 .f32) (ix3 b f l) = argQ m c (ix4 b l ⟨f.val / 64, by omega⟩ ⟨f.val % 64, by omega⟩) := by
  rw [entry_queries]
  generalize argQ m c = q
  pointwise

/-- The keys at an index. -/
theorem keys_entry (b : Fin 4) (j : Fin 22) (t : Fin 384) (e : Fin 128) :
    (V m c main_v13 : FVec Ideal S4x22x384x128 .bf16) (ix4 b j t e) = Cert.Average.joined (argKx m c) (argKy m c) b
      ⟨e.val / 64, by omega⟩ (384 * j.val + t.val) ⟨e.val % 64, by omega⟩ := by
  rw [entry_keys]
  generalize argKx m c = x
  generalize argKy m c = y
  pointwise [Cert.Average.joined]
  by_cases h : 384 * j.val + t.val < 256
  · rw [dif_pos (by omega), if_pos h]
    refine congrArg x ((ix4_inj _ _ _ _ _ _ _ _).2 ⟨rfl, Fin.ext ?_, rfl, rfl⟩)
    show j.val * 384 + t.val = (384 * j.val + t.val) % 256
    omega
  · rw [dif_neg (by omega), if_neg h]
    refine congrArg y ((ix4_inj _ _ _ _ _ _ _ _).2 ⟨rfl, Fin.ext ?_, rfl, rfl⟩)
    show j.val * 384 + t.val - 256 = (384 * j.val + t.val - 256) % 8192
    omega

/-- What the last three host operations write: the value rows out of the values, the ones and the zeros. -/
theorem rows_of (W : Valuation τ sig (Elt Ideal)) :
    (StableHlo.after (hostOps0 (F := Ideal).drop 20) W (Proc.devRef .tc main_v20) : FVec Ideal S4x2x22x80x384 .bf16)
    = transpose S4x2x22x80x384 [0, 1, 3, 2, 4] (shapeCast S4x2x80x22x384 (concatenate S4x2x80x8448 2
        [⟨S4x2x64x8448, (W (Proc.devRef .tc main_v15) : FVec Ideal S4x2x64x8448 .bf16)⟩,
         ⟨S4x2x1x8448, (W (Proc.devRef .tc main_v16) : FVec Ideal S4x2x1x8448 .bf16)⟩,
         ⟨S4x2x15x8448, (W (Proc.devRef .tc main_v17) : FVec Ideal S4x2x15x8448 .bf16)⟩]
        concatenates_S4x2x64x8448_S4x2x1x8448_S4x2x15x8448_S4x2x80x8448_d2) shapeCasts_S4x2x80x8448_S4x2x80x22x384)
        transposes_S4x2x80x22x384_S4x2x22x80x384_0_1_3_2_4 := by
  show StableHlo.after [_, _, _] W _ = _
  rw [StableHlo.after_cons, StableHlo.after_cons, StableHlo.after_cons, StableHlo.after_nil, StableHlo.unary_result, StableHlo.reshape_result,
    StableHlo.nary_result]
  rfl

/-- A buffer that the last three host operations leave alone is as before them. -/
theorem front_eq (b : Ref sig .tc) (h : b ≠ main_v18 ∧ b ≠ main_v19 ∧ b ≠ main_v20) :
    StableHlo.after (hostOps0 (F := Ideal).take 20) (fun b => m (c, b)) (Proc.devRef .tc b) = V m c b := by
  show _ = StableHlo.after (hostOps0 (F := Ideal).drop 20) (StableHlo.after (hostOps0 (F := Ideal).take 20) (fun b => m (c, b))) (Proc.devRef .tc b)
  refine (StableHlo.after_of_forall_not_mem _ _ (List.forall_iff_forall_mem.mp ?_)).symm
  show List.Forall _ [_, _, _]
  simp only [List.Forall, StableHlo.unary_writes, StableHlo.reshape_writes, StableHlo.nary_writes, Finset.mem_singleton]
  exact ⟨StableHlo.devRef_ne_of_ne h.1, StableHlo.devRef_ne_of_ne h.2.1, StableHlo.devRef_ne_of_ne h.2.2⟩

/-- The launch's values: feature by feature, the context's before the sequence's. -/
theorem entry_rows : (V m c main_v15 : FVec Ideal S4x2x64x8448 .bf16)
    = shapeCast S4x2x64x8448 (concatenate S4x128x8448 2
          [⟨S4x128x256, truncf .bf16 (transpose S4x128x256 [0, 2, 1] (shapeCast S4x256x128 (argVx m c) shapeCasts_S4x256x2x64_S4x256x128)
              transposes_S4x256x128_S4x128x256_0_2_1) bitsLt_bf16_f32⟩,
           ⟨S4x128x8192, truncf .bf16 (transpose S4x128x8192 [0, 2, 1] (shapeCast S4x8192x128 (argVy m c) shapeCasts_S4x8192x2x64_S4x8192x128)
              transposes_S4x8192x128_S4x128x8192_0_2_1) bitsLt_bf16_f32⟩] concatenates_S4x128x256_S4x128x8192_S4x128x8448_d2)
          shapeCasts_S4x128x8448_S4x2x64x8448 := by
  entry_read
  rfl

/-- The ones below the values. -/
theorem entry_ones : (V m c main_v16 : FVec Ideal S4x2x1x8448 .bf16)
    = broadcastInDim S4x2x1x8448 ![] bcast_S_S4x2x1x8448 (constant (F := Ideal) S_ .bf16 0x3F80#16) := by
  entry_read
  rfl

/-- The zeros below the ones. -/
theorem entry_zeros : (V m c main_v17 : FVec Ideal S4x2x15x8448 .bf16)
    = broadcastInDim S4x2x15x8448 ![] bcast_S_S4x2x15x8448 (constant (F := Ideal) S_ .bf16 0x0000#16) := by
  entry_read
  rfl

/-- The launch's value rows: the context's values before the sequence's, below them ones and zeros, in chunks. -/
theorem entry_values : (V m c main_v20 : FVec Ideal S4x2x22x80x384 .bf16)
    = transpose S4x2x22x80x384 [0, 1, 3, 2, 4] (shapeCast S4x2x80x22x384 (concatenate S4x2x80x8448 2
        [⟨S4x2x64x8448, shapeCast S4x2x64x8448 (concatenate S4x128x8448 2
          [⟨S4x128x256, truncf .bf16 (transpose S4x128x256 [0, 2, 1] (shapeCast S4x256x128 (argVx m c) shapeCasts_S4x256x2x64_S4x256x128)
              transposes_S4x256x128_S4x128x256_0_2_1) bitsLt_bf16_f32⟩,
           ⟨S4x128x8192, truncf .bf16 (transpose S4x128x8192 [0, 2, 1] (shapeCast S4x8192x128 (argVy m c) shapeCasts_S4x8192x2x64_S4x8192x128)
              transposes_S4x8192x128_S4x128x8192_0_2_1) bitsLt_bf16_f32⟩] concatenates_S4x128x256_S4x128x8192_S4x128x8448_d2)
          shapeCasts_S4x128x8448_S4x2x64x8448⟩,
         ⟨S4x2x1x8448, broadcastInDim S4x2x1x8448 ![] bcast_S_S4x2x1x8448 (constant S_ .bf16 0x3F80#16)⟩,
         ⟨S4x2x15x8448, broadcastInDim S4x2x15x8448 ![] bcast_S_S4x2x15x8448 (constant S_ .bf16 0x0000#16)⟩]
        concatenates_S4x2x64x8448_S4x2x1x8448_S4x2x15x8448_S4x2x80x8448_d2) shapeCasts_S4x2x80x8448_S4x2x80x22x384)
        transposes_S4x2x80x22x384_S4x2x22x80x384_0_1_3_2_4 := by
  show StableHlo.after (hostOps0 (F := Ideal).drop 20) (StableHlo.after (hostOps0 (F := Ideal).take 20) (fun b => m (c, b)))
    (Proc.devRef .tc main_v20) = _
  rw [rows_of, front_eq m c main_v15 (by decide), front_eq m c main_v16 (by decide), front_eq m c main_v17 (by decide),
    entry_rows, entry_ones, entry_zeros]

/-- The value rows at an index. -/
theorem values_entry (b : Fin 4) (k : Fin 2) (j : Fin 22) (r : Fin 80) (t : Fin 384) :
    (V m c main_v20 : FVec Ideal S4x2x22x80x384 .bf16) (ix5 b k j r t) = if r.val < 64 then
        Cert.Average.joined (argVx m c) (argVy m c) b k (384 * j.val + t.val) ⟨r.val % 64, by omega⟩
      else if r.val = 64 then 1 else 0 := by
  rw [entry_values]
  generalize argVx m c = x
  generalize argVy m c = y
  pointwise [Cert.Average.joined]
  by_cases hr : r.val < 64
  · rw [dif_pos hr, if_pos hr]
    by_cases h : 384 * j.val + t.val < 256
    · rw [dif_pos (by omega), if_pos h]
      refine congrArg x ((ix4_inj _ _ _ _ _ _ _ _).2 ⟨rfl, Fin.ext ?_, Fin.ext ?_, Fin.ext ?_⟩)
      · show j.val * 384 + t.val = (384 * j.val + t.val) % 256
        omega
      · show (k.val * 64 + r.val) / 64 = k.val
        omega
      · show (k.val * 64 + r.val) % 64 = r.val % 64
        omega
    · rw [dif_neg (by omega), if_neg h]
      refine congrArg y ((ix4_inj _ _ _ _ _ _ _ _).2 ⟨rfl, Fin.ext ?_, Fin.ext ?_, Fin.ext ?_⟩)
      · show j.val * 384 + t.val - 256 = (384 * j.val + t.val - 256) % 8192
        omega
      · show (k.val * 64 + r.val) / 64 = k.val
        omega
      · show (k.val * 64 + r.val) % 64 = r.val % 64
        omega
  · rw [dif_neg hr, if_neg hr]
    by_cases h1 : r.val = 64
    · rw [dif_pos (by omega), if_pos h1]
    · rw [dif_neg (by omega), if_neg h1]

end Cert.KernelIdeal.Attn

end
-- ==== Proof.Value.lean ====
/- The operations of one key chunk read at an index, over the extended reals. -/
module

public import proofs.«01_k».proof.Proof.Block
public import proofs.«01_k».proof.Proof.Softmax
public import Idealize.ShloMosaic.Lib.Pointwise
public import Idealize.ShloMosaic.Lib.IdealHost

@[expose] public section

set_option maxRecDepth 16384

noncomputable section

namespace Cert.KernelIdeal.Attn

open Idealize.ShloMosaic Idealize.SL.Sem Cert.KernelIdeal Cert.KernelIdeal.Gen

/-- The pattern of minus infinity is the least extended real. -/
theorem neg_inf : Ideal.ofBits .f32 0xFF800000#32 = ⊥ := by
  simp [Ideal.ofBits, Ideal.ieee]

/-- A score is the inner product of a key and a query over the 128 features. -/
theorem score_at (q : FVec Ideal S128x1024 .bf16) (k : Vec Ideal S1x1x384x128 .bf16) (t : Fin 384) (n : Fin 1024) :
    score q k (ix2 t n) = ∑ d : Fin 128, k (ix4 0 0 t d) * q (ix2 d n) := by
  pointwise [score]

/-- A query's largest score of a chunk. -/
theorem peak_at (s : FVec Ideal S384x1024 .f32) (n : Fin 1024) :
    peak s (ix2 0 n) = (Finset.univ : Finset (Fin 384)).sup fun t => s (ix2 t n) := by
  pointwise [peak, neg_inf]
  rfl

/-- The weighted sum after one more chunk, at one value row and one query. -/
theorem grow_at (m n : FVec Ideal S1x1024 .f32) (acc : FVec Ideal S80x1024 .f32) (s : FVec Ideal S384x1024 .f32)
    (v : Vec Ideal S1x1x1x80x384 .bf16) (r : Fin 80) (c : Fin 1024) :
    grow m n acc s v (ix2 r c) = Ideal.exp2 (m (ix2 0 c) - n (ix2 0 c)) * acc (ix2 r c)
      + ∑ t : Fin 384, v (ix5 0 0 0 r t) * Ideal.exp2 (s (ix2 t c) - n (ix2 0 c)) := by
  pointwise [grow]
  rfl

/-- The quotient of a weighted sum by the sum of its weights (value row 64), at a query, and a head and feature. -/
theorem finish_at (p : FVec Ideal S80x1024 .f32) (u c : Fin 256) :
    finish p (ix3 0 u c) = Ideal.div (p (ix2 ⟨c.val % 64, by omega⟩ ⟨256 * (c.val / 64) + u.val, by omega⟩))
      (p (ix2 64 ⟨256 * (c.val / 64) + u.val, by omega⟩)) := by
  have key : ∀ (e : Fin 64) (w : Fin 1024), c.val % 64 = e.val → 256 * (c.val / 64) + u.val = w.val →
      Ideal.div (p (ix2 ⟨e.val, by omega⟩ w)) (p (ix2 64 w)) = Ideal.div (p (ix2 ⟨c.val % 64, by omega⟩ ⟨256 * (c.val / 64) + u.val, by omega⟩))
        (p (ix2 64 ⟨256 * (c.val / 64) + u.val, by omega⟩)) := fun e w h h' => by
    rw [show (⟨256 * (c.val / 64) + u.val, by omega⟩ : Fin 1024) = w from Fin.ext h',
      show (⟨c.val % 64, by omega⟩ : Fin 80) = ⟨e.val, by omega⟩ from Fin.ext h]
  pointwise [finish]
  split
  · exact key ⟨c.val, by omega⟩ ⟨u.val, by omega⟩ (by simp; omega) (by simp; omega)
  split
  · exact key ⟨c.val - 64, by omega⟩ ⟨256 + u.val, by omega⟩ (by simp; omega) (by simp; omega)
  split
  · exact key ⟨c.val - 64 - 64, by omega⟩ ⟨512 + u.val, by omega⟩ (by simp; omega) (by simp; omega)
  exact key ⟨c.val - 64 - 64 - 64, by omega⟩ ⟨768 + u.val, by omega⟩ (by simp; omega) (by simp; omega)

/-- The mask of a head's own half of the features. -/
theorem half_at (i : grid0.Coords) (d : Fin 128) (n : Fin 256) :
    k0_pay194 i (ix2 d n) = if d.val / 64 = (i 1).val then 1#1 else 0#1 := by
  pointwise [k0_pay194]
  have h : ∀ (e : Fin 128) (k : Fin 2), IntOp.cmpi .eq (IntOp.shrsi .vector (BitVec.ofNat 32 e.val) 6#32) (BitVec.ofNat 32 k.val)
      = if e.val / 64 = k.val then 1#1 else 0#1 := by decide +kernel
  exact h d (i 1)

/-- One head of a block, scaled, on its own half of the features. -/
theorem headQ_at (i : grid0.Coords) (a : Vec Ideal S1x64x256 .f32) (d : Fin 128) (n : Fin 256) :
    headQ i a (ix2 d n) = if d.val / 64 = (i 1).val then
      a (ix3 0 ⟨d.val % 64, by omega⟩ n) * (((8 * Real.log 2)⁻¹ : ℝ) : EReal) else 0 := by
  have hk : Named.named (F := Ideal) κ "qscale" (φ := .f32) 0x3E38AA3B#32 = (((8 * Real.log 2)⁻¹ : ℝ) : EReal) :=
    IdealRules.named_const.ideal_named_scalar _ _ _ _ rfl
  pointwise [headQ, k0_pay195, hk, half_at]
  by_cases h : d.val / 64 = (i 1).val
  · rw [if_pos h, if_pos h, ValueIdx.select_one]
    split
    · refine congrArg (· * _) (congrArg a ?_)
      rw [ix3_inj]; exact ⟨rfl, Fin.ext (by simp; omega), rfl⟩
    · refine congrArg (· * _) (congrArg a ?_)
      rw [ix3_inj]; exact ⟨rfl, Fin.ext (by simp; omega), rfl⟩
  · rw [if_neg h, if_neg h, ValueIdx.select_zero]

/-- The four heads of a sub-block side by side. -/
theorem queries_at (i : grid0.Coords) (x0 : Vec Ideal S1x256x1024 .f32) (s : Fin 4) (d : Fin 128) (n : Fin 1024) :
    queries i x0 s (ix2 d n) = headQ i (slab x0 ⟨n.val / 256, by omega⟩ s) (ix2 d ⟨n.val % 256, by omega⟩) := by
  pointwise [queries]
  have key : ∀ (k : Fin 4) (w : Fin 256), n.val = 256 * k.val + w.val → headQ i (slab x0 k s) (ix2 d w)
      = headQ i (slab x0 ⟨n.val / 256, by omega⟩ s) (ix2 d ⟨n.val % 256, by omega⟩) := fun k w h => by
    rw [show (⟨n.val / 256, by omega⟩ : Fin 4) = k from Fin.ext (by simp; omega),
      show (⟨n.val % 256, by omega⟩ : Fin 256) = w from Fin.ext (by simp; omega)]
  split
  · exact key 0 _ (by simp)
  split
  · exact key 1 _ (by simp; omega)
  split
  · exact key 2 _ (by simp; omega)
  exact key 3 _ (by simp; omega)

end Cert.KernelIdeal.Attn

end
-- ==== Proof.Recur.lean ====
/- The attention block over the extended reals: the running maximum and sums in closed form, and for real queries and
   keys the weighted average of the values by the softmax of the scaled scores. -/
module

public import proofs.«01_k».proof.Proof.Value

@[expose] public section

set_option maxRecDepth 16384

noncomputable section

namespace Cert.KernelIdeal.Attn

open Idealize.ShloMosaic Idealize.SL.Sem Cert.KernelIdeal Cert.KernelIdeal.Gen Cert.Softmax

variable (q : FVec Ideal S128x1024 .bf16) (x1 : Vec Ideal S1x22x384x128 .bf16) (x2 : Vec Ideal S1x1x22x80x384 .bf16)

/-- The score of the `p`-th key of a block, the chunks one after another, against one query. -/
def scoreOf (w : Fin 128 → EReal) (p : ℕ) : EReal :=
  ∑ d : Fin 128, x1 (ix4 0 ⟨p / 384 % 22, Nat.mod_lt _ (by decide)⟩ ⟨p % 384, Nat.mod_lt _ (by decide)⟩ d) * w d

/-- The `p`-th entry of a value row, the chunks one after another. -/
def valueOf (r : Fin 80) (p : ℕ) : EReal :=
  x2 (ix5 0 0 ⟨p / 384 % 22, Nat.mod_lt _ (by decide)⟩ r ⟨p % 384, Nat.mod_lt _ (by decide)⟩)

theorem place_div (j : ℕ) (t : Fin 384) : (384 * j + t.val) / 384 = j := by omega
theorem place_mod (j : ℕ) (t : Fin 384) : (384 * j + t.val) % 384 = t.val := by omega

/-- A chunk's score in the order of all keys. -/
theorem score_chunk (j : ℕ) (t : Fin 384) (n : Fin 1024) :
    score q (keys x1 j) (ix2 t n) = scoreOf x1 (fun d => q (ix2 d n)) (384 * j + t.val) := by
  rw [score_at]
  unfold scoreOf
  refine Finset.sum_congr rfl fun d _ => ?_
  refine congrArg (· * _) ?_
  show x1 _ = x1 _
  exact congrArg x1 ((ix4_inj _ _ _ _ _ _ _ _).2
    ⟨rfl, Fin.ext (by simp only [place_div]), Fin.ext (by show t.val = _; simp only [place_mod]), rfl⟩)

/-- A chunk's values in the order of all keys. -/
theorem vals_chunk (j : ℕ) (t : Fin 384) (r : Fin 80) :
    vals x2 j (ix5 0 0 0 r t) = valueOf x2 r (384 * j + t.val) := by
  show x2 _ = x2 _
  exact congrArg x2 ((ix5_inj _ _ _ _ _ _ _ _ _ _).2
    ⟨rfl, rfl, Fin.ext (by simp only [place_div]), rfl, Fin.ext (by show t.val = _; simp only [place_mod])⟩)

/-- The largest of finitely many numbers, over a range or over the positions. -/
theorem sup_range (T : ℕ) (f : ℕ → EReal) : (Finset.range T).sup f = (Finset.univ : Finset (Fin T)).sup fun t => f t.val := by
  apply le_antisymm
  · refine Finset.sup_le fun x hx => ?_
    exact Finset.le_sup (f := fun t : Fin T => f t.val) (Finset.mem_univ ⟨x, Finset.mem_range.1 hx⟩)
  · exact Finset.sup_le fun t _ => Finset.le_sup (f := f) (Finset.mem_range.2 t.isLt)

/-- The running maximum is the largest score so far. -/
theorem peaks_at (j : ℕ) (n : Fin 1024) :
    peaks q x1 j (ix2 0 n) = top (scoreOf x1 fun d => q (ix2 d n)) (384 * j) := by
  induction j with
  | zero =>
    show Ideal.ofBits .f32 0xFF800000#32 = _
    rw [neg_inf]; simp [top]
  | succ j ih =>
    rw [peaks_succ]
    show max (peaks q x1 j (ix2 0 n)) (peak (score q (keys x1 j)) (ix2 0 n)) = _
    rw [ih, peak_at, Nat.mul_succ, top_add, sup_range]
    simp only [score_chunk]

/-- The running sums are those of the recursion over blocks of scores. -/
theorem sums_at (j : ℕ) (r : Fin 80) (n : Fin 1024) :
    sums q x1 x2 j (ix2 r n) = runAcc 384 (scoreOf x1 fun d => q (ix2 d n)) (valueOf x2 r) j := by
  induction j with
  | zero =>
    show Ideal.ofBits .f32 0x00000000#32 = 0
    simp [Ideal.ofBits, Ideal.ieee]
  | succ j ih =>
    rw [sums_succ, grow_at, ih, peaks_at, peaks_at, runAcc, Finset.sum_range]
    simp only [score_chunk, vals_chunk]

/-- The block at a row and a column: the quotient of the two running sums over all 22 chunks. -/
theorem block_at (i : grid0.Coords) (x0 : Vec Ideal S1x256x1024 .f32) (y : Fin 1024) (c : Fin 256) :
    block i x0 x1 x2 (ix3 0 y c)
      = Ideal.div (runAcc 384 (scoreOf x1 fun d => queries i x0 ⟨y.val / 256, by omega⟩ (ix2 d ⟨256 * (c.val / 64) + y.val % 256, by omega⟩))
          (valueOf x2 ⟨c.val % 64, by omega⟩) 22)
        (runAcc 384 (scoreOf x1 fun d => queries i x0 ⟨y.val / 256, by omega⟩ (ix2 d ⟨256 * (c.val / 64) + y.val % 256, by omega⟩))
          (valueOf x2 64) 22) := by
  show finish (sums (queries i x0 ⟨y.val / 256, by omega⟩) x1 x2 22) (ix3 0 ⟨y.val % 256, by omega⟩ c) = _
  rw [finish_at, sums_at, sums_at]

/-- A block's query column: the head's 64 features, scaled, in the head's own half, and zero in the other. -/
theorem query_at (i : grid0.Coords) (x0 : Vec Ideal S1x256x1024 .f32) (y : Fin 1024) (c : Fin 256) (d : Fin 128) :
    queries i x0 ⟨y.val / 256, by omega⟩ (ix2 d ⟨256 * (c.val / 64) + y.val % 256, by omega⟩)
      = if d.val / 64 = (i 1).val then
          x0 (ix3 0 ⟨64 * (c.val / 64) + d.val % 64, by omega⟩ y) * (((8 * Real.log 2)⁻¹ : ℝ) : EReal) else 0 := by
  rw [queries_at, headQ_at]
  refine if_congr Iff.rfl (congrArg (· * _) ?_) rfl
  show x0 _ = x0 _
  refine congrArg x0 ?_
  rw [ix3_inj]
  refine ⟨rfl, Fin.ext ?_, Fin.ext ?_⟩
  · simp; omega
  · simp; omega

/-- A sum of reals among the extended reals. -/
theorem sum_coe {n : ℕ} (f : Fin n → ℝ) : (∑ d, ((f d : ℝ) : EReal)) = ((∑ d, f d : ℝ) : EReal) := by
  refine Finset.induction_on (motive := fun s : Finset (Fin n) => (∑ d ∈ s, ((f d : ℝ) : EReal)) = ((∑ d ∈ s, f d : ℝ) : EReal))
    Finset.univ (by simp) fun a s ha ih => ?_
  rw [Finset.sum_insert ha, Finset.sum_insert ha, ih, EReal.coe_add]

/-- A sum over 128 positions, half by half. -/
theorem sum_halves (f : Fin 128 → EReal) : ∑ d, f d = (∑ d : Fin 64, f ⟨d.val, by omega⟩) + ∑ d : Fin 64, f ⟨64 + d.val, by omega⟩ :=
  Fin.sum_univ_add (a := 64) (b := 64) f

/-- The score of a real key and a real query: their inner product over the head's features, divided by 8, in units
    of the logarithm of two. -/
theorem scoreOf_real (i : grid0.Coords) (x0 : Vec Ideal S1x256x1024 .f32) (y : Fin 1024) (c : Fin 256)
    (k : ℕ → Fin 64 → ℝ) (w : Fin 64 → ℝ)
    (hk : ∀ p d, x1 (ix4 0 ⟨p / 384 % 22, Nat.mod_lt _ (by decide)⟩ ⟨p % 384, Nat.mod_lt _ (by decide)⟩
      ⟨64 * (i 1).val + d.val, by have h : (i 1).val < 2 := (i 1).isLt; omega⟩) = ((k p d : ℝ) : EReal))
    (hw : ∀ d : Fin 64, x0 (ix3 0 ⟨64 * (c.val / 64) + d.val, by omega⟩ y) = ((w d : ℝ) : EReal)) :
    (scoreOf x1 fun d => queries i x0 ⟨y.val / 256, by omega⟩ (ix2 d ⟨256 * (c.val / 64) + y.val % 256, by omega⟩))
      = fun p => (((Real.log 2)⁻¹ * ((∑ d, k p d * w d) * 8⁻¹) : ℝ) : EReal) := by
  funext p
  unfold scoreOf
  simp only [query_at]
  have hi : (i 1).val < 2 := (i 1).isLt
  have hterm : ∀ d : Fin 64, ((k p d : ℝ) : EReal) * (((w d : ℝ) : EReal) * (((8 * Real.log 2)⁻¹ : ℝ) : EReal))
      = ((k p d * (w d * (8 * Real.log 2)⁻¹) : ℝ) : EReal) := fun d => by
    rw [EReal.coe_mul, EReal.coe_mul]
  have hsum : (∑ d : Fin 64, ((k p d * (w d * (8 * Real.log 2)⁻¹) : ℝ) : EReal))
      = (((Real.log 2)⁻¹ * ((∑ d, k p d * w d) * 8⁻¹) : ℝ) : EReal) := by
    rw [sum_coe]
    congr 1
    rw [Finset.sum_mul, Finset.mul_sum]
    refine Finset.sum_congr rfl fun d _ => ?_
    rw [mul_inv]; ring
  rw [← hsum, sum_halves]
  have hx1 : ∀ (d : Fin 64) (e : Fin 128), e.val = 64 * (i 1).val + d.val →
      x1 (ix4 0 ⟨p / 384 % 22, Nat.mod_lt _ (by decide)⟩ ⟨p % 384, Nat.mod_lt _ (by decide)⟩ e) = ((k p d : ℝ) : EReal) := fun d e he => by
    rw [← hk p d]
    exact congrArg x1 ((ix4_inj _ _ _ _ _ _ _ _).2 ⟨rfl, rfl, rfl, Fin.ext he⟩)
  have hx0 : ∀ (d : Fin 64) (e : Fin 256), e.val = 64 * (c.val / 64) + d.val → x0 (ix3 0 e y) = ((w d : ℝ) : EReal) := fun d e he => by
    rw [← hw d]
    exact congrArg x0 ((ix3_inj _ _ _ _ _ _).2 ⟨rfl, Fin.ext he, rfl⟩)
  have hlo : ∀ d : Fin 64, d.val / 64 = 0 := fun d => by omega
  have hhi : ∀ d : Fin 64, (64 + d.val) / 64 = 1 := fun d => by omega
  rcases (by omega : (i 1).val = 0 ∨ (i 1).val = 1) with h | h
  · have hz : ∑ d : Fin 64, (x1 (ix4 0 ⟨p / 384 % 22, Nat.mod_lt _ (by decide)⟩ ⟨p % 384, Nat.mod_lt _ (by decide)⟩ ⟨64 + d.val, by omega⟩)
        * if (64 + d.val) / 64 = (i 1).val then
          x0 (ix3 0 ⟨64 * (c.val / 64) + (64 + d.val) % 64, by omega⟩ y) * (((8 * Real.log 2)⁻¹ : ℝ) : EReal) else 0) = 0 :=
      Finset.sum_eq_zero fun d _ => by rw [if_neg (by rw [hhi, h]; decide), mul_zero]
    rw [hz, add_zero]
    refine Finset.sum_congr rfl fun d _ => ?_
    rw [if_pos (by rw [hlo, h]), ← hterm d, hx1 d _ (by simp [h]), hx0 d _ (by show _ + d.val % 64 = _; omega)]
  · have hz : ∑ d : Fin 64, (x1 (ix4 0 ⟨p / 384 % 22, Nat.mod_lt _ (by decide)⟩ ⟨p % 384, Nat.mod_lt _ (by decide)⟩ ⟨d.val, by omega⟩)
        * if d.val / 64 = (i 1).val then
          x0 (ix3 0 ⟨64 * (c.val / 64) + d.val % 64, by omega⟩ y) * (((8 * Real.log 2)⁻¹ : ℝ) : EReal) else 0) = 0 :=
      Finset.sum_eq_zero fun d _ => by rw [if_neg (by rw [hlo, h]; decide), mul_zero]
    rw [hz, zero_add]
    refine Finset.sum_congr rfl fun d _ => ?_
    rw [if_pos (by rw [hhi, h]), ← hterm d, hx1 d _ (by simp [h]), hx0 d _ (by show _ + (64 + d.val) % 64 = _; omega)]

/-- For real queries and keys and a row of ones below the values, the block is the average of the values by the
    softmax of the scores, each score the inner product of key and query divided by 8. -/
theorem block_real (i : grid0.Coords) (x0 : Vec Ideal S1x256x1024 .f32) (y : Fin 1024) (c : Fin 256)
    (k : ℕ → Fin 64 → ℝ) (w : Fin 64 → ℝ)
    (hk : ∀ p d, x1 (ix4 0 ⟨p / 384 % 22, Nat.mod_lt _ (by decide)⟩ ⟨p % 384, Nat.mod_lt _ (by decide)⟩
      ⟨64 * (i 1).val + d.val, by have h : (i 1).val < 2 := (i 1).isLt; omega⟩) = ((k p d : ℝ) : EReal))
    (hw : ∀ d : Fin 64, x0 (ix3 0 ⟨64 * (c.val / 64) + d.val, by omega⟩ y) = ((w d : ℝ) : EReal))
    (hone : ∀ p, valueOf x2 64 p = 1) :
    block i x0 x1 x2 (ix3 0 y c) = ∑ t ∈ Finset.range 8448, valueOf x2 ⟨c.val % 64, by omega⟩ t
      * Ideal.div (Ideal.exp ((((∑ d, k t d * w d) * 8⁻¹ : ℝ) : EReal) - top (fun t => (((∑ d, k t d * w d) * 8⁻¹ : ℝ) : EReal)) 8448))
        (∑ t ∈ Finset.range 8448, Ideal.exp ((((∑ d, k t d * w d) * 8⁻¹ : ℝ) : EReal)
          - top (fun t => (((∑ d, k t d * w d) * 8⁻¹ : ℝ) : EReal)) 8448)) := by
  rw [block_at, scoreOf_real x1 i x0 y c k w hk hw, show valueOf x2 64 = fun _ => 1 from funext hone]
  exact flash_eq 384 22 (by decide) (fun p => (∑ d, k p d * w d) * 8⁻¹) (valueOf x2 ⟨c.val % 64, by omega⟩)

end Cert.KernelIdeal.Attn

end
-- ==== Proof.Whole.lean ====
/- The blocks that a grid point reads, at an index, over the extended reals: entries of the arguments. -/
module

public import proofs.«01_k».proof.Proof.Entry
public import proofs.«01_k».proof.Proof.Recur

@[expose] public section

set_option maxRecDepth 16384

noncomputable section

namespace Cert.KernelIdeal.Attn

open Idealize.ShloMosaic Idealize.ShloMosaic.TcCoe Idealize.ShloMosaic.Tactic Idealize.SL.Sem Cert.KernelIdeal Cert.KernelIdeal.Gen
open Cert.Softmax

variable (m : (ℓ : Loc nD τ sig) → Buf (Elt Ideal) ℓ) (ρ : Dev nD → PrngReg) (c : Dev nD)

/-- The query window's block index is the grid point. -/
theorem index_queries : ∀ t : Fin grid0.N, win0_0.index t
    = ![(grid0.coords t 0).val, (grid0.coords t 1).val, (grid0.coords t 2).val] := by decide +kernel
/-- The key window's block index is the sequence. -/
theorem index_keys : ∀ t : Fin grid0.N, win0_1.index t = ![(grid0.coords t 0).val, 0, 0, 0] := by decide +kernel
/-- The value window's block index is the sequence and the head. -/
theorem index_values : ∀ t : Fin grid0.N, win0_2.index t = ![(grid0.coords t 0).val, (grid0.coords t 1).val, 0, 0, 0] := by decide +kernel
/-- The result window's block index is the sequence, the block of places and the head. -/
theorem index_result : ∀ t : Fin grid0.N, win0_3.index t
    = ![(grid0.coords t 0).val, (grid0.coords t 2).val, (grid0.coords t 1).val] := by decide +kernel

/-- The sequence of a grid point. -/
abbrev seqOf (t : Fin cfg0.N) : Fin 4 := grid0.coords t 0
/-- The key head of a grid point. -/
abbrev headOf (t : Fin cfg0.N) : Fin 2 := grid0.coords t 1
/-- The block of places of a grid point. -/
abbrev partOf (t : Fin cfg0.N) : Fin 8 := grid0.coords t 2

/-- A point's queries, at an index. -/
theorem block_queries (t : Fin cfg0.N) (f : Fin 256) (y : Fin 1024) :
    (iblk m c 0 t : Vec Ideal S1x256x1024 .f32) (ix3 0 f y) = argQ m c (ix4 (seqOf t) ⟨1024 * (partOf t).val + y.val, by omega⟩
      ⟨(256 * (headOf t).val + f.val) / 64, by omega⟩ ⟨(256 * (headOf t).val + f.val) % 64, by omega⟩) := by
  rw [← queries_entry m c (seqOf t) ⟨256 * (headOf t).val + f.val, by omega⟩ ⟨1024 * (partOf t).val + y.val, by omega⟩]
  blk_simp [iblk]
  refine congrArg (V m c main_v1 : FVec Ideal S4x512x8192 .f32) (funext fun a => Fin.ext ?_)
  fin_cases a
  · blk_simp [index_queries t]
    simp
  · blk_simp [index_queries t]
    simp [Nat.mul_comm]
  · blk_simp [index_queries t]
    simp [Nat.mul_comm]

/-- A point's keys, at an index. -/
theorem block_keys (t : Fin cfg0.N) (j : Fin 22) (s : Fin 384) (e : Fin 128) :
    (iblk m c 1 t : Vec Ideal S1x22x384x128 .bf16) (ix4 0 j s e) = Cert.Average.joined (argKx m c) (argKy m c) (seqOf t)
      ⟨e.val / 64, by omega⟩ (384 * j.val + s.val) ⟨e.val % 64, by omega⟩ := by
  rw [← keys_entry m c (seqOf t) j s e]
  blk_simp [iblk]
  refine congrArg (V m c main_v13 : FVec Ideal S4x22x384x128 .bf16) (funext fun a => Fin.ext ?_)
  fin_cases a <;> blk_simp [index_keys t] <;> simp

/-- A point's value rows, at an index. -/
theorem block_values (t : Fin cfg0.N) (j : Fin 22) (r : Fin 80) (s : Fin 384) :
    (iblk m c 2 t : Vec Ideal S1x1x22x80x384 .bf16) (ix5 0 0 j r s) = if r.val < 64 then
        Cert.Average.joined (argVx m c) (argVy m c) (seqOf t) (headOf t) (384 * j.val + s.val) ⟨r.val % 64, by omega⟩
      else if r.val = 64 then 1 else 0 := by
  rw [← values_entry m c (seqOf t) (headOf t) j r s]
  blk_simp [iblk]
  refine congrArg (V m c main_v20 : FVec Ideal S4x2x22x80x384 .bf16) (funext fun a => Fin.ext ?_)
  fin_cases a <;> blk_simp [index_values t] <;> simp

end Cert.KernelIdeal.Attn

end
-- ==== Proof.Result.lean ====
/- The attention kernel's result, over the extended reals and for real queries and keys: the attention formula. -/
module

public import proofs.«01_k».proof.Proof.Whole

@[expose] public section

set_option maxRecDepth 16384

noncomputable section

namespace Cert.KernelIdeal.Attn

open Idealize.ShloMosaic Idealize.ShloMosaic.TcCoe Idealize.ShloMosaic.Tactic Idealize.SL.Sem Cert.KernelIdeal Cert.KernelIdeal.Gen
open Cert.Softmax Cert.Average

variable (m : (ℓ : Loc nD τ sig) → Buf (Elt Ideal) ℓ) (ρ : Dev nD → PrngReg) (c : Dev nD)

/-- An average depends on the first `n` scores and values only. -/
theorem average_congr {S S' V V' : ℕ → EReal} {n : ℕ} (hS : ∀ t < n, S t = S' t) (hV : ∀ t < n, V t = V' t) :
    average S V n = average S' V' n := by
  have htop : top S n = top S' n := Finset.sup_congr rfl fun t ht => hS t (Finset.mem_range.1 ht)
  unfold average
  rw [htop]
  have hsum : (∑ t ∈ Finset.range n, Ideal.exp (S t - top S' n)) = ∑ t ∈ Finset.range n, Ideal.exp (S' t - top S' n) :=
    Finset.sum_congr rfl fun t ht => by rw [hS t (Finset.mem_range.1 ht)]
  rw [hsum]
  exact Finset.sum_congr rfl fun t ht => by rw [hS t (Finset.mem_range.1 ht), hV t (Finset.mem_range.1 ht)]

/-- An entry of two joined real arrays is real. -/
theorem joined_real {x : Context} {y : Latent} (hx : ∀ i, ∃ r : ℝ, x i = (r : EReal)) (hy : ∀ i, ∃ r : ℝ, y i = (r : EReal))
    (b : Fin 4) (h : Fin 2) (p : ℕ) (d : Fin 64) : ∃ r : ℝ, joined x y b h p d = (r : EReal) := by
  unfold joined
  split
  · exact hx _
  · exact hy _

/-- The place of the `p`-th key in its chunk is the `p`-th. -/
theorem place_eq {p : ℕ} (hp : p < 8448) : 384 * (p / 384 % 22) + p % 384 = p := by omega

/-- The attention formula at an index. -/
theorem attention_at (q : Heads) (kx : Context) (ky : Latent) (vx : Context) (vy : Latent) (b : Fin 4) (l : Fin 8192) (f : Fin 512)
    (h : Fin 2) (g : Fin 4) (d : Fin 64) (hf : f.val = 256 * h.val + 64 * g.val + d.val) :
    attention q kx ky vx vy (ix3 b l f) = attend q kx ky vx vy b l h g d := by
  show attend q kx ky vx vy b l ⟨f.val / 256, _⟩ ⟨f.val / 64 % 4, _⟩ ⟨f.val % 64, _⟩ = _
  rw [show (⟨f.val / 256, by omega⟩ : Fin 2) = h from Fin.ext (by show f.val / 256 = h.val; omega),
    show (⟨f.val / 64 % 4, by omega⟩ : Fin 4) = g from Fin.ext (by show f.val / 64 % 4 = g.val; omega),
    show (⟨f.val % 64, by omega⟩ : Fin 64) = d from Fin.ext (by show f.val % 64 = d.val; omega)]

/-- A grid point's block of the result is the attention formula's. -/
theorem left_at (hq : ∀ i, ∃ r : ℝ, argQ m c i = (r : EReal)) (hx : ∀ i, ∃ r : ℝ, argKx m c i = (r : EReal))
    (hy : ∀ i, ∃ r : ℝ, argKy m c i = (r : EReal)) (t : Fin cfg0.N) (y : Fin 1024) (f : Fin 256) :
    left m c t (ix3 0 y f) = attention (argQ m c) (argKx m c) (argKy m c) (argVx m c) (argVy m c)
      (ix3 (seqOf t) ⟨1024 * (partOf t).val + y.val, by omega⟩ ⟨256 * (headOf t).val + f.val, by omega⟩) := by
  choose rq hrq using hq
  choose rk hrk using joined_real hx hy
  rw [attention_at _ _ _ _ _ _ _ _ (headOf t) ⟨f.val / 64, by omega⟩ ⟨f.val % 64, by omega⟩
    (by show 256 * (headOf t).val + f.val = 256 * (headOf t).val + 64 * (f.val / 64) + f.val % 64; omega)]
  unfold left
  rw [block_real (iblk m c 1 t) (iblk m c 2 t) (grid0.coords t) (iblk m c 0 t) y f
    (fun p d => rk (seqOf t) (headOf t) (384 * (p / 384 % 22) + p % 384) d)
    (fun d => rq (ix4 (seqOf t) ⟨1024 * (partOf t).val + y.val, by omega⟩ ⟨4 * (headOf t).val + f.val / 64, by omega⟩ d))
    ?_ ?_ ?_]
  · refine average_congr (fun p hp => ?_) (fun p hp => ?_)
    · rw [place_eq hp]
      unfold scores
      rw [EReal.coe_mul, ← sum_coe]
      refine congrArg (· * _) (Finset.sum_congr rfl fun d _ => ?_)
      rw [EReal.coe_mul, hrk, hrq]
    · unfold valueOf
      rw [block_values, if_pos (by show f.val % 64 < 64; omega)]
      show joined _ _ _ _ (384 * (p / 384 % 22) + p % 384) ⟨f.val % 64 % 64, _⟩ = joined _ _ _ _ p ⟨f.val % 64, _⟩
      rw [place_eq hp]
      exact congrArg _ (Fin.ext (Nat.mod_mod _ _))
  · intro p d
    rw [block_keys, ← hrk]
    have e1 : (64 * (headOf t).val + d.val) / 64 = (headOf t).val := by omega
    have e2 : (64 * (headOf t).val + d.val) % 64 = d.val := by omega
    exact congrArg₂ (fun a b => joined (argKx m c) (argKy m c) (seqOf t) a (384 * (p / 384 % 22) + p % 384) b) (Fin.ext e1) (Fin.ext e2)
  · intro d
    rw [block_queries, ← hrq]
    have e1 : (256 * (headOf t).val + (64 * (f.val / 64) + d.val)) / 64 = 4 * (headOf t).val + f.val / 64 := by omega
    have e2 : (256 * (headOf t).val + (64 * (f.val / 64) + d.val)) % 64 = d.val := by omega
    exact congrArg (argQ m c) ((ix4_inj _ _ _ _ _ _ _ _).2 ⟨rfl, rfl, Fin.ext e1, Fin.ext e2⟩)
  · intro p
    unfold valueOf
    rw [block_values, if_neg (by decide), if_pos (by decide)]

/-- The result array after the run. -/
theorem result_eq (hq : ∀ i, ∃ r : ℝ, argQ m c i = (r : EReal)) (hx : ∀ i, ∃ r : ℝ, argKx m c i = (r : EReal))
    (hy : ∀ i, ∃ r : ℝ, argKy m c i = (r : EReal)) :
    (plan m 0 c).arrAt 3 cfg0.N = attention (argQ m c) (argKx m c) (argKy m c) (argVx m c) (argVy m c) := by
  refine (plan m 0 c).arrAt_eq_of_covers 3 _ (by decide +kernel) fun t hf y => ?_
  blk_simp
  rw [plan_after3]
  refine (congrArg (left m c t) (eq_ix3 (n0 := 1) (n1 := 1024) (n2 := 256) y)).trans ?_
  have h0 : ∀ a : Fin 1, a = 0 := fun a => Subsingleton.elim _ _
  refine (congrArg (left m c t) ((ix3_inj (n0 := 1) (n1 := 1024) (n2 := 256) _ _ _ _ _ _).2 ⟨h0 _, rfl, rfl⟩)).trans ?_
  refine (left_at m c hq hx hy t (y 1) (y 2)).trans ?_
  refine congrArg (attention (argQ m c) (argKx m c) (argKy m c) (argVx m c) (argVy m c)) (funext fun a => Fin.ext ?_)
  have h0' : (y 0 : ℕ) = 0 := congrArg Fin.val (h0 (y 0))
  fin_cases a
  · blk_simp [index_result t]
    simp [h0']
  · blk_simp [index_result t]
    simp [Nat.mul_comm]
  · blk_simp [index_result t]
    simp [Nat.mul_comm]

end Cert.KernelIdeal.Attn

end
-- ==== Proof.Reduced.lean ====
/- A maximum over axes of an array, over the extended reals: an upper bound of what it reduces, and the least one. -/
module

public import Idealize.ShloMosaic.Lib.Pointwise
public import Idealize.ShloMosaic.Lib.IdealHost

@[expose] public section

noncomputable section

namespace Cert.Reduced

open Idealize.ShloMosaic

variable {s t u : Shape} {axes : List (Fin s.rank)}

theorem foldl_le (B : EReal) : ∀ (l : List EReal) (a : EReal), a ≤ B → (∀ x ∈ l, x ≤ B) → l.foldl max a ≤ B
  | [], _, ha, _ => ha
  | y :: l, a, ha, hl => foldl_le B l (max a y) (max_le ha (hl y List.mem_cons_self)) fun x hx => hl x (List.mem_cons_of_mem _ hx)

theorem start_le_foldl : ∀ (l : List EReal) (a : EReal), a ≤ l.foldl max a
  | [], _ => le_refl _
  | y :: l, a => (le_max_left a y).trans (start_le_foldl l (max a y))

theorem le_foldl (x : EReal) : ∀ (l : List EReal) (a : EReal), x ∈ l → x ≤ l.foldl max a
  | y :: l, a, h => by
    rcases List.mem_cons.1 h with rfl | h
    · exact (le_max_right a x).trans (start_le_foldl l (max a x))
    · exact le_foldl x l (max a y) h

theorem reduce_list (x : FVec Ideal s .f32) (v : FVec Ideal u .f32) (h : s.ReducesTo axes t) (hu : 0 < u.numel) (j : t.Idx) :
    Host.reduce (FloatOps.maximumf (F := Ideal) (φ := .f32)) x v h hu j
      = (((List.finRange s.numel).filter fun n => h.drop (s.rowMajor.symm n) = j).map fun n => (x (s.rowMajor.symm n) : EReal)).foldl max
        (v (Shape.Idx.first hu)) := by
  rw [List.foldl_map]
  rfl

/-- Each number is at most the maximum at its place. -/
theorem le_reduce (x : FVec Ideal s .f32) (v : FVec Ideal u .f32) (h : s.ReducesTo axes t) (hu : 0 < u.numel) (i : s.Idx) :
    (x i : EReal) ≤ Host.reduce (FloatOps.maximumf (F := Ideal) (φ := .f32)) x v h hu (h.drop i) := by
  rw [reduce_list]
  refine le_foldl _ _ _ (List.mem_map.2 ⟨s.rowMajor i, List.mem_filter.2 ⟨List.mem_finRange _, ?_⟩, ?_⟩)
  · simp
  · rw [Equiv.symm_apply_apply]

/-- A bound of the start and of all numbers at a place bounds the maximum there. -/
theorem reduce_le (x : FVec Ideal s .f32) (v : FVec Ideal u .f32) (h : s.ReducesTo axes t) (hu : 0 < u.numel) (j : t.Idx) (B : EReal)
    (hv : (v (Shape.Idx.first hu) : EReal) ≤ B) (hx : ∀ i, h.drop i = j → (x i : EReal) ≤ B) :
    Host.reduce (FloatOps.maximumf (F := Ideal) (φ := .f32)) x v h hu j ≤ B := by
  rw [reduce_list]
  refine foldl_le B _ _ hv fun y hy => ?_
  obtain ⟨n, hn, rfl⟩ := List.mem_map.1 hy
  exact hx _ (by simpa using (List.mem_filter.1 hn).2)

/-- The pattern of an eighth. -/
theorem eighth : Ideal.ofBits .f32 0x3E000000#32 = ((8⁻¹ : ℝ) : EReal) := by
  simp [Ideal.ofBits, Ideal.ieee]
  rw [← EReal.coe_mul]
  norm_num

/-- The pattern of minus infinity is the least extended real. -/
theorem least : Ideal.ofBits .f32 0xFF800000#32 = ⊥ := by
  simp [Ideal.ofBits, Ideal.ieee]

/-- The pattern of infinity is the greatest extended real. -/
theorem greatest : Ideal.ofBits .f32 0x7F800000#32 = ⊤ := by
  simp [Ideal.ofBits, Ideal.ieee]

end Cert.Reduced

end
-- ==== Proof.Averaged.lean ====
/- The reference's composed term over the extended reals: it is the attention formula. -/
module

public import proofs.«01_k».proof.Proof.Average
public import proofs.«01_k».proof.Proof.Gen.ReferenceIdeal.Run
public import proofs.«01_k».proof.Proof.Reduced
public import Idealize.ShloMosaic.Lib.Pointwise
public import Idealize.ShloMosaic.Lib.IdealHost

@[expose] public section

set_option maxRecDepth 16384

noncomputable section

namespace Cert.ReferenceIdeal.Attn

open Idealize.ShloMosaic Idealize.SL.Sem Cert.ReferenceIdeal Cert.ReferenceIdeal.Gen Cert.Softmax Cert.Average

variable (q : Heads) (kx : Context) (ky : Latent) (vx : Context) (vy : Latent)

/-- All scores, scaled. -/
def scaled : FVec Ideal S4x2x4x8192x8448 .f32 :=
  mulf (transpose S4x2x4x8192x8448 [0, 1, 4, 3, 2] (Host.dotGeneral dot_S4x8448x2x64_S4x8192x2x4x64_S4x2x8448x8192x4_3_4_1_13_02_02 none
      (concatenate S4x8448x2x64 1 [⟨S4x256x2x64, kx⟩, ⟨S4x8192x2x64, ky⟩] concatenates_S4x256x2x64_S4x8192x2x64_S4x8448x2x64_d1)
      (shapeCast S4x8192x2x4x64 q shapeCasts_S4x8192x8x64_S4x8192x2x4x64)) transposes_S4x2x8448x8192x4_S4x2x4x8192x8448_0_1_4_3_2)
    (broadcastInDim S4x2x4x8192x8448 ![] bcast_S_S4x2x4x8192x8448 (constant S_ .f32 0x3E000000#32))

/-- The largest score of each query. -/
def largest (s : FVec Ideal S4x2x4x8192x8448 .f32) : FVec Ideal S4x2x4x8192 .f32 :=
  maximumf (broadcastInDim S4x2x4x8192 ![] bcast_S_S4x2x4x8192 (constant S_ .f32 0xFF800000#32))
    (Host.reduce FloatOps.maximumf s (constant S_ .f32 0xFF800000#32) reducesTo_S4x2x4x8192x8448_S4x2x4x8192_d4 h_S_)

/-- The exponentials of the scores below the largest. -/
def powers (s : FVec Ideal S4x2x4x8192x8448 .f32) : FVec Ideal S4x2x4x8192x8448 .f32 :=
  Host.exp (subf s (broadcastInDim S4x2x4x8192x8448 ![0, 1, 2, 3, 4] bcast_S4x2x4x8192x1_S4x2x4x8192x8448_0_1_2_3_4
    (broadcastInDim S4x2x4x8192x1 ![0, 1, 2, 3] bcast_S4x2x4x8192_S4x2x4x8192x1_0_1_2_3 (largest s))))

/-- The weights: the exponentials over their sum. -/
def weights (p : FVec Ideal S4x2x4x8192x8448 .f32) : FVec Ideal S4x2x4x8192x8448 .f32 :=
  Host.divf p (broadcastInDim S4x2x4x8192x8448 ![0, 1, 2, 3, 4] bcast_S4x2x4x8192x1_S4x2x4x8192x8448_0_1_2_3_4
    (broadcastInDim S4x2x4x8192x1 ![0, 1, 2, 3] bcast_S4x2x4x8192_S4x2x4x8192x1_0_1_2_3
      (Host.reduceAdd p (constant S_ .f32 0x00000000#32) reducesTo_S4x2x4x8192x8448_S4x2x4x8192_d4 h_S_)))

/-- The values averaged by the weights, the heads side by side. -/
def averaged (w : FVec Ideal S4x2x4x8192x8448 .f32) : FVec Ideal S4x8192x512 .bf16 :=
  truncf .bf16 (shapeCast S4x8192x512 (transpose S4x8192x2x4x64 [0, 4, 1, 3, 2]
    (Host.dotGeneral dot_S4x8448x2x64_S4x2x4x8192x8448_S4x2x64x4x8192_1_4_3_23_02_01 none
      (concatenate S4x8448x2x64 1 [⟨S4x256x2x64, vx⟩, ⟨S4x8192x2x64, vy⟩] concatenates_S4x256x2x64_S4x8192x2x64_S4x8448x2x64_d1) w)
    transposes_S4x2x64x4x8192_S4x8192x2x4x64_0_4_1_3_2) shapeCasts_S4x8192x2x4x64_S4x8192x512) bitsLt_bf16_f32

/-- A score at an index. -/
theorem scaled_at (b : Fin 4) (h : Fin 2) (g : Fin 4) (l : Fin 8192) (t : Fin 8448) :
    scaled q kx ky (ix5 b h g l t) = scores q kx ky b l h g t.val := by
  pointwise [scaled, scores, joined]
  rw [Cert.Reduced.eighth]
  refine congrArg (· * _) (Finset.sum_congr rfl fun x _ => congrArg₂ (· * ·) ?_
    (congrArg q ((ix4_inj _ _ _ _ _ _ _ _).2 ⟨rfl, rfl, Fin.ext (Nat.add_right_cancel_iff.2 (Nat.mul_comm _ _)), rfl⟩)))
  by_cases ht : t.val < 256
  · rw [dif_pos ht, if_pos ht]
    exact congrArg kx ((ix4_inj _ _ _ _ _ _ _ _).2 ⟨rfl, Fin.ext (Nat.mod_eq_of_lt ht).symm, rfl, rfl⟩)
  · rw [dif_neg ht, if_neg ht]
    exact congrArg ky ((ix4_inj _ _ _ _ _ _ _ _).2 ⟨rfl, Fin.ext (Nat.mod_eq_of_lt (by omega)).symm, rfl, rfl⟩)

theorem max_at {s : Shape} (a b : FVec Ideal s .f32) (i : s.Idx) : maximumf a b i = max (a i : EReal) (b i) := rfl

/-- A query's largest score. -/
theorem largest_at (s : FVec Ideal S4x2x4x8192x8448 .f32) (b : Fin 4) (h : Fin 2) (g : Fin 4) (l : Fin 8192) :
    largest s (ix4 b h g l) = (Finset.univ : Finset (Fin 8448)).sup fun t => (s (ix5 b h g l t) : EReal) := by
  unfold largest
  rw [max_at]
  have hbot : (broadcastInDim S4x2x4x8192 ![] bcast_S_S4x2x4x8192 (constant (F := Ideal) S_ .f32 0xFF800000#32) (ix4 b h g l) : EReal) = ⊥ := by
    pointwise [Cert.Reduced.least]
  have hstart : (constant (F := Ideal) S_ .f32 0xFF800000#32 (Shape.Idx.first h_S_) : EReal) = ⊥ := Cert.Reduced.least
  rw [hbot, max_eq_right bot_le]
  apply le_antisymm
  · refine Cert.Reduced.reduce_le s _ _ _ _ _ (by rw [hstart]; exact bot_le) fun i hi => ?_
    have e : i = ix5 b h g l (i 4) := by
      rw [eq_ix5 i]
      refine (ix5_inj _ _ _ _ _ _ _ _ _ _).2 ⟨?_, ?_, ?_, ?_, rfl⟩
      · exact Fin.ext (congrArg Fin.val (congrFun hi 0))
      · exact Fin.ext (congrArg Fin.val (congrFun hi 1))
      · exact Fin.ext (congrArg Fin.val (congrFun hi 2))
      · exact Fin.ext (congrArg Fin.val (congrFun hi 3))
    rw [e]
    exact Finset.le_sup (f := fun t : Fin 8448 => (s (ix5 b h g l t) : EReal)) (Finset.mem_univ (i 4))
  · refine Finset.sup_le fun t _ => ?_
    have e : reducesTo_S4x2x4x8192x8448_S4x2x4x8192_d4.drop (ix5 b h g l t) = ix4 b h g l := by
      funext a
      fin_cases a <;> rfl
    rw [← e]
    exact Cert.Reduced.le_reduce s _ _ _ _

/-- A power at an index. -/
theorem powers_at (s : FVec Ideal S4x2x4x8192x8448 .f32) (b : Fin 4) (h : Fin 2) (g : Fin 4) (l : Fin 8192) (t : Fin 8448) :
    powers s (ix5 b h g l t) = Ideal.exp (s (ix5 b h g l t) - largest s (ix4 b h g l)) := by
  pointwise [powers]

/-- A weight at an index. -/
theorem weights_at (p : FVec Ideal S4x2x4x8192x8448 .f32) (b : Fin 4) (h : Fin 2) (g : Fin 4) (l : Fin 8192) (t : Fin 8448) :
    weights p (ix5 b h g l t) = Ideal.div (p (ix5 b h g l t)) (∑ t : Fin 8448, p (ix5 b h g l t)) := by
  pointwise [weights]

/-- A weighted sum of the values at an index. -/
theorem averaged_at (w : FVec Ideal S4x2x4x8192x8448 .f32) (b : Fin 4) (l : Fin 8192) (f : Fin 512) :
    averaged vx vy w (ix3 b l f) = ∑ t : Fin 8448, joined vx vy b ⟨f.val / 256, by omega⟩ t.val ⟨f.val % 64, by omega⟩
      * w (ix5 b ⟨f.val / 256, by omega⟩ ⟨f.val / 64 % 4, by omega⟩ l t) := by
  pointwise [averaged, joined]
  refine congrArg₂ (· + ·) (Finset.sum_congr rfl fun x _ => congrArg (· * _) ?_) (Finset.sum_congr rfl fun x _ => congrArg (· * _) ?_)
  · exact congrArg vx ((ix4_inj _ _ _ _ _ _ _ _).2 ⟨rfl, Fin.ext (Nat.mod_eq_of_lt x.isLt).symm, rfl, rfl⟩)
  · exact congrArg vy ((ix4_inj _ _ _ _ _ _ _ _).2 ⟨rfl, Fin.ext (Nat.mod_eq_of_lt x.isLt).symm, rfl, rfl⟩)

theorem top_univ (S : ℕ → EReal) (n : ℕ) : top S n = (Finset.univ : Finset (Fin n)).sup fun t => S t.val := by
  apply le_antisymm
  · refine Finset.sup_le fun x hx => ?_
    exact Finset.le_sup (f := fun t : Fin n => S t.val) (Finset.mem_univ ⟨x, Finset.mem_range.1 hx⟩)
  · exact Finset.sup_le fun t _ => Finset.le_sup (f := S) (Finset.mem_range.2 t.isLt)

/-- The reference's operations compute the attention formula. -/
theorem averaged_eq : averaged vx vy (weights (powers (scaled q kx ky))) = attention q kx ky vx vy := by
  have key : ∀ (b : Fin 4) (l : Fin 8192) (f : Fin 512),
      averaged vx vy (weights (powers (scaled q kx ky))) (ix3 b l f) = attention q kx ky vx vy (ix3 b l f) := fun b l f => by
    rw [averaged_at]
    show _ = average (scores q kx ky b l ⟨f.val / 256, by omega⟩ ⟨f.val / 64 % 4, by omega⟩)
      (fun t => joined vx vy b ⟨f.val / 256, by omega⟩ t ⟨f.val % 64, by omega⟩) 8448
    unfold average
    rw [top_univ, Finset.sum_range, Finset.sum_range]
    simp only [weights_at, powers_at, largest_at, scaled_at]
  funext i
  rw [eq_ix3 i]
  exact key _ _ _

end Cert.ReferenceIdeal.Attn

end
-- ==== Proof.Finite.lean ====
/- What the precondition says: the queries and the keys are real numbers. -/
module

public import proofs.«01_k».proof.Proof.Reduced
public import proofs.«01_k».proof.Pre_finite_scores
public import Idealize.ShloMosaic.Lib.Pointwise
public import Idealize.ShloMosaic.Lib.IdealHost

@[expose] public section

set_option maxRecDepth 16384

noncomputable section

namespace Cert.Finite

open Idealize.ShloMosaic Cert.Pre_finite_scores

/-- The precondition's shape conditions. -/
theorem facts : Cert.Pre_finite_scores.Facts where
  reducesTo_S4x8192x8x64_S_d0_1_2_3 := by decide
  h_S_ := by decide
  reducesTo_S4x256x2x64_S_d0_1_2_3 := by decide
  reducesTo_S4x8192x2x64_S_d0_1_2_3 := by decide

/-- An extended real whose absolute value is below infinity is real. -/
theorem real_of_abs {x : EReal} (h : max x (-x) < ⊤) : ∃ r : ℝ, x = (r : EReal) := by
  induction x using EReal.rec with
  | bot => simp at h
  | top => simp at h
  | coe r => exact ⟨r, rfl⟩

/-- Two bits of which the conjunction is set are both set. -/
theorem both : ∀ a b : BitVec 1, a &&& b = 1#1 → a = 1#1 ∧ b = 1#1 := by decide

/-- Three comparisons whose conjunction holds all hold. -/
theorem all_three (a b c : IVec S_ 1) (h : andi (andi a b) c = fun _ => 1#1) : a ix0 = 1#1 ∧ b ix0 = 1#1 ∧ c ix0 = 1#1 := by
  obtain ⟨h1, h2⟩ := both (andi a b ix0) (c ix0) (congrFun h ix0)
  obtain ⟨h3, h4⟩ := both (a ix0) (b ix0) h1
  exact ⟨h3, h4, h2⟩

/-- A comparison with infinity that holds. -/
theorem below (x : FVec Ideal S_ .f32) (h : cmpf .olt x (constant (F := Ideal) S_ .f32 0x7F800000#32) ix0 = 1#1) : (x ix0 : EReal) < ⊤ := by
  by_contra hn
  have e : cmpf .olt x (constant (F := Ideal) S_ .f32 0x7F800000#32) ix0 = 0#1 := by
    show Ideal.cmp .olt (x ix0) (Ideal.ofBits .f32 0x7F800000#32) = 0#1
    rw [Cert.Reduced.greatest]
    simp [Ideal.cmp, hn]
  rw [e] at h
  exact absurd h (by decide)

/-- An array whose largest absolute value is below infinity is real. -/
theorem real_of_reduce {s u : Shape} {axes : List (Fin s.rank)} (x : FVec Ideal s .f32) (v : FVec Ideal u .f32)
    (h : s.ReducesTo axes S_) (hu : 0 < u.numel)
    (e : cmpf .olt (Host.reduce (FloatOps.maximumf (F := Ideal) (φ := .f32)) (Host.absf x) v h hu)
      (constant (F := Ideal) S_ .f32 0x7F800000#32) ix0 = 1#1)
    (i : s.Idx) : ∃ r : ℝ, (x i : EReal) = (r : EReal) := by
  refine real_of_abs (lt_of_le_of_lt ?_ (below _ e))
  have hle := Cert.Reduced.le_reduce (Host.absf x) v h hu i
  have hj : h.drop i = ix0 := funext fun a => a.elim0
  rw [hj] at hle
  exact hle

/-- The precondition makes the queries and the keys real. -/
theorem real_of_pre [Cert.Pre_finite_scores.Facts] (q : FVec Ideal S4x8192x8x64 .f32) (kx : FVec Ideal S4x256x2x64 .f32)
    (ky : FVec Ideal S4x8192x2x64 .f32) (vx : FVec Ideal S4x256x2x64 .f32) (vy : FVec Ideal S4x8192x2x64 .f32)
    (h : Cert.Pre_finite_scores.fn (F := Ideal) q kx ky vx vy = fun _ => 1#1) :
    (∀ i, ∃ r : ℝ, (q i : EReal) = (r : EReal)) ∧ (∀ i, ∃ r : ℝ, (kx i : EReal) = (r : EReal))
      ∧ (∀ i, ∃ r : ℝ, (ky i : EReal) = (r : EReal)) := by
  unfold Cert.Pre_finite_scores.fn at h
  have h' := all_three _ _ _ h
  exact ⟨real_of_reduce q _ _ _ h'.1, real_of_reduce kx _ _ _ h'.2.1, real_of_reduce ky _ _ _ h'.2.2⟩

end Cert.Finite

end
-- ==== Proof.Expert.Body.lean ====
/- The body of the experts' kernel as one triple: what it leaves in the output's buffer and in its two scratch buffers, from
   the block's rows, the weights and biases of the block's expert, and the words of the routing's tables. -/
module

public import proofs.«01_k».proof.Proof.Gen.Kernel2Ideal.Launch
public import Idealize.ShloMosaic.Lib.Pipeline.FrameBody
public import Idealize.ShloMosaic.Lib.Tactic
public import Idealize.ShloMosaic.Lib.Pipeline.Value
public import Idealize.ShloMosaic.Lib.Pipeline.ValueKit
public import Idealize.ShloMosaic.Lib.WholeRead
public import Idealize.ShloMosaic.Lib.WritesUnit
public import Idealize.ShloMosaic.Lib.WordCmp

@[expose] public section

set_option maxRecDepth 16384

noncomputable section

namespace Cert.Kernel2Ideal.Expert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

/-- The words of a routing table that the body reads at a grid point: the point's own, and the one before it. -/
def now (T : Vec F S288 .i32) (i : grid0.Coords) : BitVec 32 :=
  T ((Rect.unit (s := S288) (k0_off1 i) S1.size (k0_off1_inb i)).emb (Shape.Idx.first (numel1_S1.symm ▸ Nat.one_pos)))
def prev (T : Vec F S288 .i32) (i : grid0.Coords) : BitVec 32 :=
  T ((Rect.unit (s := S288) (k0_off2 i) S1.size (k0_off2_inb i)).emb (Shape.Idx.first (numel1_S1.symm ▸ Nat.one_pos)))

/-- Whether the body takes new weights into its scratch: the block has rows, and it is the first or its expert is not
    that of the block before. -/
def fresh (T1 T2 : Vec F S288 .i32) (i : grid0.Coords) : BitVec 1 :=
  let w : BitVec 32 := Scalar.extui (Scalar.andi (Scalar.cmpi .sgt (now T2 i) 0#32)
    (Scalar.ori (Scalar.cmpi .eq (BitVec.ofNat 32 (i 0).val) 0#32) (Scalar.cmpi .ne (now T1 i) (prev T1 i))))
  Scalar.cmpi .ne w 0#32

/-- The two weight blocks as the scratch holds them. -/
def wide (w : Vec F S1x1024x2048 .f32) : FVec F S1024x2048 .bf16 :=
  truncf .bf16 (shapeCast S1024x2048 w shapeCasts_S1x1024x2048_S1024x2048) bitsLt_bf16_f32
def square (w : Vec F S1x1024x1024 .f32) : FVec F S1024x1024 .bf16 :=
  truncf .bf16 (shapeCast S1024x1024 w shapeCasts_S1x1024x1024_S1024x1024) bitsLt_bf16_f32

/-- The first product of a block with `n` rows in use: the rows past `n` zeroed, times the wide weights, plus the bias. -/
def first (n : BitVec 32) (x : Vec F S512x1024 .bf16) (s : Vec F S1024x2048 .bf16) (b : Vec F S1x1x2048 .f32) : FVec F S512x2048 .f32 :=
  addf (matmul dot_S512x1024_S1024x2048_S512x2048_1_0_0_1_n_n none
      (select (broadcastTo S512x1024 (cmpi .slt (iota .tc S512x1 32 [0] iota_S512x1_d0_w32) (broadcast S512x1 n)) broadcasts_S512x1_S512x1024)
        x (broadcast S512x1024 (Scalar.ofBits .bf16 0x0000#16))) s (constant S512x2048 .f32 0x00000000#32))
    (broadcastTo S512x2048 (shapeCast S1x2048 b shapeCasts_S1x1x2048_S1x2048) broadcasts_S1x2048_S512x2048)

/-- The gated activation of the first product. -/
def gated (h : FVec F S512x2048 .f32) : FVec F S512x1024 .f32 :=
  let g : FVec F S512x1024 .f32 := minimumf (extractStridedSlice S512x1024 ![0, 0] h slices_S512x2048_o0_0_S512x1024)
    (broadcast S512x1024 (Scalar.ofBits .f32 0x40E00000#32))
  let u : FVec F S512x1024 .f32 := minimumf (broadcast S512x1024 (Scalar.ofBits .f32 0x40E00000#32))
    (maximumf (broadcast S512x1024 (Scalar.ofBits .f32 0xC0E00000#32)) (extractStridedSlice S512x1024 ![0, 1024] h slices_S512x2048_o0_1024_S512x1024))
  mulf (addf u (broadcast S512x1024 (Scalar.ofBits .f32 0x3F800000#32)))
    (mulf g (logistic (mulf (broadcast S512x1024 (Scalar.ofBits .f32 0x3FD9DB23#32)) g)))

/-- A block's result from its rows and the scratch. -/
def fin (n : BitVec 32) (x : Vec F S512x1024 .bf16) (s : Vec F S1024x2048 .bf16) (b : Vec F S1x1x2048 .f32)
    (s' : Vec F S1024x1024 .bf16) (b' : Vec F S1x1x1024 .f32) : FVec F S512x1024 .bf16 :=
  truncf .bf16 (addf (matmul dot_S512x1024_S1024x1024_S512x1024_1_0_0_1_n_n none (truncf .bf16 (gated (first n x s b)) bitsLt_bf16_f32) s'
      (constant S512x1024 .f32 0x00000000#32))
    (broadcastTo S512x1024 (shapeCast S1x1024 b' shapeCasts_S1x1x1024_S1x1024) broadcasts_S1x1024_S512x1024)) bitsLt_bf16_f32

/-- The block of zeros. -/
def none0 : FVec F S512x1024 .bf16 := broadcast S512x1024 (Scalar.ofBits .bf16 0x0000#16)

/-- A store of a whole buffer leaves what was stored, -/
theorem store_all {sp : Space} {s : Shape} {e : EltTy} {m : Memref sig .tc sp s e} (h : m.IsWhole) (f : BufTy.Contents (Elt F) m.view.ty)
    (x : s.Idx → Elt F e) (off : Fin s.rank → ℕ) (ho : ∀ a, off a = 0) (inb : ∀ a, off a + s.size a ≤ s.size a) :
    m.view.writes (Elt F) f [⟨Rect.unit (s := s) off s.size inb, x⟩] = h.unread x := by
  refine h.eq_unread (funext fun y => ?_)
  exact View.read_writes_cons_unit_of_mem m.view f inb x [] y y rfl fun a => by rw [ho a, Nat.zero_add]

/-- and a load of a whole buffer reads all of it. -/
theorem load_all {sp : Space} {s : Shape} {e : EltTy} {m : Memref sig .tc sp s e} (h : m.IsWhole)
    (x : s.Idx → Elt F e) (off : Fin s.rank → ℕ) (ho : ∀ a, off a = 0) (inb : ∀ a, off a + s.size a ≤ s.size a) :
    View.readAt (Elt F) m.view (Rect.unit (s := s) off s.size inb).toLoadRect (h.unread x) = x := by
  funext y
  rw [h.readAt_unread]
  refine congrArg x (funext fun a => Fin.ext ?_)
  rw [Rect.idx_unit_val, ho a, Nat.zero_add]

theorem zeros2 : ∀ a, (![0, 0] : Fin 2 → ℕ) a = 0 := by decide
theorem zeros3 : ∀ a, (![0, 0, 0] : Fin 3 → ℕ) a = 0 := by decide

/-- A block is in use or it is not. -/
theorem cond3_of_not_cond2 (v : BitVec 32) (h : ¬ k0_cond2 v = 1#1) : k0_cond3 v = 1#1 := by
  revert h; unfold k0_cond2 k0_cond3
  dsimp only
  rcases (by decide : ∀ b : BitVec 1, b = 0#1 ∨ b = 1#1) (Scalar.cmpi .sgt v 0#32) with h | h <;> rw [h] <;> decide
theorem not_cond3_of_cond2 (v : BitVec 32) (h : k0_cond2 v = 1#1) : ¬ k0_cond3 v = 1#1 := by
  revert h; unfold k0_cond2 k0_cond3
  dsimp only
  rcases (by decide : ∀ b : BitVec 1, b = 0#1 ∨ b = 1#1) (Scalar.cmpi .sgt v 0#32) with h | h <;> rw [h] <;> decide

set_option maxHeartbeats 4000000 in
/-- The body's triple. -/
theorem body_run (c : Dev nD) (i : grid0.Coords) (arg1 : Memref sig .tc .smem S288 .i32) (harg1 : arg1.IsWhole) (arg2 : Memref sig .tc .smem S288 .i32) (harg2 : arg2.IsWhole) (arg3 : Memref sig .tc .vmem S512x1024 .bf16) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S512x1024 .bf16) (harg8 : arg8.IsWhole) (arg9 : Memref sig .tc .vmem S1024x2048 .bf16) (harg9 : arg9.IsWhole) (arg10 : Memref sig .tc .vmem S1024x1024 .bf16) (harg10 : arg10.IsWhole)
    (q1 q2 : PosShare TreeShare) (T1 T2 : Vec F S288 .i32) (x : Vec F S512x1024 .bf16) (w1 : Vec F S1x1024x2048 .f32) (b1 : Vec F S1x1x2048 .f32)
    (w2 : Vec F S1x1024x1024 .f32) (b2 : Vec F S1x1x1024 .f32) (s : Vec F S1024x2048 .bf16) (s' : Vec F S1024x1024 .bf16) (E : Set ℕ) (K : PUnit → sProp 𝕄) :
    iprop(owns (c : Thread nD τ) arg1 q1 T1 ∗ owns (c : Thread nD τ) arg2 q2 T2 ∗ owns (c : Thread nD τ) arg3 fullShare x
        ∗ owns (c : Thread nD τ) arg4 fullShare w1 ∗ owns (c : Thread nD τ) arg5 fullShare b1 ∗ owns (c : Thread nD τ) arg6 fullShare w2
        ∗ owns (c : Thread nD τ) arg7 fullShare b2 ∗ (∃ d, owns (c : Thread nD τ) arg8 fullShare d) ∗ owns (c : Thread nD τ) arg9 fullShare s
        ∗ owns (c : Thread nD τ) arg10 fullShare s'
        ∗ (iprop(owns (c : Thread nD τ) arg1 q1 T1 ∗ owns (c : Thread nD τ) arg2 q2 T2 ∗ owns (c : Thread nD τ) arg3 fullShare x
        ∗ owns (c : Thread nD τ) arg4 fullShare w1 ∗ owns (c : Thread nD τ) arg5 fullShare b1 ∗ owns (c : Thread nD τ) arg6 fullShare w2
        ∗ owns (c : Thread nD τ) arg7 fullShare b2
        ∗ owns (c : Thread nD τ) arg8 fullShare (if k0_cond2 (now T2 i) = 1#1 then
            fin (now T2 i) x (if fresh T1 T2 i = 1#1 then wide w1 else s) b1 (if fresh T1 T2 i = 1#1 then square w2 else s') b2 else none0)
        ∗ owns (c : Thread nD τ) arg9 fullShare (if fresh T1 T2 i = 1#1 then wide w1 else s)
        ∗ owns (c : Thread nD τ) arg10 fullShare (if fresh T1 T2 i = 1#1 then square w2 else s')) -∗ K ⟨⟩))
      ⊢ wp frame (wpE (defs₀ (F := F)) Variants.none c none) E (cc0_expert i arg1 harg1 arg2 harg2 arg3 harg3 arg4 harg4 arg5 harg5 arg6 harg6 arg7 harg7 arg8 harg8 arg9 harg9 arg10 harg10) K := by
  unfold cc0_expert k0_part1
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, %hf8, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg9.eq_unread hf9; obtain rfl := harg10.eq_unread hf10
  clear hf1 hf2 hf3 hf4 hf5 hf6 hf7 hf9 hf10
  sl_exec
  have er : body_run.sl.r c i arg2 harg2 T2 = now T2 i := by
    delta body_run.sl.r
    rw [harg2.readAt_unread]; rfl
  have ef : body_run.sl.v14 c i arg1 harg1 arg2 harg2 T1 T2 = fresh T1 T2 i := by
    repeat delta body_run.sl.cst body_run.sl.cst_12 body_run.sl.cst_13 body_run.sl.cst_15 body_run.sl.cst_16 body_run.sl.cst_19 body_run.sl.cst_8 body_run.sl.r body_run.sl.r_1 body_run.sl.r_2 body_run.sl.v10 body_run.sl.v11 body_run.sl.v12 body_run.sl.v13 body_run.sl.v14 body_run.sl.v15 body_run.sl.v16 body_run.sl.v17 body_run.sl.v18 body_run.sl.v19 body_run.sl.v2 body_run.sl.v20 body_run.sl.v21 body_run.sl.v21_1 body_run.sl.v22 body_run.sl.v22_1 body_run.sl.v24 body_run.sl.v24_1 body_run.sl.v25 body_run.sl.v25_1 body_run.sl.v26 body_run.sl.v27 body_run.sl.v27_1 body_run.sl.v28 body_run.sl.v28_1 body_run.sl.v29 body_run.sl.v3 body_run.sl.v30 body_run.sl.v30_1 body_run.sl.v31 body_run.sl.v32 body_run.sl.v33 body_run.sl.v34 body_run.sl.v35 body_run.sl.v36 body_run.sl.v37 body_run.sl.v38 body_run.sl.v39 body_run.sl.v40 body_run.sl.v42 body_run.sl.v43 body_run.sl.v44 body_run.sl.v45 body_run.sl.v46 body_run.sl.v47 body_run.sl.v48 body_run.sl.v49 body_run.sl.v50 body_run.sl.v51 body_run.sl.v52 body_run.sl.v54 body_run.sl.v55 body_run.sl.v56 body_run.sl.v57 body_run.sl.v6 body_run.sl.v7 body_run.sl.v8
    simp only [harg1.readAt_unread, harg2.readAt_unread]; rfl
  have ew : body_run.sl.v25 c arg4 harg4 w1 = wide w1 := by
    repeat delta body_run.sl.cst body_run.sl.cst_12 body_run.sl.cst_13 body_run.sl.cst_15 body_run.sl.cst_16 body_run.sl.cst_19 body_run.sl.cst_8 body_run.sl.r body_run.sl.r_1 body_run.sl.r_2 body_run.sl.v10 body_run.sl.v11 body_run.sl.v12 body_run.sl.v13 body_run.sl.v14 body_run.sl.v15 body_run.sl.v16 body_run.sl.v17 body_run.sl.v18 body_run.sl.v19 body_run.sl.v2 body_run.sl.v20 body_run.sl.v21 body_run.sl.v21_1 body_run.sl.v22 body_run.sl.v22_1 body_run.sl.v24 body_run.sl.v24_1 body_run.sl.v25 body_run.sl.v25_1 body_run.sl.v26 body_run.sl.v27 body_run.sl.v27_1 body_run.sl.v28 body_run.sl.v28_1 body_run.sl.v29 body_run.sl.v3 body_run.sl.v30 body_run.sl.v30_1 body_run.sl.v31 body_run.sl.v32 body_run.sl.v33 body_run.sl.v34 body_run.sl.v35 body_run.sl.v36 body_run.sl.v37 body_run.sl.v38 body_run.sl.v39 body_run.sl.v40 body_run.sl.v42 body_run.sl.v43 body_run.sl.v44 body_run.sl.v45 body_run.sl.v46 body_run.sl.v47 body_run.sl.v48 body_run.sl.v49 body_run.sl.v50 body_run.sl.v51 body_run.sl.v52 body_run.sl.v54 body_run.sl.v55 body_run.sl.v56 body_run.sl.v57 body_run.sl.v6 body_run.sl.v7 body_run.sl.v8
    simp only [load_all harg4 _ _ zeros3, shapeCast_self]; rfl
  have eq : body_run.sl.v31 c arg6 harg6 w2 = square w2 := by
    repeat delta body_run.sl.cst body_run.sl.cst_12 body_run.sl.cst_13 body_run.sl.cst_15 body_run.sl.cst_16 body_run.sl.cst_19 body_run.sl.cst_8 body_run.sl.r body_run.sl.r_1 body_run.sl.r_2 body_run.sl.v10 body_run.sl.v11 body_run.sl.v12 body_run.sl.v13 body_run.sl.v14 body_run.sl.v15 body_run.sl.v16 body_run.sl.v17 body_run.sl.v18 body_run.sl.v19 body_run.sl.v2 body_run.sl.v20 body_run.sl.v21 body_run.sl.v21_1 body_run.sl.v22 body_run.sl.v22_1 body_run.sl.v24 body_run.sl.v24_1 body_run.sl.v25 body_run.sl.v25_1 body_run.sl.v26 body_run.sl.v27 body_run.sl.v27_1 body_run.sl.v28 body_run.sl.v28_1 body_run.sl.v29 body_run.sl.v3 body_run.sl.v30 body_run.sl.v30_1 body_run.sl.v31 body_run.sl.v32 body_run.sl.v33 body_run.sl.v34 body_run.sl.v35 body_run.sl.v36 body_run.sl.v37 body_run.sl.v38 body_run.sl.v39 body_run.sl.v40 body_run.sl.v42 body_run.sl.v43 body_run.sl.v44 body_run.sl.v45 body_run.sl.v46 body_run.sl.v47 body_run.sl.v48 body_run.sl.v49 body_run.sl.v50 body_run.sl.v51 body_run.sl.v52 body_run.sl.v54 body_run.sl.v55 body_run.sl.v56 body_run.sl.v57 body_run.sl.v6 body_run.sl.v7 body_run.sl.v8
    simp only [load_all harg6 _ _ zeros3, shapeCast_self]; rfl
  have e9 : (if hc : body_run.sl.v14 c i arg1 harg1 arg2 harg2 T1 T2 = 1#1 then
      arg9.view.writes (Elt F) (harg9.unread s) [⟨Rect.unit ![0, 0] S1024x2048.size inb_S1024x2048_S1024x2048_0_0, body_run.sl.v25 c arg4 harg4 w1⟩]
      else harg9.unread s) = harg9.unread (if fresh T1 T2 i = 1#1 then wide w1 else s) := by
    rw [ef, ew, store_all harg9 _ _ _ zeros2]; split <;> rfl
  have e10 : (if hc : body_run.sl.v14 c i arg1 harg1 arg2 harg2 T1 T2 = 1#1 then
      arg10.view.writes (Elt F) (harg10.unread s') [⟨Rect.unit ![0, 0] S1024x1024.size inb_S1024x1024_S1024x1024_0_0, body_run.sl.v31 c arg6 harg6 w2⟩]
      else harg10.unread s') = harg10.unread (if fresh T1 T2 i = 1#1 then square w2 else s') := by
    rw [ef, eq, store_all harg10 _ _ _ zeros2]; split <;> rfl
  have e57 : body_run.sl.v57 c i arg1 harg1 arg2 harg2 arg3 harg3 arg4 harg4 arg5 harg5 arg6 harg6 arg7 harg7 arg9 harg9 arg10 harg10 T1 T2 x w1 b1 w2 b2 s s'
      = fin (now T2 i) x (if fresh T1 T2 i = 1#1 then wide w1 else s) b1 (if fresh T1 T2 i = 1#1 then square w2 else s') b2 := by
    repeat delta body_run.sl.cst body_run.sl.cst_12 body_run.sl.cst_13 body_run.sl.cst_15 body_run.sl.cst_16 body_run.sl.cst_19 body_run.sl.cst_8 body_run.sl.r body_run.sl.r_1 body_run.sl.r_2 body_run.sl.v10 body_run.sl.v11 body_run.sl.v12 body_run.sl.v13 body_run.sl.v15 body_run.sl.v16 body_run.sl.v17 body_run.sl.v18 body_run.sl.v19 body_run.sl.v2 body_run.sl.v20 body_run.sl.v21 body_run.sl.v21_1 body_run.sl.v22 body_run.sl.v22_1 body_run.sl.v24 body_run.sl.v24_1 body_run.sl.v25_1 body_run.sl.v26 body_run.sl.v27 body_run.sl.v27_1 body_run.sl.v28 body_run.sl.v28_1 body_run.sl.v29 body_run.sl.v3 body_run.sl.v30 body_run.sl.v30_1 body_run.sl.v32 body_run.sl.v33 body_run.sl.v34 body_run.sl.v35 body_run.sl.v36 body_run.sl.v37 body_run.sl.v38 body_run.sl.v39 body_run.sl.v40 body_run.sl.v42 body_run.sl.v43 body_run.sl.v44 body_run.sl.v45 body_run.sl.v46 body_run.sl.v47 body_run.sl.v48 body_run.sl.v49 body_run.sl.v50 body_run.sl.v51 body_run.sl.v52 body_run.sl.v54 body_run.sl.v55 body_run.sl.v56 body_run.sl.v57 body_run.sl.v6 body_run.sl.v7 body_run.sl.v8
    rw [e9, e10]
    simp only [harg2.readAt_unread, load_all harg3 _ _ zeros2, load_all harg5 _ _ zeros3, load_all harg7 _ _ zeros3, load_all harg9 _ _ zeros2,
      load_all harg10 _ _ zeros2, shapeCast_self]
    rfl
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    by_cases h : k0_cond2 (now T2 i) = 1#1
    · have h2 := h
      have h3 := not_cond3_of_cond2 _ h
      rw [← er] at h2 h3
      rw [dif_neg h3, dif_pos h2, if_pos h, e57, store_all harg8 _ _ _ zeros2]
      exact harg8.read_unread _
    · have h3 := cond3_of_not_cond2 _ h
      rw [← er] at h3
      rw [dif_pos h3, if_neg h, store_all harg8 _ _ _ zeros2, harg8.read_unread]
      rfl
  isplitl [H9]
  · iexists _; isplitr; swap; · iexact H9
    ipureintro
    rw [e9]; exact harg9.read_unread _
  iexists _; isplitr; swap; · iexact H10
  ipureintro
  rw [e10]; exact harg10.read_unread _

end Cert.Kernel2Ideal.Expert

end
-- ==== Proof.Expert.Plan.lean ====
/- The launch of the experts' kernel: at each grid point the output's buffer ends at the result of the block's rows under
   the weights of the block's expert. The weights a block uses sit in the scratch, put there by the last block that was the
   first of its expert; as the blocks in use come before the empty ones, they are the weights of the block's own expert. -/
module

public import proofs.«01_k».proof.Proof.Expert.Body
public import Idealize.ShloMosaic.Lib.Claim

@[expose] public section

set_option maxRecDepth 16384

noncomputable section

namespace Cert.Kernel2Ideal.Expert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The routing's tables: each block's expert, and how many of its rows are in use. -/
def experts : Vec F S288 .i32 := m (((0 : Dev nD).tc : Thread nD τ).loc main_arg1)
def counts : Vec F S288 .i32 := m (((0 : Dev nD).tc : Thread nD τ).loc main_arg2)

def tabs : pre0.Contents (Elt F) := fun | 0 => experts m | 1 => counts m | ⟨_ + 2, h⟩ => absurd h (Nat.not_lt.2 (Nat.le_add_left _ _))

/-- The word of a table at a place. -/
def word (T : Vec F S288 .i32) (n : ℕ) (h : n < 288) : BitVec 32 := T (fun a => ⟨n, match a with | ⟨0, _⟩ => h⟩)

/-- The blocks in use come before the empty ones. -/
def Ordered : Prop := ∀ n (h : n + 1 < 288), k0_cond2 (word (counts m) (n + 1) h) = 1#1 → k0_cond2 (word (counts m) n (by omega)) = 1#1

theorem lt_all (t : Fin grid0.N) : t.val < 288 := t.isLt.trans_eq N_0
theorem pred_lt_all (t : Fin grid0.N) : t.val - 1 < 288 := (Nat.sub_le _ _).trans_lt (lt_all t)

/-- The grid's points are its blocks in order. -/
theorem coords_val : ∀ t : Fin grid0.N, (grid0.coords t 0).val = t.val := by decide +kernel

theorem now_eq (T : Vec F S288 .i32) (t : Fin grid0.N) : now T (grid0.coords t) = word T t.val (lt_all t) := by
  unfold now word
  refine congrArg T (funext fun a => Fin.ext ?_)
  have e : k0_off1 (grid0.coords t) a = t.val := by
    rw [k0_off1_eq]; fin_cases a; exact coords_val t
  show k0_off1 (grid0.coords t) a + 1 * (Shape.Idx.first (s := S1) _ a).val = _
  rw [e]
  have : (Shape.Idx.first (s := S1) (numel1_S1.symm ▸ Nat.one_pos) a).val = 0 := by
    have := (Shape.Idx.first (s := S1) (numel1_S1.symm ▸ Nat.one_pos) a).isLt
    fin_cases a
    exact Nat.lt_one_iff.mp this
  rw [this]; rfl

theorem before_word : ∀ n : Fin 288, (Scalar.indexCast (Scalar.maxsi (Scalar.subi (BitVec.ofNat 32 n.val) 1#32) 0#32) : Index).toNat = n.val - 1 := by
  decide +kernel

theorem prev_eq (T : Vec F S288 .i32) (t : Fin grid0.N) : prev T (grid0.coords t) = word T (t.val - 1) (pred_lt_all t) := by
  unfold prev word
  refine congrArg T (funext fun a => Fin.ext ?_)
  have e : k0_off2 (grid0.coords t) a = t.val - 1 := by
    fin_cases a
    exact (before_word (grid0.coords t 0)).trans (by rw [coords_val t])
  show k0_off2 (grid0.coords t) a + 1 * (Shape.Idx.first (s := S1) _ a).val = _
  rw [e]
  have : (Shape.Idx.first (s := S1) (numel1_S1.symm ▸ Nat.one_pos) a).val = 0 := by
    have := (Shape.Idx.first (s := S1) (numel1_S1.symm ▸ Nat.one_pos) a).isLt
    fin_cases a
    exact Nat.lt_one_iff.mp this
  rw [this]; rfl

theorem bit_cases : ∀ b : BitVec 1, b = 0#1 ∨ b = 1#1 := by decide

/-- A block in use that takes no new weights is not the first, and its expert is that of the block before. -/
theorem stays (T1 T2 : Vec F S288 .i32) (i : grid0.Coords) (hu : k0_cond2 (now T2 i) = 1#1) (hf : ¬ fresh T1 T2 i = 1#1) :
    (i 0).val ≠ 0 ∧ now T1 i = prev T1 i := by
  have hs : Scalar.cmpi .sgt (now T2 i) 0#32 = 1#1 := by
    revert hu; unfold k0_cond2; dsimp only
    rcases bit_cases (Scalar.cmpi .sgt (now T2 i) 0#32) with h | h <;> rw [h] <;> decide
  unfold fresh at hf
  dsimp only at hf
  rw [hs] at hf
  refine ⟨fun h0 => hf ?_, Classical.byContradiction fun hn => hf ?_⟩
  · rw [h0]
    rcases bit_cases (Scalar.cmpi .ne (now T1 i) (prev T1 i)) with h | h <;> rw [h] <;> decide
  · have : Scalar.cmpi .ne (now T1 i) (prev T1 i) = 1#1 := by
      show BitVec.ofBool (now T1 i != prev T1 i) = 1#1
      rw [bne_iff_ne.mpr hn]; rfl
    rw [this]
    rcases bit_cases (Scalar.cmpi .eq (BitVec.ofNat 32 (i 0).val) 0#32) with h | h <;> rw [h] <;> decide

/-- Core `c`'s buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem V_kept (c : Dev nD) (b : Ref sig .tc) (h0 : b ≠ main_v0) (h1 : b ≠ main_v1) (h2 : b ≠ main_v2) : V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2⟩))

variable (ok : ok0 (tabs m))

/-- The tables, admitted. -/
def adm : (p : Fin 1) → (pcfgs (F := F) p).Adm := fun _ => ⟨tabs m, ok⟩

/-- The pipeline at the tables. -/
abbrev cfgT : Pipeline.Cfg sig Λ₀ := Pipeline.pin (pcfgs (F := F)) (adm m ok) 0

/-- Window `w`'s block at point `t`. -/
def iblk (c : Dev nD) (w : Fin (cfgT m ok).W) (t : Fin (cfgT m ok).N) :
    (((cfgT m ok).win w).xblock ((cfgT m ok).grid.coords t)).Idx → Elt F ((cfgT m ok).win w).elt :=
  (((cfgT m ok).win w).blk t).view.read (Elt F) (V m c (Pipeline.arrRef spec0 w))

/-- What the output's buffer holds after the body at point `t`. -/
def left (c : Dev nD) (t : Fin (cfgT m ok).N) : Vec F S512x1024 .bf16 :=
  if k0_cond2 (now (counts m) (grid0.coords t)) = 1#1 then
    fin (now (counts m) (grid0.coords t)) (iblk m ok c 0 t) (wide (iblk m ok c 1 t)) (iblk m ok c 2 t) (square (iblk m ok c 3 t)) (iblk m ok c 4 t)
  else none0

abbrev scM0 : Memref sig .tc .vmem S1024x2048 .bf16 := Memref.whole cc0_scratch0
abbrev scM1 : Memref sig .tc .vmem S1024x1024 .bf16 := Memref.whole cc0_scratch1

/-- The scratch before a point: after a block in use, the weights of that block. -/
def held (c : Dev nD) (n : ℕ) : sProp 𝕄 :=
  iprop(∃ s s', ⌜∀ u : Fin (cfgT m ok).N, u.val + 1 = n → k0_cond2 (now (counts m) (grid0.coords u)) = 1#1 →
      s = wide (iblk m ok c 1 u) ∧ s' = square (iblk m ok c 3 u)⌝
    ∗ owns (c : Thread nD τ) scM0 fullShare s ∗ owns (c : Thread nD τ) scM1 fullShare s')

/-- The pipeline's data. -/
def plan (_ : Fin 1) (c : Dev nD) : Dat τ (Elt F) Unit ℕ (UR sig nD τ) ℕ (cfgT m ok) c where
  A w := V m c (Pipeline.arrRef spec0 w)
  after w t := match w with
    | ⟨0, _⟩ => iblk m ok c 0 t
    | ⟨1, _⟩ => iblk m ok c 1 t
    | ⟨2, _⟩ => iblk m ok c 2 t
    | ⟨3, _⟩ => iblk m ok c 3 t
    | ⟨4, _⟩ => iblk m ok c 4 t
    | ⟨5, _⟩ => left m ok c t
  Φ t := iprop(held m ok c t.val ∗ (∃ r, prngReg c r) ∗ Pipeline.ΦT pre0 (tabs m) c)
  q _ := fullShare
  owed _ := 0

theorem plan_A (c : Dev nD) (w : Fin (cfgT m ok).W) : (plan m ok 0 c).A w = V m c (Pipeline.arrRef spec0 w) := by
  dsimp only [plan]

theorem fetched_0 (c : Dev nD) (t : Fin (cfgT m ok).N) (d) : (plan m ok 0 c).fetched 0 t d = iblk m ok c 0 t := by
  unfold Dat.fetched Dat.blockOf iblk; rw [plan_A]; rfl
theorem fetched_1 (c : Dev nD) (t : Fin (cfgT m ok).N) (d) : (plan m ok 0 c).fetched 1 t d = iblk m ok c 1 t := by
  unfold Dat.fetched Dat.blockOf iblk; rw [plan_A]; rfl
theorem fetched_2 (c : Dev nD) (t : Fin (cfgT m ok).N) (d) : (plan m ok 0 c).fetched 2 t d = iblk m ok c 2 t := by
  unfold Dat.fetched Dat.blockOf iblk; rw [plan_A]; rfl
theorem fetched_3 (c : Dev nD) (t : Fin (cfgT m ok).N) (d) : (plan m ok 0 c).fetched 3 t d = iblk m ok c 3 t := by
  unfold Dat.fetched Dat.blockOf iblk; rw [plan_A]; rfl
theorem fetched_4 (c : Dev nD) (t : Fin (cfgT m ok).N) (d) : (plan m ok 0 c).fetched 4 t d = iblk m ok c 4 t := by
  unfold Dat.fetched Dat.blockOf iblk; rw [plan_A]; rfl

theorem plan_before0 (c : Dev nD) (t : Fin (cfgT m ok).N) (d) : (plan m ok 0 c).before 0 t d = iblk m ok c 0 t :=
  ((plan m ok 0 c).before_in_eq_fetched 0 rfl (fun _ => rfl) (fun _ _ _ => rfl) (fun t => by unfold Dat.blockOf; rw [plan_A]; rfl) t d).trans (fetched_0 m ok c t d)
theorem plan_before1 (c : Dev nD) (t : Fin (cfgT m ok).N) (d) : (plan m ok 0 c).before 1 t d = iblk m ok c 1 t :=
  ((plan m ok 0 c).before_in_eq_fetched 1 rfl (fun _ => rfl) (fun _ _ _ => rfl) (fun t => by unfold Dat.blockOf; rw [plan_A]; rfl) t d).trans (fetched_1 m ok c t d)
theorem plan_before2 (c : Dev nD) (t : Fin (cfgT m ok).N) (d) : (plan m ok 0 c).before 2 t d = iblk m ok c 2 t :=
  ((plan m ok 0 c).before_in_eq_fetched 2 rfl (fun _ => rfl) (fun _ _ _ => rfl) (fun t => by unfold Dat.blockOf; rw [plan_A]; rfl) t d).trans (fetched_2 m ok c t d)
theorem plan_before3 (c : Dev nD) (t : Fin (cfgT m ok).N) (d) : (plan m ok 0 c).before 3 t d = iblk m ok c 3 t :=
  ((plan m ok 0 c).before_in_eq_fetched 3 rfl (fun _ => rfl) (fun _ _ _ => rfl) (fun t => by unfold Dat.blockOf; rw [plan_A]; rfl) t d).trans (fetched_3 m ok c t d)
theorem plan_before4 (c : Dev nD) (t : Fin (cfgT m ok).N) (d) : (plan m ok 0 c).before 4 t d = iblk m ok c 4 t :=
  ((plan m ok 0 c).before_in_eq_fetched 4 rfl (fun _ => rfl) (fun _ _ _ => rfl) (fun t => by unfold Dat.blockOf; rw [plan_A]; rfl) t d).trans (fetched_4 m ok c t d)

/-- The block index of a weight window is the block's expert. -/
theorem index1 (t : Fin (cfgT m ok).N) : ((cfgT m ok).win 1).index t = ![(now (experts m) (grid0.coords t)).toNat, 0, 0] := rfl
theorem index3 (t : Fin (cfgT m ok).N) : ((cfgT m ok).win 3).index t = ![(now (experts m) (grid0.coords t)).toNat, 0, 0] := rfl

theorem same_1 (c : Dev nD) (t u : Fin (cfgT m ok).N) (h : ((cfgT m ok).win 1).index t = ((cfgT m ok).win 1).index u) :
    iblk m ok c 1 t = iblk m ok c 1 u :=
  (fetched_1 m ok c t (iblk m ok c 1 t)).symm.trans
    (((plan m ok 0 c).fetched_congr 1 h rfl _).trans (fetched_1 m ok c u (iblk m ok c 1 t)))
theorem same_3 (c : Dev nD) (t u : Fin (cfgT m ok).N) (h : ((cfgT m ok).win 3).index t = ((cfgT m ok).win 3).index u) :
    iblk m ok c 3 t = iblk m ok c 3 u :=
  (fetched_3 m ok c t (iblk m ok c 3 t)).symm.trans
    (((plan m ok 0 c).fetched_congr 3 h rfl _).trans (fetched_3 m ok c u (iblk m ok c 3 t)))

/-- The scratch after the body at a point. -/
theorem carry (ord : Ordered m) (c : Dev nD) (t : Fin (cfgT m ok).N) (s : Vec F S1024x2048 .bf16) (s' : Vec F S1024x1024 .bf16)
    (H : ∀ u : Fin (cfgT m ok).N, u.val + 1 = t.val → k0_cond2 (now (counts m) (grid0.coords u)) = 1#1 →
      s = wide (iblk m ok c 1 u) ∧ s' = square (iblk m ok c 3 u))
    (hu : k0_cond2 (now (counts m) (grid0.coords t)) = 1#1) :
    (if fresh (experts m) (counts m) (grid0.coords t) = 1#1 then wide (iblk m ok c 1 t) else s) = wide (iblk m ok c 1 t)
    ∧ (if fresh (experts m) (counts m) (grid0.coords t) = 1#1 then square (iblk m ok c 3 t) else s') = square (iblk m ok c 3 t) := by
  by_cases hf : fresh (experts m) (counts m) (grid0.coords t) = 1#1
  · rw [if_pos hf, if_pos hf]; exact ⟨rfl, rfl⟩
  · rw [if_neg hf, if_neg hf]
    obtain ⟨h0, he⟩ := stays _ _ _ hu hf
    have ht : t.val ≠ 0 := fun h => h0 ((coords_val t).trans h)
    have hlt : t.val < 288 := by have := t.isLt; exact this.trans_eq N_0
    let u : Fin (cfgT m ok).N := ⟨t.val - 1, Nat.lt_of_le_of_lt (Nat.sub_le _ _) t.isLt⟩
    have hw : now (experts m) (grid0.coords t) = now (experts m) (grid0.coords u) := by
      rw [he, prev_eq]; exact (now_eq _ (u : Fin grid0.N)).symm
    have hused : k0_cond2 (now (counts m) (grid0.coords u)) = 1#1 := by
      rw [now_eq] at hu ⊢
      refine ord (t.val - 1) (by omega) ?_
      have : ∀ n (h : n < 288) (e : t.val = n), k0_cond2 (word (counts m) n h) = 1#1 := fun n h e => by subst e; exact hu
      exact this _ _ (by omega)
    obtain ⟨e1, e3⟩ := H u (Nat.succ_pred_eq_of_pos (Nat.pos_of_ne_zero ht)) hused
    refine ⟨e1.trans ?_, e3.trans ?_⟩
    · exact congrArg wide (same_1 m ok c u t (by rw [index1, index1, hw]))
    · exact congrArg square (same_3 m ok c u t (by rw [index3, index3, hw]))

end Cert.Kernel2Ideal.Expert

end
-- ==== Proof.Expert.Launch.lean ====
/- The run of the experts' kernel: it ends with its arrays as the pipeline composes them from the blocks, its arguments
   unchanged and every counter at zero. -/
module

public import proofs.«01_k».proof.Proof.Expert.Plan

@[expose] public section

set_option maxRecDepth 16384

noncomputable section

namespace Cert.Kernel2Ideal.Expert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (ok : ok0 (tabs m))

theorem hmain (𝒱₀ : Variants) : Pipeline.HMainP (Ix := Unit) (Name := ℕ) (U := UR sig nD τ) (Lvl := ℕ) (pcfgs (F := F)) 0 defs₀ 𝒱₀ m main (V m) :=
  Pipeline.hmainP_prefix pcfgs 0 defs₀ 𝒱₀ m main hostOps0 hostOps0_sub hostOps0_fresh main_chain

theorem plan_after0 (c : Dev nD) (t : Fin (cfgT m ok).N) : (plan m ok 0 c).after 0 t = iblk m ok c 0 t := rfl
theorem plan_after1 (c : Dev nD) (t : Fin (cfgT m ok).N) : (plan m ok 0 c).after 1 t = iblk m ok c 1 t := rfl
theorem plan_after2 (c : Dev nD) (t : Fin (cfgT m ok).N) : (plan m ok 0 c).after 2 t = iblk m ok c 2 t := rfl
theorem plan_after3 (c : Dev nD) (t : Fin (cfgT m ok).N) : (plan m ok 0 c).after 3 t = iblk m ok c 3 t := rfl
theorem plan_after4 (c : Dev nD) (t : Fin (cfgT m ok).N) : (plan m ok 0 c).after 4 t = iblk m ok c 4 t := rfl
theorem plan_after5 (c : Dev nD) (t : Fin (cfgT m ok).N) : (plan m ok 0 c).after 5 t = left m ok c t := rfl

abbrev ms0 (t : Fin (cfgT m ok).N) : Memref sig .tc .vmem S512x1024 .bf16 := spec0_0.stage ((cfgT m ok).slots t 0)
abbrev ms1 (t : Fin (cfgT m ok).N) : Memref sig .tc .vmem S1x1024x2048 .f32 := spec0_1.stage ((cfgT m ok).slots t 1)
abbrev ms2 (t : Fin (cfgT m ok).N) : Memref sig .tc .vmem S1x1x2048 .f32 := spec0_2.stage ((cfgT m ok).slots t 2)
abbrev ms3 (t : Fin (cfgT m ok).N) : Memref sig .tc .vmem S1x1024x1024 .f32 := spec0_3.stage ((cfgT m ok).slots t 3)
abbrev ms4 (t : Fin (cfgT m ok).N) : Memref sig .tc .vmem S1x1x1024 .f32 := spec0_4.stage ((cfgT m ok).slots t 4)
abbrev ms5 (t : Fin (cfgT m ok).N) : Memref sig .tc .vmem S512x1024 .bf16 := spec0_5.stage ((cfgT m ok).slots t 5)
abbrev hs0 (t : Fin (cfgT m ok).N) : (ms0 m ok t).IsWhole := hstage0_0 (((cfgT m ok).slots t 0).cast nbuf0_0)
abbrev hs1 (t : Fin (cfgT m ok).N) : (ms1 m ok t).IsWhole := hstage0_1 (((cfgT m ok).slots t 1).cast nbuf0_1)
abbrev hs2 (t : Fin (cfgT m ok).N) : (ms2 m ok t).IsWhole := hstage0_2 (((cfgT m ok).slots t 2).cast nbuf0_2)
abbrev hs3 (t : Fin (cfgT m ok).N) : (ms3 m ok t).IsWhole := hstage0_3 (((cfgT m ok).slots t 3).cast nbuf0_3)
abbrev hs4 (t : Fin (cfgT m ok).N) : (ms4 m ok t).IsWhole := hstage0_4 (((cfgT m ok).slots t 4).cast nbuf0_4)
abbrev hs5 (t : Fin (cfgT m ok).N) : (ms5 m ok t).IsWhole := hstage0_5 (((cfgT m ok).slots t 5).cast nbuf0_5)

/-- The kernel's body at point `t`. -/
abbrev bodyAt (t : Fin (cfgT m ok).N) : Prog (TpuEff nD τ sig (Elt F) Λ₀ .tc) PUnit :=
  cc0_expert (grid0.coords t) (Memref.whole main_arg1) (Memref.isWhole_whole _) (Memref.whole main_arg2) (Memref.isWhole_whole _)
    (ms0 m ok t) (hs0 m ok t) (ms1 m ok t) (hs1 m ok t) (ms2 m ok t) (hs2 m ok t) (ms3 m ok t) (hs3 m ok t) (ms4 m ok t) (hs4 m ok t)
    (ms5 m ok t) (hs5 m ok t) scM0 (Memref.isWhole_whole _) scM1 (Memref.isWhole_whole _)

theorem row_eq (t : Fin (cfgT m ok).N) :
    defs₀ (F := F) .tc (cfgT m ok).body ((cfgT m ok).bodyArgs t ((cfgT m ok).slots t)) = bodyAt m ok t := by
  unfold defs₀; rw [Defs.onTc_tc]

/-- The tables, each by its name. -/
theorem tables_eq (c : Dev nD) : (Pipeline.ΦT pre0 (tabs m) c : sProp 𝕄)
    = iprop(owns (c : Thread nD τ) (Memref.whole main_arg1) fullShare.right (experts m) ∗ owns (c : Thread nD τ) (Memref.whole main_arg2) fullShare.right (counts m)) := by
  unfold Pipeline.ΦT Pipeline.prefHeld
  rw [show (bigSep Finset.univ fun k : Fin pre0.K => iprop(((c.tc : Thread nD τ).loc (pre0.ref k)) ↦{fullShare.right} tabs m k) : sProp 𝕄)
    = iprop((((c.tc : Thread nD τ).loc main_arg1) ↦{fullShare.right} experts m) ∗ (((c.tc : Thread nD τ).loc main_arg2) ↦{fullShare.right} counts m))
    from bigSep_univ_eq_bigSepL [(0 : Fin 2), (1 : Fin 2)] (by decide) (by decide) _]
  rw [owns_whole, owns_whole]

theorem idle5 (t : Fin (cfgT m ok).N) : (cfgT m ok).idle 5 ((cfgT m ok).grid.coords t) = false := by
  show (!(k0_cond2 ((tabs m).atD 1 (k0_off1 (grid0.coords t))) == 1#1) && !(k0_cond3 ((tabs m).atD 1 (k0_off1 (grid0.coords t))) == 1#1)) = false
  generalize (tabs m).atD 1 (k0_off1 (grid0.coords t)) = v
  by_cases h : k0_cond2 v = 1#1
  · rw [h]; rfl
  · rw [cond3_of_not_cond2 v h]
    cases (k0_cond2 v == 1#1) <;> rfl

/-- What the body has at point `t`, window by window. -/
def given (c : Dev nD) (t : Fin (cfgT m ok).N) : sProp 𝕄 :=
  iprop((plan m ok 0 c).Φ t.castSucc ∗ (plan m ok 0 c).owesAt () t.castSucc
    ∗ (∃ d, owns (c : Thread nD τ) (ms0 m ok t) fullShare ((plan m ok 0 c).before 0 t d))
    ∗ (∃ d, owns (c : Thread nD τ) (ms1 m ok t) fullShare ((plan m ok 0 c).before 1 t d))
    ∗ (∃ d, owns (c : Thread nD τ) (ms2 m ok t) fullShare ((plan m ok 0 c).before 2 t d))
    ∗ (∃ d, owns (c : Thread nD τ) (ms3 m ok t) fullShare ((plan m ok 0 c).before 3 t d))
    ∗ (∃ d, owns (c : Thread nD τ) (ms4 m ok t) fullShare ((plan m ok 0 c).before 4 t d))
    ∗ (∃ d, owns (c : Thread nD τ) (ms5 m ok t) fullShare ((plan m ok 0 c).before 5 t d)))

/-- What the body gives back at point `t`, window by window. -/
def got (c : Dev nD) (t : Fin (cfgT m ok).N) : sProp 𝕄 :=
  iprop((plan m ok 0 c).Φ t.succ ∗ (plan m ok 0 c).owesAt () t.succ
    ∗ owns (c : Thread nD τ) (ms0 m ok t) fullShare ((plan m ok 0 c).after 0 t)
    ∗ owns (c : Thread nD τ) (ms1 m ok t) fullShare ((plan m ok 0 c).after 1 t)
    ∗ owns (c : Thread nD τ) (ms2 m ok t) fullShare ((plan m ok 0 c).after 2 t)
    ∗ owns (c : Thread nD τ) (ms3 m ok t) fullShare ((plan m ok 0 c).after 3 t)
    ∗ owns (c : Thread nD τ) (ms4 m ok t) fullShare ((plan m ok 0 c).after 4 t)
    ∗ owns (c : Thread nD τ) (ms5 m ok t) fullShare ((plan m ok 0 c).after 5 t))

/-- Under the order of the blocks, the body's output is the block's. -/
theorem left_eq (ord : Ordered m) (c : Dev nD) (t : Fin (cfgT m ok).N) (s : Vec F S1024x2048 .bf16) (s' : Vec F S1024x1024 .bf16)
    (H : ∀ u : Fin (cfgT m ok).N, u.val + 1 = t.val → k0_cond2 (now (counts m) (grid0.coords u)) = 1#1 →
      s = wide (iblk m ok c 1 u) ∧ s' = square (iblk m ok c 3 u)) :
    (if k0_cond2 (now (counts m) (grid0.coords t)) = 1#1 then
        fin (now (counts m) (grid0.coords t)) (iblk m ok c 0 t)
          (if fresh (experts m) (counts m) (grid0.coords t) = 1#1 then wide (iblk m ok c 1 t) else s) (iblk m ok c 2 t)
          (if fresh (experts m) (counts m) (grid0.coords t) = 1#1 then square (iblk m ok c 3 t) else s') (iblk m ok c 4 t)
      else none0) = left m ok c t := by
  unfold left
  by_cases hu : k0_cond2 (now (counts m) (grid0.coords t)) = 1#1
  · rw [if_pos hu, if_pos hu, (carry m ok ord c t s s' H hu).1, (carry m ok ord c t s s' H hu).2]
  · rw [if_neg hu, if_neg hu]

/-- The body at any grid point leaves the result of its block. -/
theorem body_at (ord : Ordered m) (c : Dev nD) (t : Fin (cfgT m ok).N) :
    given m ok c t ⊢ wp frame (wpE (defs₀ (F := F)) Variants.none c none) Set.univ (bodyAt m ok t) (fun _ => got m ok c t) := by
  unfold given got bodyAt
  simp only [plan_before0, plan_before1, plan_before2, plan_before3, plan_before4]
  rw [show (plan m ok 0 c).owesAt () t.succ = (plan m ok 0 c).owesAt () t.castSucc from rfl,
    plan_after0, plan_after1, plan_after2, plan_after3, plan_after4, plan_after5]
  rw [show (plan m ok 0 c).Φ t.castSucc = iprop(held m ok c t.val ∗ (∃ r, prngReg c r) ∗ Pipeline.ΦT pre0 (tabs m) c) from rfl,
    show (plan m ok 0 c).Φ t.succ = iprop(held m ok c (t.val + 1) ∗ (∃ r, prngReg c r) ∗ Pipeline.ΦT pre0 (tabs m) c) from rfl, tables_eq]
  unfold held
  iintro ⟨⟨⟨%s, %s', %H, HS0, HS1⟩, Hg, HT1, HT2⟩, Ho, ⟨%d0, H0⟩, ⟨%d1, H1⟩, ⟨%d2, H2⟩, ⟨%d3, H3⟩, ⟨%d4, H4⟩, ⟨%d5, H5⟩⟩
  iapply (body_run c (grid0.coords t) (Memref.whole main_arg1) (Memref.isWhole_whole _) (Memref.whole main_arg2) (Memref.isWhole_whole _)
    (ms0 m ok t) (hs0 m ok t) (ms1 m ok t) (hs1 m ok t) (ms2 m ok t) (hs2 m ok t) (ms3 m ok t) (hs3 m ok t) (ms4 m ok t) (hs4 m ok t)
    (ms5 m ok t) (hs5 m ok t) scM0 (Memref.isWhole_whole _) scM1 (Memref.isWhole_whole _) fullShare.right fullShare.right (experts m) (counts m)
    (iblk m ok c 0 t) (iblk m ok c 1 t) (iblk m ok c 2 t) (iblk m ok c 3 t) (iblk m ok c 4 t) s s' Set.univ _)
  isplitl [HT1]; · iexact HT1
  isplitl [HT2]; · iexact HT2
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  rw [left_eq m ok ord c t s s' H]
  iintro ⟨HT1, HT2, H0, H1, H2, H3, H4, H5, HS0, HS1⟩
  isplitl [HS0 HS1 Hg HT1 HT2]
  · isplitl [HS0 HS1]
    · iexists _, _
      isplitr
      · ipureintro
        intro u hu hc
        obtain rfl : u = t := Fin.ext (Nat.succ_injective hu)
        exact carry m ok ord c u s s' H hc
      isplitl [HS0]
      · iexact HS0
      iexact HS1
    isplitl [Hg]; · iexact Hg
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  iexact H5

/-- The pipeline's obligation on the body holds at every point. -/
theorem obligation (ord : Ordered m) (c : Dev nD) : BodyObligation (plan (F := F) m ok 0 c) (defs₀ (F := F)) Variants.none () Set.univ := fun t => by
  rw [bigSep_W0, bigSep_W0, row_eq, idle5]
  exact triple_restated (body_at m ok ord c t) rfl .rfl fun _ => .rfl

theorem before_first (c : Dev nD) :
    iprop(Pipeline.ΦA spec0 c ∗ Pipeline.ΦT pre0 (tabs m) c) ⊢ (plan m ok 0 c).Φ 0 := by
  rw [show (plan m ok 0 c).Φ 0 = iprop(held m ok c 0 ∗ (∃ r, prngReg c r) ∗ Pipeline.ΦT pre0 (tabs m) c) from rfl]
  unfold Pipeline.ΦA held
  rw [scopedRest0_eq]
  simp only [scM0, scM1, owns_whole]
  iintro ⟨⟨⟨⟨%f0, H0⟩, ⟨%f1, H1⟩⟩, Hg⟩, HT⟩
  isplitl [H0 H1]
  · iexists f0, f1
    isplitr
    · ipureintro; intro u hu; exact absurd hu (Nat.succ_ne_zero _)
    isplitl [H0]
    · iexact H0
    iexact H1
  isplitl [Hg]; · iexact Hg
  iexact HT

theorem after_last (c : Dev nD) : (plan m ok 0 c).Φ (Fin.last (cfgT m ok).N) ⊢ Pipeline.ΦA spec0 c := by
  rw [show (plan m ok 0 c).Φ (Fin.last (cfgT m ok).N) = iprop(held m ok c (cfgT m ok).N ∗ (∃ r, prngReg c r) ∗ Pipeline.ΦT pre0 (tabs m) c) from rfl]
  unfold Pipeline.ΦA held
  rw [scopedRest0_eq]
  simp only [scM0, scM1, owns_whole]
  iintro ⟨⟨%s, %s', -, H0, H1⟩, Hg, -⟩
  isplitl [H0 H1]
  · isplitl [H0]
    · iexists _; iexact H0
    iexists _; iexact H1
  iexact Hg

theorem tables_kept (c : Dev nD) (k : Fin pre0.K) : V m c (pre0.ref k) = tabs m k := by
  obtain rfl : c = 0 := Subsingleton.elim _ _
  match k with
  | ⟨0, _⟩ => exact V_kept m 0 main_arg1 (by decide) (by decide) (by decide)
  | ⟨1, _⟩ => exact V_kept m 0 main_arg2 (by decide) (by decide) (by decide)

set_option backward.isDefEq.respectTransparency.types false in
/-- Every run ends, with the arrays as the pipeline's data says and every counter at zero. -/
theorem launch (ord : Ordered m) : θ_run defs (onTc (τ := τ) (main (F := F))) (s₀ m ρ)
    (fun r => (Pipeline.FramePost (Pipeline.pin pcfgs (adm m ok)) (plan m ok) 0 (V m)) r ∧ r.2.sem = fun _ => 0) :=
  Pipeline.θ_run_frameP_track (Q' := _) pcfgs (adm m ok) (plan m ok) (0 : Fin 1) launch0 defs₀ Variants.none m ρ main
    (hbody := fun c => (obligation m ok ord c).loose) (hshare := fun c => (plan m ok 0 c).share_full fun _ => rfl)
    (howed := fun _ _ => rfl) (V := V m) (hmain := hmain m Variants.none) (hA := plan_A m ok) (hpf := tables_kept m)
    (hin := before_first m ok) (hout := after_last m ok)

theorem launch_post (ord : Ordered m) : θ_run defs (onTc (τ := τ) (main (F := F))) (s₀ m ρ) (Pipeline.FramePost (Pipeline.pin pcfgs (adm m ok)) (plan m ok) 0 (V m)) :=
  (θ_run defs _ _).mono (fun _ h => h.1) (launch m ρ ok ord)

include ok in
/-- Every run ends with the arguments unchanged and every counter at zero. -/
theorem quiet (ord : Ordered m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun r h => ⟨fun c => ?_, h.2⟩) (launch m ρ ok ord)
  have h := h.1
  have r0 : main_arg0 ∈ Pipeline.restRefs sig spec0 := Pipeline.mem_restRefs_of main_arg0 (by decide) (by decide)
  have r1 : main_arg1 ∈ Pipeline.restRefs sig spec0 := Pipeline.mem_restRefs_of main_arg1 (by decide) (by decide)
  have r2 : main_arg2 ∈ Pipeline.restRefs sig spec0 := Pipeline.mem_restRefs_of main_arg2 (by decide) (by decide)
  have r4 : main_arg4 ∈ Pipeline.restRefs sig spec0 := Pipeline.mem_restRefs_of main_arg4 (by decide) (by decide)
  have r6 : main_arg6 ∈ Pipeline.restRefs sig spec0 := Pipeline.mem_restRefs_of main_arg6 (by decide) (by decide)
  have k0 := V_kept m c main_arg0 (by decide) (by decide) (by decide)
  have k1 := V_kept m c main_arg1 (by decide) (by decide) (by decide)
  have k2 := V_kept m c main_arg2 (by decide) (by decide) (by decide)
  have k3 := V_kept m c main_arg3 (by decide) (by decide) (by decide)
  have k4 := V_kept m c main_arg4 (by decide) (by decide) (by decide)
  have k5 := V_kept m c main_arg5 (by decide) (by decide) (by decide)
  have k6 := V_kept m c main_arg6 (by decide) (by decide) (by decide)
  refine ⟨?_, ?_, ?_, ?_, ?_, ?_, ?_⟩
  · exact ((h c).2 main_arg0 r0).trans k0
  · exact ((h c).2 main_arg1 r1).trans k1
  · exact ((h c).2 main_arg2 r2).trans k2
  · exact (((h c).1 1).trans ((plan m ok 0 c).arrAt_in 1 rfl _)).trans ((plan_A m ok c 1).trans k3)
  · exact ((h c).2 main_arg4 r4).trans k4
  · exact (((h c).1 3).trans ((plan m ok 0 c).arrAt_in 3 rfl _)).trans ((plan_A m ok c 3).trans k5)
  · exact ((h c).2 main_arg6 r6).trans k6

end Cert.Kernel2Ideal.Expert

end
-- ==== Proof.Expert.Routed.lean ====
/- What the precondition on the routing's tables says: the experts are among the thirty-two, and the blocks in use come before
   the empty ones. -/
module

public import proofs.«01_k».proof.Pre_routed
public import proofs.«01_k».proof.Proof.Finite
public import Idealize.ShloMosaic.Lib.ReduceAll
public import Idealize.ShloMosaic.Lib.WordCmp
public import Idealize.ShloMosaic.Lib.Pointwise
public import Idealize.ShloMosaic.Lib.IdealHost

@[expose] public section

set_option maxRecDepth 16384

noncomputable section

namespace Cert.Routed

open Idealize.ShloMosaic Cert.Pre_routed

/-- The precondition's shape conditions. -/
theorem facts : Cert.Pre_routed.Facts where
  bcast_S_S288 := by decide
  reducesTo_S288_S_d0 := by decide
  h_S_ := by decide
  slices_S288_S287_0 := by decide
  bcast_S_S287 := by decide
  slices_S288_S287_1 := by decide
  reducesTo_S287_S_d0 := by decide

instance : Subsingleton S_.Idx := ⟨fun a b => funext fun i => absurd i.isLt (Nat.not_lt_zero _)⟩

/-- A word that as a signed number is from zero to below thirty-two is below thirty-two. -/
theorem small (w : BitVec 32) (h0 : IntOp.cmpi .sge w 0#32 = 1#1) (h1 : IntOp.cmpi .slt w 32#32 = 1#1) : w.toNat < 32 := by
  change BitVec.ofBool (decide ((0#32).toInt ≤ w.toInt)) = 1#1 at h0
  change BitVec.ofBool (decide (w.toInt < (32#32).toInt)) = 1#1 at h1
  have a0 : (0 : Int) ≤ w.toInt := by
    by_contra hn
    rw [show decide ((0#32).toInt ≤ w.toInt) = false from decide_eq_false (by simpa using hn)] at h0
    exact absurd h0 (by decide)
  have a1 : w.toInt < 32 := by
    by_contra hn
    rw [show decide (w.toInt < (32#32).toInt) = false from decide_eq_false (by simpa using hn)] at h1
    exact absurd h1 (by decide)
  rw [BitVec.toInt_eq_toNat_cond] at a0 a1
  have := w.isLt
  split at a0 <;> omega

/-- A positive word and a word that is not, at once. -/
theorem apart (w : BitVec 32) (h : IntOp.cmpi .sle w 0#32 = 1#1) : ¬ IntOp.cmpi .sgt w 0#32 = 1#1 := by
  change BitVec.ofBool (decide (w.toInt ≤ (0#32).toInt)) = 1#1 at h
  change ¬ BitVec.ofBool (decide ((0#32).toInt < w.toInt)) = 1#1
  intro g
  by_cases hw : w.toInt ≤ (0#32).toInt
  · rw [show decide ((0#32).toInt < w.toInt) = false from decide_eq_false (by omega)] at g
    exact absurd g (by decide)
  · rw [show decide (w.toInt ≤ (0#32).toInt) = false from decide_eq_false hw] at h
    exact absurd h (by decide)

theorem either : ∀ a b : BitVec 1, a ||| b = 1#1 → a = 1#1 ∨ b = 1#1 := by decide

section
variable {F : FTy → Type} [FloatOps F]
variable (x : FVec F S147456x1024 .f32) (e n : IVec S288 32) (w : FVec F S32x1024x2048 .f32) (b : FVec F S32x2048 .f32)
  (w' : FVec F S32x1024x1024 .f32) (b' : FVec F S32x1024 .f32)

theorem halves (h : @fn facts F _ x e n w b w' b' = fun _ => 1#1) :
    (∀ t : Fin 288, (e (ix1 t)).toNat < 32)
    ∧ ∀ (t : ℕ) (ht : t + 1 < 288), IntOp.cmpi .sgt (n (ix1 ⟨t + 1, ht⟩)) 0#32 = 1#1 → IntOp.cmpi .sgt (n (ix1 ⟨t, by omega⟩)) 0#32 = 1#1 := by
  haveI := facts
  obtain ⟨h1, h2⟩ := Cert.Finite.both _ _ (congrFun h ix0)
  refine ⟨fun t => ?_, fun t ht hs => ?_⟩
  · have a := Host.reduce_andi_all _ _ Facts.reducesTo_S288_S_d0 Facts.h_S_ _ h1 (ix1 t)
    obtain ⟨p, q⟩ := Cert.Finite.both _ _ a
    exact small _ p q
  · have a := Host.reduce_andi_all _ _ Facts.reducesTo_S287_S_d0 Facts.h_S_ _ h2 (ix1 ⟨t, by omega⟩)
    have e0 : extractStridedSlice S287 ![0] n Facts.slices_S288_S287_0 (ix1 (⟨t, by omega⟩ : Fin 287)) = n (ix1 ⟨t, by omega⟩) := by
      pointwise []
    have e1 : extractStridedSlice S287 ![1] n Facts.slices_S288_S287_1 (ix1 (⟨t, by omega⟩ : Fin 287)) = n (ix1 ⟨t + 1, ht⟩) := by
      refine congrArg n (funext fun i => Fin.ext ?_)
      fin_cases i
      show 1 + t = t + 1
      omega
    rcases either _ _ a with p | q
    · exact e0 ▸ p
    · exact absurd hs (apart _ (e1 ▸ q))
end

end Cert.Routed

end
-- ==== Proof.Expert.Admit.lean ====
/- Under the precondition the routing's tables are admitted: every expert's weights lie in the arrays, and the blocks in use
   come before the empty ones. -/
module

public import proofs.«01_k».proof.Proof.Expert.Launch
public import proofs.«01_k».proof.Proof.Expert.Routed

@[expose] public section

set_option maxRecDepth 16384

noncomputable section

namespace Cert.Kernel2Ideal.Expert

open Idealize.ShloMosaic Idealize.ShloMosaic.TcCoe Idealize.ShloMosaic.Tactic Idealize.SL.Sem
open Cert.Kernel2Ideal Cert.Kernel2Ideal.Gen

variable {F : FTy → Type} [FloatOps F]
variable (m : (ℓ : Loc nD τ sig) → Buf (Elt F) ℓ) (ρ : Dev nD → PrngReg)

/-- The precondition on an initial state. -/
abbrev Routed : Prop := ∀ c : Dev nD, @Cert.Pre_routed.fn Cert.Routed.facts F _ (m ((c.tc : Thread nD τ).loc main_arg0))
  (m ((c.tc : Thread nD τ).loc main_arg1)) (m ((c.tc : Thread nD τ).loc main_arg2)) (m ((c.tc : Thread nD τ).loc main_arg3))
  (m ((c.tc : Thread nD τ).loc main_arg4)) (m ((c.tc : Thread nD τ).loc main_arg5)) (m ((c.tc : Thread nD τ).loc main_arg6)) = fun _ => 1#1

theorem word_ix (T : Vec F S288 .i32) (n : ℕ) (h : n < 288) : word T n h = T (ix1 ⟨n, h⟩) := by
  unfold word
  refine congrArg T (funext fun a => ?_)
  match a with
  | ⟨0, _⟩ => rfl

/-- A block is in use when its count is positive. -/
theorem used_iff (w : BitVec 32) : k0_cond2 w = 1#1 ↔ IntOp.cmpi .sgt w 0#32 = 1#1 := by
  show (k0_cond2 w = 1#1) ↔ (Scalar.cmpi .sgt w 0#32 = 1#1)
  unfold k0_cond2
  dsimp only
  rcases bit_cases (Scalar.cmpi .sgt w 0#32) with h | h <;> rw [h] <;> decide

variable (h : Routed m)
include h

theorem expert_lt (i : grid0.Coords) : (now (experts m) i).toNat < 32 := by
  obtain ⟨t, rfl⟩ : ∃ t : Fin grid0.N, grid0.coords t = i := ⟨⟨(i 0).val, (i 0).isLt.trans_eq N_0.symm⟩, by
    funext a
    refine Fin.ext ?_
    match a with
    | ⟨0, _⟩ => exact coords_val _⟩
  rw [now_eq, word_ix]
  exact (Cert.Routed.halves _ _ _ _ _ _ _ (h 0)).1 _

theorem admitted : ok0 (tabs m) := by
  refine ⟨fun i => ⟨fun a => ?_, Or.inl rfl⟩, fun i => ⟨fun a => ?_, Or.inl rfl⟩, fun i => ⟨fun a => ?_, Or.inl rfl⟩, fun i => ⟨fun a => ?_, Or.inl rfl⟩⟩
  all_goals
    have e := expert_lt m h i
    match a with
    | ⟨0, _⟩ => show ((now (experts m) i).toNat + 1) * 1 ≤ 32; omega
    | ⟨1, _⟩ => exact Nat.le_of_eq (Nat.one_mul _)
    | ⟨2, _⟩ => exact Nat.le_of_eq (Nat.one_mul _)

theorem ordered : Ordered m := fun n hn hu => by
  rw [used_iff, word_ix] at hu ⊢
  exact (Cert.Routed.halves _ _ _ _ _ _ _ (h 0)).2 n hn hu

end Cert.Kernel2Ideal.Expert

end
-- ==== Proof.Expert.Formula.lean ====
/- The formula of a block of rows under its expert, over the extended reals: a linear layer, a gated activation and a second
   linear layer. Rows past the block's count are taken as zero, and an empty block's result is zero. -/
module

public import Idealize.ShloMosaic.Lib.Pointwise
public import Idealize.ShloMosaic.Lib.IdealHost

@[expose] public section

set_option maxRecDepth 16384

noncomputable section

namespace Cert.Expert

open Idealize.ShloMosaic

abbrev Rows := FVec Ideal ⟨2, ![147456, 1024]⟩ .f32
abbrev Words := IVec ⟨1, ![288]⟩ 32
abbrev Wide := FVec Ideal ⟨3, ![32, 1024, 2048]⟩ .f32
abbrev WideBias := FVec Ideal ⟨2, ![32, 2048]⟩ .f32
abbrev Square := FVec Ideal ⟨3, ![32, 1024, 1024]⟩ .f32
abbrev SquareBias := FVec Ideal ⟨2, ![32, 1024]⟩ .f32

/-- A row's entry, or zero when the row is not among the first `n`. -/
def kept (n : BitVec 32) (r : Fin 512) (v : EReal) : EReal := if IntOp.cmpi .slt (BitVec.ofNat 32 r.val) n = 1#1 then v else 0

/-- A linear layer. -/
def layer {K J : ℕ} (x : Fin K → EReal) (w : Fin K → Fin J → EReal) (b : Fin J → EReal) (j : Fin J) : EReal :=
  ∑ k : Fin K, x k * w k j + b j

/-- The gated activation. -/
def gate (h : Fin 2048 → EReal) (j : Fin 1024) : EReal :=
  (min (Ideal.ofBits .f32 0x40E00000#32) (max (Ideal.ofBits .f32 0xC0E00000#32) (h ⟨1024 + j.val, by omega⟩)) + 1)
    * (min (h ⟨j.val, by omega⟩) (Ideal.ofBits .f32 0x40E00000#32)
      * Ideal.logistic (Ideal.ofBits .f32 0x3FD9DB23#32 * min (h ⟨j.val, by omega⟩) (Ideal.ofBits .f32 0x40E00000#32)))

/-- A row's result. -/
def row (x : Fin 1024 → EReal) (w : Fin 1024 → Fin 2048 → EReal) (b : Fin 2048 → EReal) (w' : Fin 1024 → Fin 1024 → EReal)
    (b' : Fin 1024 → EReal) (d : Fin 1024) : EReal :=
  layer (gate (layer x w b)) w' b' d

/-- The expert of a block. -/
def pick (e : Words) (t : Fin 288) : Fin 32 := ⟨(e (ix1 t)).toNat % 32, Nat.mod_lt _ (by decide)⟩

/-- The whole result, at a block, a row of it and a column. -/
def entry (x : Rows) (e n : Words) (w : Wide) (b : WideBias) (w' : Square) (b' : SquareBias) (t : Fin 288) (r : Fin 512) (d : Fin 1024) : EReal :=
  if IntOp.cmpi .sgt (n (ix1 t)) 0#32 = 1#1 then
    row (fun k => kept (n (ix1 t)) r (x (ix2 ⟨512 * t.val + r.val, by omega⟩ k))) (fun k j => w (ix3 (pick e t) k j)) (fun j => b (ix2 (pick e t) j))
      (fun j d => w' (ix3 (pick e t) j d)) (fun d => b' (ix2 (pick e t) d)) d
  else 0

/-- The whole result. -/
def result (x : Rows) (e n : Words) (w : Wide) (b : WideBias) (w' : Square) (b' : SquareBias) : FVec Ideal ⟨2, ![147456, 1024]⟩ .bf16 :=
  fun i => entry x e n w b w' b' ⟨(i 0).val / 512, by have : (i 0).val < 147456 := (i 0).isLt; omega⟩ ⟨(i 0).val % 512, by omega⟩ (i 1)

end Cert.Expert

end
-- ==== Proof.Expert.Entry.lean ====
/- A block's result over the extended reals is the formula's. -/
module

public import proofs.«01_k».proof.Proof.Expert.Body
public import proofs.«01_k».proof.Proof.Expert.Formula

@[expose] public section

set_option maxRecDepth 16384

noncomputable section

namespace Cert.Kernel2Ideal.Expert

open Idealize.ShloMosaic Cert.Kernel2Ideal Cert.Kernel2Ideal.Gen Cert.Expert

theorem first_at (n : BitVec 32) (x : Vec Ideal S512x1024 .bf16) (s : Vec Ideal S1024x2048 .bf16) (b : Vec Ideal S1x1x2048 .f32) (r : Fin 512) (j : Fin 2048) :
    first n x s b (ix2 r j) = layer (fun k => kept n r (x (ix2 r k))) (fun k j => s (ix2 k j)) (fun j => b (ix3 0 0 j)) j := by
  pointwise [first, layer, kept]
  refine congrArg (fun z : EReal => z + b (ix3 0 0 j)) (Finset.sum_congr rfl fun k _ => ?_)
  unfold Scalar.select
  split
  · next h => rw [if_pos (show _ = 1#1 from h)]
  · next h => rw [if_neg (show ¬ _ = 1#1 from h), zero_mul]

theorem gated_at (h : FVec Ideal S512x2048 .f32) (r : Fin 512) (j : Fin 1024) :
    gated h (ix2 r j) = gate (fun j => h (ix2 r j)) j := by
  pointwise [gated, gate]

theorem fin_at (n : BitVec 32) (x : Vec Ideal S512x1024 .bf16) (s : Vec Ideal S1024x2048 .bf16) (b : Vec Ideal S1x1x2048 .f32)
    (s' : Vec Ideal S1024x1024 .bf16) (b' : Vec Ideal S1x1x1024 .f32) (r : Fin 512) (d : Fin 1024) :
    fin n x s b s' b' (ix2 r d) = row (fun k => kept n r (x (ix2 r k))) (fun k j => s (ix2 k j)) (fun j => b (ix3 0 0 j))
      (fun j d => s' (ix2 j d)) (fun d => b' (ix3 0 0 d)) d := by
  have h1 : ∀ j : Fin 1024, gated (first n x s b) (ix2 r j)
      = gate (layer (fun k => kept n r (x (ix2 r k))) (fun k j => s (ix2 k j)) (fun j => b (ix3 0 0 j))) j := fun j => by
    rw [gated_at]; simp only [first_at]
  unfold fin row
  generalize gated (first n x s b) = g at h1
  pointwise [layer, h1]

theorem wide_at (w : Vec Ideal S1x1024x2048 .f32) (k : Fin 1024) (j : Fin 2048) : wide w (ix2 k j) = w (ix3 0 k j) := by
  pointwise [wide]
theorem square_at (w : Vec Ideal S1x1024x1024 .f32) (k : Fin 1024) (j : Fin 1024) : square w (ix2 k j) = w (ix3 0 k j) := by
  pointwise [square]
theorem none_at (r : Fin 512) (d : Fin 1024) : (none0 : FVec Ideal S512x1024 .bf16) (ix2 r d) = (0 : EReal) := by
  pointwise [none0]

end Cert.Kernel2Ideal.Expert

end
-- ==== Proof.Expert.Blocks.lean ====
/- The experts' kernel's result over the extended reals: the formula of its blocks. -/
module

public import proofs.«01_k».proof.Proof.Expert.Admit
public import proofs.«01_k».proof.Proof.Expert.Entry
public import Idealize.ShloMosaic.Lib.Pipeline.ValueKit
public import Idealize.ShloMosaic.Lib.Tactic.ValueTie
public import Idealize.ShloMosaic.Lib.Pipeline.Covers

@[expose] public section

set_option maxRecDepth 16384

noncomputable section

namespace Cert.Kernel2Ideal.Expert

open Idealize.ShloMosaic Idealize.ShloMosaic.TcCoe Idealize.ShloMosaic.Tactic Idealize.SL.Sem
open Cert.Kernel2Ideal Cert.Kernel2Ideal.Gen Cert.Expert

variable (m : (ℓ : Loc nD τ sig) → Buf (Elt Ideal) ℓ) (ρ : Dev nD → PrngReg) (c : Dev nD)

/-- The rows of device `c`. -/
abbrev argX : Rows := m ((c.tc : Thread nD τ).loc main_arg0)
/-- The blocks' experts. -/
abbrev argE : Words := m ((c.tc : Thread nD τ).loc main_arg1)
/-- The blocks' counts. -/
abbrev argN : Words := m ((c.tc : Thread nD τ).loc main_arg2)
/-- The first layers' weights. -/
abbrev argW : Wide := m ((c.tc : Thread nD τ).loc main_arg3)
/-- The first layers' biases. -/
abbrev argB : WideBias := m ((c.tc : Thread nD τ).loc main_arg4)
/-- The second layers' weights. -/
abbrev argW' : Square := m ((c.tc : Thread nD τ).loc main_arg5)
/-- The second layers' biases. -/
abbrev argB' : SquareBias := m ((c.tc : Thread nD τ).loc main_arg6)

theorem entry_rows : (V m c main_v0 : FVec Ideal S147456x1024 .bf16) = truncf .bf16 (argX m c) bitsLt_bf16_f32 := by
  entry_read
  rfl
theorem entry_wide_bias : (V m c main_v1 : FVec Ideal S32x1x2048 .f32) = shapeCast S32x1x2048 (argB m c) shapeCasts_S32x2048_S32x1x2048 := by
  entry_read
  rfl
theorem entry_square_bias : (V m c main_v2 : FVec Ideal S32x1x1024 .f32) = shapeCast S32x1x1024 (argB' m c) shapeCasts_S32x1024_S32x1x1024 := by
  entry_read
  rfl

theorem rows_entry (i : Fin 147456) (k : Fin 1024) : (V m c main_v0 : FVec Ideal S147456x1024 .bf16) (ix2 i k) = argX m c (ix2 i k) := by
  rw [entry_rows]
  generalize argX m c = x
  pointwise
theorem wide_bias_entry (e : Fin 32) (j : Fin 2048) : (V m c main_v1 : FVec Ideal S32x1x2048 .f32) (ix3 e 0 j) = argB m c (ix2 e j) := by
  rw [entry_wide_bias]
  generalize argB m c = x
  pointwise
theorem square_bias_entry (e : Fin 32) (d : Fin 1024) : (V m c main_v2 : FVec Ideal S32x1x1024 .f32) (ix3 e 0 d) = argB' m c (ix2 e d) := by
  rw [entry_square_bias]
  generalize argB' m c = x
  pointwise

variable (h : Routed m)

/-- The block of a grid point. -/
abbrev blockOf (t : Fin grid0.N) : Fin 288 := ⟨t.val, lt_all t⟩

include h in
theorem pick_eq (t : Fin grid0.N) : (now (experts m) (grid0.coords t)).toNat = (pick (argE m 0) (blockOf t)).val := by
  show _ = (argE m 0 (ix1 (blockOf t))).toNat % 32
  have e := expert_lt m h (grid0.coords t)
  rw [now_eq, word_ix] at e ⊢
  exact (Nat.mod_eq_of_lt e).symm

variable (ok : ok0 (tabs m))

theorem index0 (t : Fin (cfgT m ok).N) : ((cfgT m ok).win 0).index t = ![t.val, 0] := by
  have e : ∀ t : Fin grid0.N, cc0_transform_0 (grid0.coords t) = ![t.val, 0] := by decide +kernel
  exact e t
theorem index5 (t : Fin (cfgT m ok).N) : ((cfgT m ok).win 5).index t = ![t.val, 0] := by
  have e : ∀ t : Fin grid0.N, cc0_transform_5 (grid0.coords t) = ![t.val, 0] := by decide +kernel
  exact e t
theorem index2 (t : Fin (cfgT m ok).N) : ((cfgT m ok).win 2).index t = ![(now (experts m) (grid0.coords t)).toNat, 0, 0] := rfl
theorem index4 (t : Fin (cfgT m ok).N) : ((cfgT m ok).win 4).index t = ![(now (experts m) (grid0.coords t)).toNat, 0, 0] := rfl

theorem block_rows (t : Fin (cfgT m ok).N) (r : Fin 512) (k : Fin 1024) :
    (iblk m ok c 0 t : Vec Ideal S512x1024 .bf16) (ix2 r k)
      = argX m c (ix2 ⟨512 * t.val + r.val, by have := lt_all t; omega⟩ k) := by
  rw [← rows_entry m c]
  blk_simp [iblk]
  refine congrArg (V m c main_v0 : FVec Ideal S147456x1024 .bf16) (funext fun a => Fin.ext ?_)
  fin_cases a
  · blk_simp [index0 m ok t]
    simp [Nat.mul_comm]
  · blk_simp [index0 m ok t]
    simp

include h in
theorem block_wide (t : Fin (cfgT m ok).N) (k : Fin 1024) (j : Fin 2048) :
    (iblk m ok c 1 t : Vec Ideal S1x1024x2048 .f32) (ix3 0 k j) = argW m c (ix3 (pick (argE m 0) (blockOf t)) k j) := by
  rw [← show V m c main_arg3 = argW m c from V_kept m c main_arg3 (by decide) (by decide) (by decide)]
  have e := pick_eq m h t
  blk_simp [iblk]
  refine congrArg (V m c main_arg3 : FVec Ideal S32x1024x2048 .f32) (funext fun a => Fin.ext ?_)
  fin_cases a
  · blk_simp [index1 m ok t]
    simp [e]
  · blk_simp [index1 m ok t]
    simp
  · blk_simp [index1 m ok t]
    simp

include h in
theorem block_square (t : Fin (cfgT m ok).N) (k : Fin 1024) (j : Fin 1024) :
    (iblk m ok c 3 t : Vec Ideal S1x1024x1024 .f32) (ix3 0 k j) = argW' m c (ix3 (pick (argE m 0) (blockOf t)) k j) := by
  rw [← show V m c main_arg5 = argW' m c from V_kept m c main_arg5 (by decide) (by decide) (by decide)]
  have e := pick_eq m h t
  blk_simp [iblk]
  refine congrArg (V m c main_arg5 : FVec Ideal S32x1024x1024 .f32) (funext fun a => Fin.ext ?_)
  fin_cases a
  · blk_simp [index3 m ok t]
    simp [e]
  · blk_simp [index3 m ok t]
    simp
  · blk_simp [index3 m ok t]
    simp

include h in
theorem block_wide_bias (t : Fin (cfgT m ok).N) (j : Fin 2048) :
    (iblk m ok c 2 t : Vec Ideal S1x1x2048 .f32) (ix3 0 0 j) = argB m c (ix2 (pick (argE m 0) (blockOf t)) j) := by
  rw [← wide_bias_entry m c]
  have e := pick_eq m h t
  blk_simp [iblk]
  refine congrArg (V m c main_v1 : FVec Ideal S32x1x2048 .f32) (funext fun a => Fin.ext ?_)
  fin_cases a
  · blk_simp [index2 m ok t]
    simp [e]
  · blk_simp [index2 m ok t]
  · blk_simp [index2 m ok t]
    simp

include h in
theorem block_square_bias (t : Fin (cfgT m ok).N) (j : Fin 1024) :
    (iblk m ok c 4 t : Vec Ideal S1x1x1024 .f32) (ix3 0 0 j) = argB' m c (ix2 (pick (argE m 0) (blockOf t)) j) := by
  rw [← square_bias_entry m c]
  have e := pick_eq m h t
  blk_simp [iblk]
  refine congrArg (V m c main_v2 : FVec Ideal S32x1x1024 .f32) (funext fun a => Fin.ext ?_)
  fin_cases a
  · blk_simp [index4 m ok t]
    simp [e]
  · blk_simp [index4 m ok t]
  · blk_simp [index4 m ok t]
    simp

/-- A block in use, entry by entry. -/
theorem fin_of (n : BitVec 32) (x : Vec Ideal S512x1024 .bf16) (w : Vec Ideal S1x1024x2048 .f32) (b : Vec Ideal S1x1x2048 .f32)
    (w' : Vec Ideal S1x1024x1024 .f32) (b' : Vec Ideal S1x1x1024 .f32) (r : Fin 512) (d : Fin 1024)
    (X : Fin 1024 → EReal) (W : Fin 1024 → Fin 2048 → EReal) (B : Fin 2048 → EReal) (W' : Fin 1024 → Fin 1024 → EReal) (B' : Fin 1024 → EReal)
    (hx : ∀ k, x (ix2 r k) = X k) (hw : ∀ k j, w (ix3 0 k j) = W k j) (hb : ∀ j, b (ix3 0 0 j) = B j)
    (hw' : ∀ j d, w' (ix3 0 j d) = W' j d) (hb' : ∀ d, b' (ix3 0 0 d) = B' d) :
    fin n x (wide w) b (square w') b' (ix2 r d) = row (fun k => kept n r (X k)) W B W' B' d := by
  rw [fin_at]
  simp only [wide_at, square_at, hx, hw, hb, hw', hb']

include h in
/-- A grid point's block of the result. -/
theorem left_at (t : Fin (cfgT m ok).N) (r : Fin 512) (d : Fin 1024) :
    left m ok c t (ix2 r d) = entry (argX m c) (argE m 0) (argN m 0) (argW m c) (argB m c) (argW' m c) (argB' m c) (blockOf t) r d := by
  have en : now (counts m) (grid0.coords t) = argN m 0 (ix1 (blockOf t)) := by
    rw [now_eq, word_ix]
    rfl
  unfold left entry
  by_cases hu : IntOp.cmpi .sgt (argN m 0 (ix1 (blockOf t))) 0#32 = 1#1
  · rw [if_pos ((used_iff _).2 (by rw [en]; exact hu)), if_pos hu, ← en]
    exact fin_of _ _ _ _ _ _ r d _ _ _ _ _ (fun k => block_rows m c ok t r k) (block_wide m c h ok t) (block_wide_bias m c h ok t)
      (block_square m c h ok t) (block_square_bias m c h ok t)
  · rw [if_neg (fun hn => hu (by rw [← en]; exact (used_iff _).1 hn)), if_neg hu]
    exact none_at r d

/-- The result array at a block's row. -/
theorem result_at (x : Rows) (e n : Words) (w : Wide) (b : WideBias) (w' : Square) (b' : SquareBias) (t : Fin 288) (r : Fin 512) (d : Fin 1024) :
    result x e n w b w' b' (ix2 ⟨512 * t.val + r.val, by omega⟩ d) = entry x e n w b w' b' t r d := by
  show entry x e n w b w' b' ⟨(512 * t.val + r.val) / 512, _⟩ ⟨(512 * t.val + r.val) % 512, _⟩ d = _
  rw [show (⟨(512 * t.val + r.val) / 512, by omega⟩ : Fin 288) = t from Fin.ext (by show (512 * t.val + r.val) / 512 = t.val; omega),
    show (⟨(512 * t.val + r.val) % 512, by omega⟩ : Fin 512) = r from Fin.ext (by show (512 * t.val + r.val) % 512 = r.val; omega)]

include h in
/-- A grid point's block of the result is the result array's. -/
theorem left_all (t : Fin (cfgT m ok).N) (z : S512x1024.Idx) (i : S147456x1024.Idx)
    (h0 : 512 * t.val + (z 0).val = (i 0).val) (h1 : (z 1).val = (i 1).val) :
    left m ok c t z = result (argX m c) (argE m 0) (argN m 0) (argW m c) (argB m c) (argW' m c) (argB' m c) i := by
  refine (congrArg (left m ok c t) (eq_ix2 (n0 := 512) (n1 := 1024) z)).trans ?_
  refine (left_at m c h ok t (z 0) (z 1)).trans ?_
  refine (result_at _ _ _ _ _ _ _ _ _ _).symm.trans ?_
  refine congrArg (result (argX m c) (argE m 0) (argN m 0) (argW m c) (argB m c) (argW' m c) (argB' m c)) (funext fun a => Fin.ext ?_)
  fin_cases a
  · exact h0
  · exact h1

include h in
/-- The result array after the run. -/
theorem result_eq : (plan m ok 0 c).arrAt 5 (cfgT m ok).N
    = result (argX m c) (argE m 0) (argN m 0) (argW m c) (argB m c) (argW' m c) (argB' m c) := by
  refine (plan m ok 0 c).arrAt_eq_of_covers 5 _ ?_ fun t hf y => ?_
  · refine Pipeline.Window.covers_of_index_surj _ rfl (fun a => ?_) fun β => ?_
    · match a with
      | ⟨0, _⟩ => exact (by decide : 0 < 512)
      | ⟨1, _⟩ => exact (by decide : 0 < 1024)
    · have z0 : 0 < ((cfgT m ok).win 5).shape.rank := (by decide : 0 < 2)
      have z1 : 1 < ((cfgT m ok).win 5).shape.rank := (by decide : 1 < 2)
      have n0 : ((cfgT m ok).win 5).nblk ⟨0, z0⟩ = 288 := (show (147456 + 512 - 1) / 512 = 288 by decide)
      have n1 : ((cfgT m ok).win 5).nblk ⟨1, z1⟩ = 1 := (show (1024 + 1024 - 1) / 1024 = 1 by decide)
      have b0 : (β ⟨0, z0⟩).val < 288 := (β ⟨0, z0⟩).isLt.trans_eq n0
      have b1 : (β ⟨1, z1⟩).val < 1 := (β ⟨1, z1⟩).isLt.trans_eq n1
      refine ⟨⟨(β ⟨0, z0⟩).val, b0.trans_eq N_0.symm⟩, fun a => ?_⟩
      rw [index5]
      match a with
      | ⟨0, _⟩ => rfl
      | ⟨1, _⟩ => exact (Nat.lt_one_iff.mp b1).symm
  blk_simp
  rw [plan_after5]
  refine left_all m c h ok t y _ ?_ ?_
  · blk_simp [index5 m ok t]
    simp [Nat.mul_comm]
  · blk_simp [index5 m ok t]

end Cert.Kernel2Ideal.Expert

end
-- ==== Proof.Expert.Taken.lean ====
/- A gather of whole slices along the first axis, read at an index: the slice the word names, when the word is within the
   axis. -/
module

public import Idealize.ShloMosaic.Lib.Pointwise
public import Idealize.ShloMosaic.Lib.IdealHost
public import Idealize.ShloMosaic.Lib.ValueIdxCore

@[expose] public section

set_option maxRecDepth 16384

noncomputable section

namespace Cert.Taken

open Idealize.ShloMosaic

variable {α : Type} {N A B C : ℕ}

/-- A word below the axis' length names its own place. -/
theorem place (w : BitVec 32) (h : w.toNat < 32) : min w.toInt.toNat 31 = w.toNat % 32 := by
  rw [BitVec.toInt_eq_toNat_cond]
  split <;> omega

abbrev dims3 (wf : GatherDims.WF ⟨3, ![N, A, B]⟩ ⟨2, ![C, 1]⟩ ⟨3, ![C, A, B]⟩ [1, 2] [0] [] [0] [] 1 ![1, A, B]) :
    GatherDims ⟨3, ![N, A, B]⟩ ⟨2, ![C, 1]⟩ ⟨3, ![C, A, B]⟩ where
  offsetDims := [1, 2]
  collapsedSliceDims := [0]
  operandBatchingDims := []
  startIndicesBatchingDims := []
  startIndexMap := [0]
  indexVectorDim := 1
  sliceSizes := ![1, A, B]
  wf := wf

abbrev dims2 (wf : GatherDims.WF ⟨2, ![N, A]⟩ ⟨2, ![C, 1]⟩ ⟨2, ![C, A]⟩ [1] [0] [] [0] [] 1 ![1, A]) :
    GatherDims ⟨2, ![N, A]⟩ ⟨2, ![C, 1]⟩ ⟨2, ![C, A]⟩ where
  offsetDims := [1]
  collapsedSliceDims := [0]
  operandBatchingDims := []
  startIndicesBatchingDims := []
  startIndexMap := [0]
  indexVectorDim := 1
  sliceSizes := ![1, A]
  wf := wf

theorem taken3 (hN : 0 < N) (wf : GatherDims.WF ⟨3, ![N, A, B]⟩ ⟨2, ![C, 1]⟩ ⟨3, ![C, A, B]⟩ [1, 2] [0] [] [0] [] 1 ![1, A, B])
    (x : (⟨3, ![N, A, B]⟩ : Shape).Idx → α) (idx : IVec ⟨2, ![C, 1]⟩ 32) (c : Fin C) (a : Fin A) (b : Fin B) :
    Host.gather (dims3 wf) x idx (ix3 c a b) = x (ix3 ⟨min (idx (ix2 c 0)).toInt.toNat (N - 1), by omega⟩ a b) := by
  unfold Host.gather
  congr 1
  funext i
  refine Fin.ext ?_
  show (dims3 wf).start (ix3 c a b) idx i + (dims3 wf).batchCoord (ix3 c a b) i + (dims3 wf).offCoord (ix3 c a b) i = _
  rw [GatherDims.batchCoord_eq_zero _ _ _ (fun h => by simp at h)]
  have h012 : i = 0 ∨ i = 1 ∨ i = 2 := by
    match i with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (dims3 wf).startIndexMap from List.mem_singleton.mpr rfl)]
    have hsi : (dims3 wf).siIdx (ix3 c a b) ⟨List.idxOf (0 : Fin 3) (dims3 wf).startIndexMap,
        List.idxOf_lt_length_iff.2 (List.mem_singleton.mpr rfl)⟩ = ix2 c 0 := by
      funext b; refine Fin.ext ?_
      match b with
      | ⟨0, _⟩ => rfl
      | ⟨1, _⟩ => rfl
    rw [hsi]
    rfl
  · unfold GatherDims.start
    rw [dif_neg (show ¬ (1 : Fin 3) ∈ (dims3 wf).startIndexMap from fun h => absurd (List.mem_singleton.mp h) (fun e => Nat.succ_ne_zero _ (congrArg Fin.val e)))]
    simp only [Nat.zero_add, Nat.add_zero]
    rfl
  · unfold GatherDims.start
    rw [dif_neg (show ¬ (2 : Fin 3) ∈ (dims3 wf).startIndexMap from fun h => absurd (List.mem_singleton.mp h) (fun e => Nat.succ_ne_zero _ (congrArg Fin.val e)))]
    simp only [Nat.zero_add, Nat.add_zero]
    rfl

theorem taken2 (hN : 0 < N) (wf : GatherDims.WF ⟨2, ![N, A]⟩ ⟨2, ![C, 1]⟩ ⟨2, ![C, A]⟩ [1] [0] [] [0] [] 1 ![1, A])
    (x : (⟨2, ![N, A]⟩ : Shape).Idx → α) (idx : IVec ⟨2, ![C, 1]⟩ 32) (c : Fin C) (a : Fin A) :
    Host.gather (dims2 wf) x idx (ix2 c a) = x (ix2 ⟨min (idx (ix2 c 0)).toInt.toNat (N - 1), by omega⟩ a) := by
  unfold Host.gather
  congr 1
  funext i
  refine Fin.ext ?_
  show (dims2 wf).start (ix2 c a) idx i + (dims2 wf).batchCoord (ix2 c a) i + (dims2 wf).offCoord (ix2 c a) i = _
  rw [GatherDims.batchCoord_eq_zero _ _ _ (fun h => by simp at h)]
  have h01 : i = 0 ∨ i = 1 := by
    match i with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims2 wf).startIndexMap from List.mem_singleton.mpr rfl)]
    have hsi : (dims2 wf).siIdx (ix2 c a) ⟨List.idxOf (0 : Fin 2) (dims2 wf).startIndexMap,
        List.idxOf_lt_length_iff.2 (List.mem_singleton.mpr rfl)⟩ = ix2 c 0 := by
      funext b; refine Fin.ext ?_
      match b with
      | ⟨0, _⟩ => rfl
      | ⟨1, _⟩ => rfl
    rw [hsi]
    rfl
  · unfold GatherDims.start
    rw [dif_neg (show ¬ (1 : Fin 2) ∈ (dims2 wf).startIndexMap from fun h => absurd (List.mem_singleton.mp h) (fun e => Nat.succ_ne_zero _ (congrArg Fin.val e)))]
    simp only [Nat.zero_add, Nat.add_zero]
    rfl

end Cert.Taken

end
-- ==== Proof.Expert.Plain.lean ====
/- The reference's composed term for the experts over the extended reals: it is the formula of the blocks. -/
module

public import proofs.«01_k».proof.Proof.Expert.Formula
public import proofs.«01_k».proof.Proof.Expert.Taken
public import proofs.«01_k».proof.Proof.Expert.Routed
public import proofs.«01_k».proof.Proof.Gen.Reference2Ideal.Run

@[expose] public section

set_option maxRecDepth 16384

noncomputable section

namespace Cert.Reference2Ideal.Expert

open Idealize.ShloMosaic Idealize.SL.Sem Cert.Reference2Ideal Cert.Reference2Ideal.Gen Cert.Expert

/-- The places the experts' slices are taken from. -/
def places (e : Words) : IVec S288x1 32 :=
  broadcastInDim S288x1 ![0] bcast_S288_S288x1_0 (select (cmpi .slt e (broadcastInDim S288 ![] bcast_S_S288 (constantI S_ 32 0#32)))
    (addi e (broadcastInDim S288 ![] bcast_S_S288 (constantI S_ 32 32#32))) e)

/-- The rows in use, by block. -/
def kept3 (x : Rows) (n : Words) : FVec Ideal S288x512x1024 .f32 :=
  select (broadcastInDim S288x512x1024 ![0, 1, 2] bcast_S288x512x1_S288x512x1024_0_1_2 (cmpi .slt (broadcastInDim S288x512x1 ![0, 1, 2] bcast_S1x512x1_S288x512x1_0_1_2 (broadcastInDim S1x512x1 ![1] bcast_S512_S1x512x1_1 (iotaInDim S512 32 0))) (broadcastInDim S288x512x1 ![0, 1, 2] bcast_S288x1x1_S288x512x1_0_1_2 (broadcastInDim S288x1x1 ![0] bcast_S288_S288x1x1_0 n)))) (shapeCast S288x512x1024 x shapeCasts_S147456x1024_S288x512x1024) (broadcastInDim S288x512x1024 ![] bcast_S_S288x512x1024 (constant S_ .f32 0x00000000#32))

/-- The first layer. -/
def wide3 (x : FVec Ideal S288x512x1024 .f32) (w : FVec Ideal S288x1024x2048 .f32) (b : FVec Ideal S288x2048 .f32) : FVec Ideal S288x512x2048 .f32 :=
  addf (Host.dotGeneral dot_S288x512x1024_S288x1024x2048_S288x512x2048_2_1_1_2_0_0 none x w) (broadcastInDim S288x512x2048 ![0, 1, 2] bcast_S288x1x2048_S288x512x2048_0_1_2 (broadcastInDim S288x1x2048 ![0, 2] bcast_S288x2048_S288x1x2048_0_2 b))

/-- The gated activation. -/
def gate3 (h : FVec Ideal S288x512x2048 .f32) : FVec Ideal S288x512x1024 .f32 :=
  mulf (addf (minimumf (broadcastInDim S288x512x1024 ![] bcast_S_S288x512x1024 (constant S_ .f32 0x40E00000#32)) (maximumf (broadcastInDim S288x512x1024 ![] bcast_S_S288x512x1024 (constant S_ .f32 0xC0E00000#32)) (extractStridedSlice S288x512x1024 ![0, 0, 1024] h slices_S288x512x2048_S288x512x1024_0_0_1024))) (broadcastInDim S288x512x1024 ![] bcast_S_S288x512x1024 (constant S_ .f32 0x3F800000#32)))
    (mulf (minimumf (extractStridedSlice S288x512x1024 ![0, 0, 0] h slices_S288x512x2048_S288x512x1024_0_0_0) (broadcastInDim S288x512x1024 ![] bcast_S_S288x512x1024 (constant S_ .f32 0x40E00000#32)))
      (Host.divf (broadcastInDim S288x512x1024 ![] bcast_S_S288x512x1024 (constant S_ .f32 0x3F800000#32)) (addf (broadcastInDim S288x512x1024 ![] bcast_S_S288x512x1024 (constant S_ .f32 0x3F800000#32)) (Host.exp (Host.negf (mulf (broadcastInDim S288x512x1024 ![] bcast_S_S288x512x1024 (constant S_ .f32 0x3FD9DB23#32)) (minimumf (extractStridedSlice S288x512x1024 ![0, 0, 0] h slices_S288x512x2048_S288x512x1024_0_0_0) (broadcastInDim S288x512x1024 ![] bcast_S_S288x512x1024 (constant S_ .f32 0x40E00000#32)))))))))

/-- The second layer, for the blocks in use. -/
def square3 (n : Words) (a : FVec Ideal S288x512x1024 .f32) (w : FVec Ideal S288x1024x1024 .f32) (b : FVec Ideal S288x1024 .f32) : FVec Ideal S147456x1024 .bf16 :=
  truncf .bf16 (shapeCast S147456x1024 (select (broadcastInDim S288x512x1024 ![0, 1, 2] bcast_S288x1x1_S288x512x1024_0_1_2 (cmpi .sgt (broadcastInDim S288x1x1 ![0] bcast_S288_S288x1x1_0 n) (broadcastInDim S288x1x1 ![] bcast_S_S288x1x1 (constantI S_ 32 0#32))))
    (addf (Host.dotGeneral dot_S288x512x1024_S288x1024x1024_S288x512x1024_2_1_1_2_0_0 none a w) (broadcastInDim S288x512x1024 ![0, 1, 2] bcast_S288x1x1024_S288x512x1024_0_1_2 (broadcastInDim S288x1x1024 ![0, 2] bcast_S288x1024_S288x1x1024_0_2 b)))
    (broadcastInDim S288x512x1024 ![] bcast_S_S288x512x1024 (constant S_ .f32 0x00000000#32))) shapeCasts_S288x512x1024_S147456x1024) bitsLt_bf16_f32

/-- The reference's operations. -/
def composed (x : Rows) (e n : Words) (w : Wide) (b : WideBias) (w' : Square) (b' : SquareBias) : FVec Ideal S147456x1024 .bf16 :=
  square3 n (gate3 (wide3 (kept3 x n) (Host.gather gather_S32x1024x2048_S288x1_S288x1024x2048_12_0_n_n_0_1_110242048 w (places e))
      (Host.gather gather_S32x2048_S288x1_S288x2048_1_0_n_n_0_1_12048 b (places e))))
    (Host.gather gather_S32x1024x1024_S288x1_S288x1024x1024_12_0_n_n_0_1_110241024 w' (places e))
    (Host.gather gather_S32x1024_S288x1_S288x1024_1_0_n_n_0_1_11024 b' (places e))

theorem composed_eq (m : (ℓ : Loc nD τ sig) → Buf (Elt Ideal) ℓ) (c : Dev nD) :
    Cert.Reference2Ideal.Value.res_main_v65 m c = composed (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := rfl

/-- A choice by a bit. -/
theorem choose (b : BitVec 1) (x y : EReal) : Scalar.select b x y = if b = 1#1 then x else y := rfl

theorem places_at (e : Words) (t : Fin 288) (h : (e (ix1 t)).toNat < 32) : places e (ix2 t 0) = e (ix1 t) := by
  have hn : ¬ IntOp.cmpi .slt (e (ix1 t)) 0#32 = 1#1 := by
    change ¬ BitVec.ofBool (decide ((e (ix1 t)).toInt < (0#32).toInt)) = 1#1
    rw [show decide ((e (ix1 t)).toInt < (0#32).toInt) = false from decide_eq_false (by
      rw [BitVec.toInt_eq_toNat_cond, if_pos (by omega)]
      simp)]
    decide
  pointwise [places]
  unfold Scalar.select
  exact if_neg hn

theorem kept3_at (x : Rows) (n : Words) (t : Fin 288) (r : Fin 512) (k : Fin 1024) :
    kept3 x n (ix3 t r k) = kept (n (ix1 t)) r (x (ix2 ⟨512 * t.val + r.val, by omega⟩ k)) := by
  pointwise [kept3, kept]
  rw [choose]
  have ea : (ix2 (⟨t.val * 512 + r.val, by omega⟩ : Fin 147456) k) = ix2 (⟨512 * t.val + r.val, by omega⟩ : Fin 147456) k :=
    congrArg (fun z => ix2 z k) (Fin.ext (by show t.val * 512 + r.val = 512 * t.val + r.val; omega))
  exact congrArg (fun z => if IntOp.cmpi .slt (BitVec.ofNat 32 r.val) (n (ix1 t)) = 1#1 then x z else 0) ea

theorem wide3_at (x : FVec Ideal S288x512x1024 .f32) (w : FVec Ideal S288x1024x2048 .f32) (b : FVec Ideal S288x2048 .f32)
    (t : Fin 288) (r : Fin 512) (j : Fin 2048) :
    wide3 x w b (ix3 t r j) = layer (fun k => x (ix3 t r k)) (fun k j => w (ix3 t k j)) (fun j => b (ix2 t j)) j := by
  pointwise [wide3, layer]

theorem gate3_at (h : FVec Ideal S288x512x2048 .f32) (t : Fin 288) (r : Fin 512) (j : Fin 1024) :
    gate3 h (ix3 t r j) = gate (fun j => h (ix3 t r j)) j := by
  pointwise [gate3, gate, Ideal.logistic]

theorem square3_at (n : Words) (a : FVec Ideal S288x512x1024 .f32) (w : FVec Ideal S288x1024x1024 .f32) (b : FVec Ideal S288x1024 .f32)
    (t : Fin 288) (r : Fin 512) (d : Fin 1024) :
    square3 n a w b (ix2 ⟨512 * t.val + r.val, by omega⟩ d) = if IntOp.cmpi .sgt (n (ix1 t)) 0#32 = 1#1 then
        layer (fun k => a (ix3 t r k)) (fun k j => w (ix3 t k j)) (fun j => b (ix2 t j)) d else 0 := by
  pointwise [square3, layer]
  rw [choose]

theorem gather_at {A B : ℕ} (wf : GatherDims.WF ⟨3, ![32, A, B]⟩ ⟨2, ![288, 1]⟩ ⟨3, ![288, A, B]⟩ [1, 2] [0] [] [0] [] 1 ![1, A, B])
    (x : (⟨3, ![32, A, B]⟩ : Shape).Idx → EReal) (e : Words) (t : Fin 288) (h : (e (ix1 t)).toNat < 32) (a : Fin A) (b : Fin B) :
    Host.gather (Cert.Taken.dims3 wf) x (places e) (ix3 t a b) = x (ix3 (pick e t) a b) := by
  rw [Cert.Taken.taken3 (by decide) wf]
  refine congrArg x ?_
  refine congrArg (fun z => ix3 z a b) (Fin.ext ?_)
  show min (places e (ix2 t 0)).toInt.toNat 31 = _
  rw [places_at e t h]
  exact Cert.Taken.place _ h

theorem gather_bias_at {A : ℕ} (wf : GatherDims.WF ⟨2, ![32, A]⟩ ⟨2, ![288, 1]⟩ ⟨2, ![288, A]⟩ [1] [0] [] [0] [] 1 ![1, A])
    (x : (⟨2, ![32, A]⟩ : Shape).Idx → EReal) (e : Words) (t : Fin 288) (h : (e (ix1 t)).toNat < 32) (a : Fin A) :
    Host.gather (Cert.Taken.dims2 wf) x (places e) (ix2 t a) = x (ix2 (pick e t) a) := by
  rw [Cert.Taken.taken2 (by decide) wf]
  refine congrArg x ?_
  refine congrArg (fun z => ix2 z a) (Fin.ext ?_)
  show min (places e (ix2 t 0)).toInt.toNat 31 = _
  rw [places_at e t h]
  exact Cert.Taken.place _ h

/-- The reference computes the formula. -/
theorem composed_result (x : Rows) (e n : Words) (w : Wide) (b : WideBias) (w' : Square) (b' : SquareBias)
    (h : ∀ t, (e (ix1 t)).toNat < 32) : composed x e n w b w' b' = result x e n w b w' b' := by
  have g1 : ∀ t a c, Host.gather gather_S32x1024x2048_S288x1_S288x1024x2048_12_0_n_n_0_1_110242048 w (places e) (ix3 t a c) = w (ix3 (pick e t) a c) :=
    fun t a c => gather_at _ w e t (h t) a c
  have g2 : ∀ t a, Host.gather gather_S32x2048_S288x1_S288x2048_1_0_n_n_0_1_12048 b (places e) (ix2 t a) = b (ix2 (pick e t) a) :=
    fun t a => gather_bias_at _ b e t (h t) a
  have g3 : ∀ t a c, Host.gather gather_S32x1024x1024_S288x1_S288x1024x1024_12_0_n_n_0_1_110241024 w' (places e) (ix3 t a c) = w' (ix3 (pick e t) a c) :=
    fun t a c => gather_at _ w' e t (h t) a c
  have g4 : ∀ t a, Host.gather gather_S32x1024_S288x1_S288x1024_1_0_n_n_0_1_11024 b' (places e) (ix2 t a) = b' (ix2 (pick e t) a) :=
    fun t a => gather_bias_at _ b' e t (h t) a
  have key : ∀ (t : Fin 288) (r : Fin 512) (d : Fin 1024),
      composed x e n w b w' b' (ix2 ⟨512 * t.val + r.val, by omega⟩ d) = entry x e n w b w' b' t r d := fun t r d => by
    unfold composed entry row
    rw [square3_at]
    simp only [gate3_at, wide3_at, kept3_at, g1, g2, g3, g4]
  funext i
  have h0 : (i 0).val < 147456 := (i 0).isLt
  have e1 := key ⟨(i 0).val / 512, by omega⟩ ⟨(i 0).val % 512, by omega⟩ (i 1)
  refine Eq.trans (congrArg (composed x e n w b w' b') ?_) e1
  funext a
  refine Fin.ext ?_
  match a with
  | ⟨0, _⟩ => exact (Nat.div_add_mod (i 0).val 512).symm
  | ⟨1, _⟩ => rfl

end Cert.Reference2Ideal.Expert

end
-- ==== Proof.Expert.Printed.lean ====
/- The printed experts' kernel and the one over the reals have the same text: what is proved of one for any float values is
   proved of the other. -/
module

public import proofs.«01_k».proof.Proof.Gen.Kernel2
public import proofs.«01_k».proof.Proof.Gen.Kernel2Ideal
public import proofs.«01_k».proof.Defs
public import proofs.«01_k».proof.Proof.Expert.Admit

@[expose] public section

set_option maxRecDepth 16384

noncomputable section

open Idealize.ShloMosaic Idealize.ShloMosaic.TcCoe Idealize.SL.Sem

namespace Cert.Kernel2.Expert

/-- The long part of the body is the same. -/
theorem part_eq : @Cert.Kernel2.k0_part1 Bits _ Cert.Kernel2.Gen.facts = @Cert.Kernel2Ideal.k0_part1 Bits _ Cert.Kernel2Ideal.Gen.facts := rfl

/-- The body is the same. -/
theorem expert_eq : @Cert.Kernel2.cc0_expert Bits _ Cert.Kernel2.Gen.facts = @Cert.Kernel2Ideal.cc0_expert Bits _ Cert.Kernel2Ideal.Gen.facts := rfl

theorem defs0_eq : Cert.Kernel2.defs₀ (F := Bits) = Cert.Kernel2Ideal.defs₀ (F := Bits) :=
  congrArg Defs.onTc (funext fun l => funext fun a => match l, a with
    | 0, (t, s) => rfl
    | ⟨_ + 1, h⟩, _ => absurd h (Nat.not_lt.2 (Nat.le_add_left _ _)))

/-- The labels' bodies are the same. -/
theorem defs_eq : Cert.Kernel2.defs (F := Bits) = Cert.Kernel2Ideal.defs (F := Bits) :=
  congrArg (Pipeline.defs (Cert.Kernel2Ideal.pcfgs (F := Bits))) defs0_eq

/-- The host's program is the same. -/
theorem main_eq : Cert.Kernel2.main (F := Bits) = Cert.Kernel2Ideal.main (F := Bits) := rfl

/-- Every run of the printed kernel ends with its arguments unchanged and every counter at zero. -/
theorem quiet : Cert.quiescent_Kernel2 (hKernel2 := Cert.Kernel2.Gen.facts) (hPre_routed := Cert.Routed.facts) := fun m ρ h => by
  rw [defs_eq, main_eq]
  exact Cert.Kernel2Ideal.Expert.quiet (F := Bits) m ρ (Cert.Kernel2Ideal.Expert.admitted (F := Bits) m h)
    (Cert.Kernel2Ideal.Expert.ordered (F := Bits) m h)

end Cert.Kernel2.Expert

end
-- ==== Proof.lean ====
/- The claims. About the attention: every run of the kernel and of the reference ends with its arguments unchanged and every
   counter at zero, the kernel over the reals differs from the printed one by the named constant alone, and for finite
   queries and keys it computes what the reference computes. About the experts: for routing tables as the precondition admits
   them every run of the kernel ends with its arguments unchanged and every counter at zero, so does every run of the
   reference, and the kernel computes what the reference computes. -/
module

public import proofs.«01_k».proof.Proof.Gen.Kernel2
public import proofs.«01_k».proof.Proof.Gen.Kernel2Ideal
public import proofs.«01_k».proof.Proof.Gen.Kernel2Ideal.Launch
public import proofs.«01_k».proof.Proof.Gen.Kernel2.Launch
public import proofs.«01_k».proof.Proof.Gen.Reference2Ideal
public import proofs.«01_k».proof.Proof.Gen.Reference2Ideal.Run
public import proofs.«01_k».proof.Defs
public import proofs.«01_k».proof.Proof.Plain.Launch
public import proofs.«01_k».proof.Proof.Result
public import proofs.«01_k».proof.Proof.Averaged
public import proofs.«01_k».proof.Proof.Finite
public import proofs.«01_k».proof.Proof.Gen.ReferenceIdeal.Run
public import proofs.«01_k».proof.Proof.Expert.Blocks
public import proofs.«01_k».proof.Proof.Expert.Plain
public import proofs.«01_k».proof.Proof.Expert.Printed

@[expose] public section

set_option maxRecDepth 16384

noncomputable section

open Idealize.ShloMosaic Idealize.ShloMosaic.TcCoe Idealize.SL.Sem

namespace Cert.KernelIdeal.Attn

open Cert.KernelIdeal Cert.KernelIdeal.Gen

/-- For real queries and keys every run ends with the attention formula in the result and the arguments unchanged. -/
theorem computes (m : (ℓ : Loc nD τ sig) → Buf (Elt Ideal) ℓ) (ρ : Dev nD → PrngReg)
    (hq : ∀ c i, ∃ r : ℝ, argQ m c i = (r : EReal)) (hx : ∀ c i, ∃ r : ℝ, argKx m c i = (r : EReal))
    (hy : ∀ c i, ∃ r : ℝ, argKy m c i = (r : EReal)) :
    θ_run (defs (F := Ideal)) (onTc (τ := τ) (main (F := Ideal))) ⟨m, fun _ => 0, ρ⟩ (fun r => ∀ c : Dev nD,
      r.2.mem ((c.tc : Thread nD τ).loc main_v21)
        = Cert.Average.attention (argQ m c) (argKx m c) (argKy m c) (argVx m c) (argVy m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨(Pipeline.FramePost.out_eq h.1 c 3).trans (result_eq m c (hq c) (hx c) (hy c)), h.2 c⟩)
    (θ_run_and (launch_post m ρ) (frame_of m ρ (plan m) (plan_A m) (launch_post m ρ)))

end Cert.KernelIdeal.Attn

namespace Cert.Proof

/-- Every run of the reference ends with its arguments unchanged and every counter at zero. -/
theorem reference_quiet : Cert.quiescent_ReferenceIdeal (hReferenceIdeal := Cert.ReferenceIdeal.Gen.facts) := fun m ρ _ =>
  (θ_run (Cert.ReferenceIdeal.defs (F := Ideal)) _ _).mono
    (fun r h => And.intro (fun c => (h c).2) (sem_eq_zero_of_no_sems (by decide) r.2))
    (Cert.ReferenceIdeal.Value.run (F := Ideal) m ρ)

/-- For finite queries and keys the kernel's result is the reference's. -/
theorem same : Cert.algebraic_KernelIdeal_ReferenceIdeal_pre_finite_scores (hKernelIdeal := Cert.KernelIdeal.Gen.facts)
    (hReferenceIdeal := Cert.ReferenceIdeal.Gen.facts) (hPre_finite_scores := Cert.Finite.facts) := by
  intro m ρ m' ρ' hpre hagree
  haveI := Cert.Finite.facts
  have hreal := fun c => Cert.Finite.real_of_pre (Cert.KernelIdeal.Attn.argQ m c) (Cert.KernelIdeal.Attn.argKx m c)
    (Cert.KernelIdeal.Attn.argKy m c) (Cert.KernelIdeal.Attn.argVx m c) (Cert.KernelIdeal.Attn.argVy m c) (hpre c)
  refine ⟨fun c => Cert.Average.attention (Cert.KernelIdeal.Attn.argQ m c) (Cert.KernelIdeal.Attn.argKx m c) (Cert.KernelIdeal.Attn.argKy m c)
    (Cert.KernelIdeal.Attn.argVx m c) (Cert.KernelIdeal.Attn.argVy m c),
    Cert.KernelIdeal.Attn.computes m ρ (fun c => (hreal c).1) (fun c => (hreal c).2.1) (fun c => (hreal c).2.2), ?_⟩
  refine (θ_run (Cert.ReferenceIdeal.defs (F := Ideal)) _ _).mono (fun r h c => ⟨(h c).1.trans ?_, (h c).2⟩)
    (Cert.ReferenceIdeal.Value.run (F := Ideal) m' ρ')
  obtain ⟨h0, h1, h2, h3, h4⟩ := hagree c
  rw [h0, h1, h2, h3, h4]
  exact Cert.ReferenceIdeal.Attn.averaged_eq (Cert.KernelIdeal.Attn.argQ m c) (Cert.KernelIdeal.Attn.argKx m c)
    (Cert.KernelIdeal.Attn.argKy m c) (Cert.KernelIdeal.Attn.argVx m c) (Cert.KernelIdeal.Attn.argVy m c)

/-- Every run of the experts' kernel ends with its arguments unchanged and every counter at zero. -/
theorem experts_quiet : Cert.quiescent_Kernel2Ideal (hKernel2Ideal := Cert.Kernel2Ideal.Gen.facts) (hPre_routed := Cert.Routed.facts) :=
  fun m ρ h => Cert.Kernel2Ideal.Expert.quiet m ρ (Cert.Kernel2Ideal.Expert.admitted m h) (Cert.Kernel2Ideal.Expert.ordered m h)

/-- Every run of the experts' reference ends with its arguments unchanged and every counter at zero. -/
theorem experts_reference_quiet : Cert.quiescent_Reference2Ideal (hReference2Ideal := Cert.Reference2Ideal.Gen.facts) := fun m ρ _ =>
  (θ_run (Cert.Reference2Ideal.defs (F := Ideal)) _ _).mono
    (fun r h => And.intro (fun c => (h c).2) (sem_eq_zero_of_no_sems (by decide) r.2))
    (Cert.Reference2Ideal.Value.run (F := Ideal) m ρ)

open Cert.Kernel2Ideal.Expert in
/-- For admitted routing tables the experts' kernel's result is the reference's. -/
theorem experts_same : Cert.algebraic_Kernel2Ideal_Reference2Ideal (hKernel2Ideal := Cert.Kernel2Ideal.Gen.facts)
    (hReference2Ideal := Cert.Reference2Ideal.Gen.facts) (hPre_routed := Cert.Routed.facts) := by
  intro m ρ m' ρ' hpre hagree
  have h : Routed m := hpre
  have ok := admitted m h
  refine ⟨fun c => Cert.Expert.result (argX m c) (argE m 0) (argN m 0) (argW m c) (argB m c) (argW' m c) (argB' m c), ?_, ?_⟩
  · exact (θ_run _ _ _).mono (fun r k c => ⟨(Pipeline.FramePost.out_eq k.1 c 5).trans (result_eq m c h ok), k.2.1 c⟩)
      (θ_run_and (launch_post m ρ ok (ordered m h)) (quiet m ρ ok (ordered m h)))
  · refine (θ_run (Cert.Reference2Ideal.defs (F := Ideal)) _ _).mono (fun r k c => ⟨(k c).1.trans ?_, (k c).2⟩)
      (Cert.Reference2Ideal.Value.run (F := Ideal) m' ρ')
    obtain rfl : c = 0 := Subsingleton.elim _ _
    obtain ⟨h0, h1, h2, h3, h4, h5, h6⟩ := hagree 0
    refine (Cert.Reference2Ideal.Expert.composed_eq m' 0).trans ?_
    rw [h0, h1, h2, h3, h4, h5, h6]
    exact Cert.Reference2Ideal.Expert.composed_result (argX m 0) (argE m 0) (argN m 0) (argW m 0) (argB m 0) (argW' m 0) (argB' m 0)
      (Cert.Routed.halves _ _ _ _ _ _ _ (h 0)).1

/-- Everything that is claimed. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Finite.facts, Cert.Routed.facts,
    fun m ρ _ => Cert.Kernel.Attn.quiet m ρ, fun m ρ _ => Cert.KernelIdeal.Attn.quiet m ρ, fun m ρ _ => Cert.KernelIdeal.Attn.quiet m ρ,
    reference_quiet, fun m ρ _ => reference_quiet m ρ trivial,
    Cert.Kernel2.Expert.quiet, experts_quiet, experts_reference_quiet, fun m ρ _ => experts_reference_quiet m ρ trivial,
    IdealRules.named_const.statement Cert.KernelIdeal.κ "qscale" .f32 0x3E38AA3B#32 (((8 * (Real.log 2))⁻¹ : ℝ) : EReal) rfl, same,
    trivial, experts_same⟩

end Cert.Proof

end
